-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29))
      ∧ r.2.sem = fun _ => 0)

def preserves_Kernel_KernelIdeal : Prop :=
  IdealRules.named_const.Statement Cert.KernelIdeal.κ "inv31" .f32 0x3D042108#32 ((1 / 31 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)) →
    ∃ (v0 : (c : Dev Cert.KernelIdeal.nD) → Buf (Elt Ideal) ((c.tc : Thread Cert.KernelIdeal.nD Cert.KernelIdeal.τ).loc Cert.KernelIdeal.main_v27_0)) (v1 : (c : Dev Cert.KernelIdeal.nD) → Buf (Elt Ideal) ((c.tc : Thread Cert.KernelIdeal.nD Cert.KernelIdeal.τ).loc Cert.KernelIdeal.main_v27_1)) (v2 : (c : Dev Cert.KernelIdeal.nD) → Buf (Elt Ideal) ((c.tc : Thread Cert.KernelIdeal.nD Cert.KernelIdeal.τ).loc Cert.KernelIdeal.main_v27_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27_0) = v0 c
          ∧ r.2.mem ((c.tc : Thread Cert.KernelIdeal.nD Cert.KernelIdeal.τ).loc Cert.KernelIdeal.main_v27_1) = v1 c
          ∧ r.2.mem ((c.tc : Thread Cert.KernelIdeal.nD Cert.KernelIdeal.τ).loc Cert.KernelIdeal.main_v27_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v128) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x32x32x8 : Shape := ⟨4, ![2, 32, 32, 8]⟩
abbrev S2x32x32x16 : Shape := ⟨4, ![2, 32, 32, 16]⟩
abbrev S2x1024x32x128 : Shape := ⟨4, ![2, 1024, 32, 128]⟩
abbrev S2x32x32x128 : Shape := ⟨4, ![2, 32, 32, 128]⟩
abbrev S128x35 : Shape := ⟨2, ![128, 35]⟩
abbrev S128 : Shape := ⟨1, ![128]⟩
abbrev S128x128 : Shape := ⟨2, ![128, 128]⟩
abbrev S128x384 : Shape := ⟨2, ![128, 384]⟩
abbrev S384x128 : Shape := ⟨2, ![384, 128]⟩
abbrev S384 : Shape := ⟨1, ![384]⟩
abbrev S4x128 : Shape := ⟨2, ![4, 128]⟩
abbrev S4 : Shape := ⟨1, ![4]⟩
abbrev S256x256 : Shape := ⟨2, ![256, 256]⟩
abbrev S256 : Shape := ⟨1, ![256]⟩
abbrev S4x256 : Shape := ⟨2, ![4, 256]⟩
abbrev S_ : Shape := ⟨0, ![]⟩

class Facts : Prop where
  reducesTo_S2x32x32x8_S_d0_1_2_3 : S2x32x32x8.ReducesTo [0, 1, 2, 3] S_
  h_S_ : 0 < S_.numel

variable [Facts]

def fn {F : FTy → Type} [FloatOps F] (main_arg0 : FVec F S2x32x32x8 .f32) (main_arg1 : FVec F S2x32x32x16 .f32) (main_arg2 : FVec F S2x1024x32x128 .f32) (main_arg3 : FVec F S2x32x32x128 .f32) (main_arg4 : FVec F S128x35 .f32) (main_arg5 : FVec F S128 .f32) (main_arg6 : FVec F S128x128 .f32) (main_arg7 : FVec F S128 .f32) (main_arg8 : FVec F S128x128 .f32) (main_arg9 : FVec F S128 .f32) (main_arg10 : FVec F S128x384 .f32) (main_arg11 : FVec F S128 .f32) (main_arg12 : FVec F S128x128 .f32) (main_arg13 : FVec F S128 .f32) (main_arg14 : FVec F S384x128 .f32) (main_arg15 : FVec F S384x128 .f32) (main_arg16 : FVec F S384 .f32) (main_arg17 : FVec F S384 .f32) (main_arg18 : FVec F S384x128 .f32) (main_arg19 : FVec F S384x128 .f32) (main_arg20 : FVec F S384 .f32) (main_arg21 : FVec F S384 .f32) (main_arg22 : FVec F S128x128 .f32) (main_arg23 : FVec F S128 .f32) (main_arg24 : FVec F S4x128 .f32) (main_arg25 : FVec F S4 .f32) (main_arg26 : FVec F S256x256 .f32) (main_arg27 : FVec F S256 .f32) (main_arg28 : FVec F S4x256 .f32) (main_arg29 : FVec F S4 .f32) : IVec S_ 1 :=
  let main_v0 : FVec F S2x32x32x8 .f32 := Host.absf main_arg0
  let main_cst : FVec F S_ .f32 := constant S_ .f32 0xFF800000#32
  let main_v1 : FVec F S_ .f32 := (fun x v => Host.reduce FloatOps.maximumf x v reducesTo_S2x32x32x8_S_d0_1_2_3 h_S_) main_v0 main_cst
  let main_cst_0 : FVec F S_ .f32 := constant S_ .f32 0x7F7FFFFF#32
  let main_v2 : IVec S_ 1 := cmpf .ole main_v1 main_cst_0
  main_v2
-- ==== Kernel.lean ====
abbrev S2x32x32x8 : Shape := ⟨4, ![2, 32, 32, 8]⟩
abbrev S2x32x32x16 : Shape := ⟨4, ![2, 32, 32, 16]⟩
abbrev S2x1024x32x128 : Shape := ⟨4, ![2, 1024, 32, 128]⟩
abbrev S2x32x32x128 : Shape := ⟨4, ![2, 32, 32, 128]⟩
abbrev S128x35 : Shape := ⟨2, ![128, 35]⟩
abbrev S128 : Shape := ⟨1, ![128]⟩
abbrev S128x128 : Shape := ⟨2, ![128, 128]⟩
abbrev S128x384 : Shape := ⟨2, ![128, 384]⟩
abbrev S384x128 : Shape := ⟨2, ![384, 128]⟩
abbrev S384 : Shape := ⟨1, ![384]⟩
abbrev S4x128 : Shape := ⟨2, ![4, 128]⟩
abbrev S4 : Shape := ⟨1, ![4]⟩
abbrev S256x256 : Shape := ⟨2, ![256, 256]⟩
abbrev S256 : Shape := ⟨1, ![256]⟩
abbrev S4x256 : Shape := ⟨2, ![4, 256]⟩
abbrev S35x128 : Shape := ⟨2, ![35, 128]⟩
abbrev S1x128 : Shape := ⟨2, ![1, 128]⟩
abbrev S1x384 : Shape := ⟨2, ![1, 384]⟩
abbrev S128x4 : Shape := ⟨2, ![128, 4]⟩
abbrev S1x4 : Shape := ⟨2, ![1, 4]⟩
abbrev S1x256 : Shape := ⟨2, ![1, 256]⟩
abbrev S256x4 : Shape := ⟨2, ![256, 4]⟩
abbrev S2x32x1024x4 : Shape := ⟨4, ![2, 32, 1024, 4]⟩
abbrev S2x1024x128 : Shape := ⟨3, ![2, 1024, 128]⟩
abbrev S1x256x32x128 : Shape := ⟨4, ![1, 256, 32, 128]⟩
abbrev S1x32x32x128 : Shape := ⟨4, ![1, 32, 32, 128]⟩
abbrev S1x32x32x8 : Shape := ⟨4, ![1, 32, 32, 8]⟩
abbrev S1x32x32x16 : Shape := ⟨4, ![1, 32, 32, 16]⟩
abbrev S1x32x256x4 : Shape := ⟨4, ![1, 32, 256, 4]⟩
abbrev S1x256x128 : Shape := ⟨3, ![1, 256, 128]⟩
abbrev S32x256x128 : Shape := ⟨3, ![32, 256, 128]⟩
abbrev S32x256x384 : Shape := ⟨3, ![32, 256, 384]⟩
abbrev S32x32x128 : Shape := ⟨3, ![32, 32, 128]⟩
abbrev S32x32x8 : Shape := ⟨3, ![32, 32, 8]⟩
abbrev S32x32x16 : Shape := ⟨3, ![32, 32, 16]⟩
abbrev S32x32x2 : Shape := ⟨3, ![32, 32, 2]⟩
abbrev S32x32x1 : Shape := ⟨3, ![32, 32, 1]⟩
abbrev S32x2 : Shape := ⟨2, ![32, 2]⟩
abbrev S1x32x2 : Shape := ⟨3, ![1, 32, 2]⟩
abbrev S32x1 : Shape := ⟨2, ![32, 1]⟩
abbrev S1x32x1 : Shape := ⟨3, ![1, 32, 1]⟩
abbrev S32x32x9 : Shape := ⟨3, ![32, 32, 9]⟩
abbrev S32x32x35 : Shape := ⟨3, ![32, 32, 35]⟩
abbrev S1024x35 : Shape := ⟨2, ![1024, 35]⟩
abbrev S1024x128 : Shape := ⟨2, ![1024, 128]⟩
abbrev S8x32x128 : Shape := ⟨3, ![8, 32, 128]⟩
abbrev S8x1x32x128 : Shape := ⟨4, ![8, 1, 32, 128]⟩
abbrev S256x32x128 : Shape := ⟨3, ![256, 32, 128]⟩
abbrev S8192x128 : Shape := ⟨2, ![8192, 128]⟩
abbrev S8x32x32x128 : Shape := ⟨4, ![8, 32, 32, 128]⟩
abbrev S1x1x1x128 : Shape := ⟨4, ![1, 1, 1, 128]⟩
abbrev S32x8x32x128 : Shape := ⟨4, ![32, 8, 32, 128]⟩
abbrev S8192x384 : Shape := ⟨2, ![8192, 384]⟩
abbrev S256x128 : Shape := ⟨2, ![256, 128]⟩
abbrev S1x256x384 : Shape := ⟨3, ![1, 256, 384]⟩
abbrev S256x384 : Shape := ⟨2, ![256, 384]⟩
abbrev S8x256x128 : Shape := ⟨3, ![8, 256, 128]⟩
abbrev S2048x128 : Shape := ⟨2, ![2048, 128]⟩
abbrev S2048x4 : Shape := ⟨2, ![2048, 4]⟩
abbrev S8x256x4 : Shape := ⟨3, ![8, 256, 4]⟩
abbrev S1x8x256x4 : Shape := ⟨4, ![1, 8, 256, 4]⟩
abbrev S2048x256 : Shape := ⟨2, ![2048, 256]⟩

abbrev nBuf : Space → Nat
  | .hbm => 60
  | .vmem => 45
  | .smem => 0
  | _ => 0

abbrev bufTy : (tb : Table) → Fin (tcTables nBuf tb) → BufTy
  | .hbm, ⟨0, _⟩ => ⟨S2x32x32x8, .f32⟩
  | .hbm, ⟨1, _⟩ => ⟨S2x32x32x16, .f32⟩
  | .hbm, ⟨2, _⟩ => ⟨S2x1024x32x128, .f32⟩
  | .hbm, ⟨3, _⟩ => ⟨S2x32x32x128, .f32⟩
  | .hbm, ⟨4, _⟩ => ⟨S128x35, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x384, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S384x128, .f32⟩
  | .hbm, ⟨15, _⟩ => ⟨S384x128, .f32⟩
  | .hbm, ⟨16, _⟩ => ⟨S384, .f32⟩
  | .hbm, ⟨17, _⟩ => ⟨S384, .f32⟩
  | .hbm, ⟨18, _⟩ => ⟨S384x128, .f32⟩
  | .hbm, ⟨19, _⟩ => ⟨S384x128, .f32⟩
  | .hbm, ⟨20, _⟩ => ⟨S384, .f32⟩
  | .hbm, ⟨21, _⟩ => ⟨S384, .f32⟩
  | .hbm, ⟨22, _⟩ => ⟨S128x128, .f32⟩
  | .hbm, ⟨23, _⟩ => ⟨S128, .f32⟩
  | .hbm, ⟨24, _⟩ => ⟨S4x128, .f32⟩
  | .hbm, ⟨25, _⟩ => ⟨S4, .f32⟩
  | .hbm, ⟨26, _⟩ => ⟨S256x256, .f32⟩
  | .hbm, ⟨27, _⟩ => ⟨S256, .f32⟩
  | .hbm, ⟨28, _⟩ => ⟨S4x256, .f32⟩
  | .hbm, ⟨29, _⟩ => ⟨S4, .f32⟩
  | .hbm, ⟨30, _⟩ => ⟨S2x32x32x8, .f32⟩
  | .hbm, ⟨31, _⟩ => ⟨S35x128, .f32⟩
  | .hbm, ⟨32, _⟩ => ⟨S1x128, .f32⟩
  | .hbm, ⟨33, _⟩ => ⟨S128x128, .f32⟩
  | .hbm, ⟨34, _⟩ => ⟨S1x128, .f32⟩
  | .hbm, ⟨35, _⟩ => ⟨S128x128, .f32⟩
  | .hbm, ⟨36, _⟩ => ⟨S1x128, .f32⟩
  | .hbm, ⟨37, _⟩ => ⟨S384x128, .f32⟩
  | .hbm, ⟨38, _⟩ => ⟨S1x128, .f32⟩
  | .hbm, ⟨39, _⟩ => ⟨S128x128, .f32⟩
  | .hbm, ⟨40, _⟩ => ⟨S1x128, .f32⟩
  | .hbm, ⟨41, _⟩ => ⟨S128x384, .f32⟩
  | .hbm, ⟨42, _⟩ => ⟨S128x384, .f32⟩
  | .hbm, ⟨43, _⟩ => ⟨S1x384, .f32⟩
  | .hbm, ⟨44, _⟩ => ⟨S1x384, .f32⟩
  | .hbm, ⟨45, _⟩ => ⟨S128x384, .f32⟩
  | .hbm, ⟨46, _⟩ => ⟨S128x384, .f32⟩
  | .hbm, ⟨47, _⟩ => ⟨S1x384, .f32⟩
  | .hbm, ⟨48, _⟩ => ⟨S1x384, .f32⟩
  | .hbm, ⟨49, _⟩ => ⟨S128x128, .f32⟩
  | .hbm, ⟨50, _⟩ => ⟨S1x128, .f32⟩
  | .hbm, ⟨51, _⟩ => ⟨S128x4, .f32⟩
  | .hbm, ⟨52, _⟩ => ⟨S1x4, .f32⟩
  | .hbm, ⟨53, _⟩ => ⟨S256x256, .f32⟩
  | .hbm, ⟨54, _⟩ => ⟨S1x256, .f32⟩
  | .hbm, ⟨55, _⟩ => ⟨S256x4, .f32⟩
  | .hbm, ⟨56, _⟩ => ⟨S1x4, .f32⟩
  | .hbm, ⟨57, _⟩ => ⟨S2x32x1024x4, .f32⟩
  | .hbm, ⟨58, _⟩ => ⟨S2x32x1024x4, .f32⟩
  | .hbm, ⟨59, _⟩ => ⟨S2x1024x128, .f32⟩
  | .local _ .vmem, ⟨0, _⟩ => ⟨S1x256x32x128, .f32⟩
  | .local _ .vmem, ⟨1, _⟩ => ⟨S1x256x32x128, .f32⟩
  | .local _ .vmem, ⟨2, _⟩ => ⟨S1x32x32x128, .f32⟩
  | .local _ .vmem, ⟨3, _⟩ => ⟨S1x32x32x128, .f32⟩
  | .local _ .vmem, ⟨4, _⟩ => ⟨S1x32x32x8, .f32⟩
  | .local _ .vmem, ⟨5, _⟩ => ⟨S1x32x32x8, .f32⟩
  | .local _ .vmem, ⟨6, _⟩ => ⟨S1x32x32x16, .f32⟩
  | .local _ .vmem, ⟨7, _⟩ => ⟨S1x32x32x16, .f32⟩
  | .local _ .vmem, ⟨8, _⟩ => ⟨S35x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S384x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x384, .f32⟩
  | .local _ .vmem, ⟨19, _⟩ => ⟨S128x384, .f32⟩
  | .local _ .vmem, ⟨20, _⟩ => ⟨S1x384, .f32⟩
  | .local _ .vmem, ⟨21, _⟩ => ⟨S1x384, .f32⟩
  | .local _ .vmem, ⟨22, _⟩ => ⟨S128x384, .f32⟩
  | .local _ .vmem, ⟨23, _⟩ => ⟨S128x384, .f32⟩
  | .local _ .vmem, ⟨24, _⟩ => ⟨S1x384, .f32⟩
  | .local _ .vmem, ⟨25, _⟩ => ⟨S1x384, .f32⟩
  | .local _ .vmem, ⟨26, _⟩ => ⟨S128x128, .f32⟩
  | .local _ .vmem, ⟨27, _⟩ => ⟨S1x128, .f32⟩
  | .local _ .vmem, ⟨28, _⟩ => ⟨S128x4, .f32⟩
  | .local _ .vmem, ⟨29, _⟩ => ⟨S1x4, .f32⟩
  | .local _ .vmem, ⟨30, _⟩ => ⟨S256x256, .f32⟩
  | .local _ .vmem, ⟨31, _⟩ => ⟨S1x256, .f32⟩
  | .local _ .vmem, ⟨32, _⟩ => ⟨S256x4, .f32⟩
  | .local _ .vmem, ⟨33, _⟩ => ⟨S1x4, .f32⟩
  | .local _ .vmem, ⟨34, _⟩ => ⟨S1x32x256x4, .f32⟩
  | .local _ .vmem, ⟨35, _⟩ => ⟨S1x32x256x4, .f32⟩
  | .local _ .vmem, ⟨36, _⟩ => ⟨S1x32x256x4, .f32⟩
  | .local _ .vmem, ⟨37, _⟩ => ⟨S1x32x256x4, .f32⟩
  | .local _ .vmem, ⟨38, _⟩ => ⟨S1x256x128, .f32⟩
  | .local _ .vmem, ⟨39, _⟩ => ⟨S1x256x128, .f32⟩
  | .local _ .vmem, ⟨40, _⟩ => ⟨S32x256x128, .f32⟩
  | .local _ .vmem, ⟨41, _⟩ => ⟨S32x256x384, .f32⟩
  | .local _ .vmem, ⟨42, _⟩ => ⟨S32x256x128, .f32⟩
  | .local _ .vmem, ⟨43, _⟩ => ⟨S32x256x128, .f32⟩
  | .local _ .vmem, ⟨44, _⟩ => ⟨S32x32x128, .f32⟩
  | _, _ => ⟨S2x32x32x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27_0 : Ref sig .tc := ⟨.hbm, 57, rfl⟩
abbrev main_v27_1 : Ref sig .tc := ⟨.hbm, 58, rfl⟩
abbrev main_v27_2 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg21_0 : Ref sig .tc := ⟨.vmem, 25, rfl⟩
abbrev cc0_stg22_0 : Ref sig .tc := ⟨.vmem, 26, rfl⟩
abbrev cc0_stg23_0 : Ref sig .tc := ⟨.vmem, 27, rfl⟩
abbrev cc0_stg24_0 : Ref sig .tc := ⟨.vmem, 28, rfl⟩
abbrev cc0_stg25_0 : Ref sig .tc := ⟨.vmem, 29, rfl⟩
abbrev cc0_stg26_0 : Ref sig .tc := ⟨.vmem, 30, rfl⟩
abbrev cc0_stg27_0 : Ref sig .tc := ⟨.vmem, 31, rfl⟩
abbrev cc0_stg28_0 : Ref sig .tc := ⟨.vmem, 32, rfl⟩
abbrev cc0_stg29_0 : Ref sig .tc := ⟨.vmem, 33, rfl⟩
abbrev cc0_stg30_0 : Ref sig .tc := ⟨.vmem, 34, rfl⟩
abbrev cc0_stg30_1 : Ref sig .tc := ⟨.vmem, 35, rfl⟩
abbrev cc0_stg31_0 : Ref sig .tc := ⟨.vmem, 36, rfl⟩
abbrev cc0_stg31_1 : Ref sig .tc := ⟨.vmem, 37, rfl⟩
abbrev cc0_stg32_0 : Ref sig .tc := ⟨.vmem, 38, rfl⟩
abbrev cc0_stg32_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem21_0 : DmaSem sig := 25
abbrev cc0_sem22_0 : DmaSem sig := 26
abbrev cc0_sem23_0 : DmaSem sig := 27
abbrev cc0_sem24_0 : DmaSem sig := 28
abbrev cc0_sem25_0 : DmaSem sig := 29
abbrev cc0_sem26_0 : DmaSem sig := 30
abbrev cc0_sem27_0 : DmaSem sig := 31
abbrev cc0_sem28_0 : DmaSem sig := 32
abbrev cc0_sem29_0 : DmaSem sig := 33
abbrev cc0_sem30_0 : DmaSem sig := 34
abbrev cc0_sem30_1 : DmaSem sig := 35
abbrev cc0_sem31_0 : DmaSem sig := 36
abbrev cc0_sem31_1 : DmaSem sig := 37
abbrev cc0_sem32_0 : DmaSem sig := 38
abbrev cc0_sem32_1 : DmaSem sig := 39

abbrev nD : Nat := 1
abbrev τ : Topo := Topo.v7x

variable {F : FTy → Type} [FloatOps F]

abbrev grid0 : Pipeline.Grid := ⟨2, ![2, 4], ![false, false]⟩

def k0_off1 (i : grid0.Coords) : Fin 3 → Nat :=
  let arg1 : BitVec 32 := BitVec.ofNat 32 (i 1).val
  let c8_i32 : BitVec 32 := 8#32
  let v107 : BitVec 32 := Scalar.muli arg1 c8_i32
  let v108 : Index := Scalar.indexCast v107
  let c0_44 : Index := 0#32
  let c0_45 : Index := 0#32
  ![v108.toNat, 0, 0]
@[reducible] def k0_t1_loop : Scf.Loop 32 :=
  let c0_i32 : BitVec 32 := 0#32
  let c32_i32 : BitVec 32 := 32#32
  let v181 : BitVec 32 := Scalar.addi c0_i32 c32_i32
  let c1_i32 : BitVec 32 := 1#32
  ⟨c0_i32, v181, c1_i32⟩
def k0_off2 (k0_t1 : Fin k0_t1_loop.trips) : Fin 3 → Nat :=
  let c0_i32 : BitVec 32 := 0#32
  let c1_i32 : BitVec 32 := 1#32
  let arg40 : BitVec 32 := Scf.iv c0_i32 c1_i32 k0_t1
  let v399 : Index := Scalar.indexCast arg40
  let c0_243 : Index := 0#32
  let c0_244 : Index := 0#32
  ![v399.toNat, 0, 0]
def k0_off3 (k0_t1 : Fin k0_t1_loop.trips) : Fin 3 → Nat :=
  let c0_i32 : BitVec 32 := 0#32
  let c1_i32 : BitVec 32 := 1#32
  let arg40 : BitVec 32 := Scf.iv c0_i32 c1_i32 k0_t1
  let v422 : Index := Scalar.indexCast arg40
  let c0_246 : Index := 0#32
  let c0_247 : Index := 0#32
  ![v422.toNat, 0, 0]
def k0_off4 (k0_t1 : Fin k0_t1_loop.trips) : Fin 3 → Nat :=
  let c31_i32 : BitVec 32 := 31#32
  let c0_i32 : BitVec 32 := 0#32
  let c1_i32 : BitVec 32 := 1#32
  let arg40 : BitVec 32 := Scf.iv c0_i32 c1_i32 k0_t1
  let v398 : BitVec 32 := Scalar.subi c31_i32 arg40
  let v426 : Index := Scalar.indexCast v398
  let c0_248 : Index := 0#32
  let c0_249 : Index := 0#32
  ![v426.toNat, 0, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_31 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_32 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x32x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x32x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S35x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S384x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S128x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S128x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x384 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S128x384 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S128x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x384 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 1 → Memref sig .tc .vmem S1x384 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false, false]

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false, false]

abbrev stage0_23 : Fin 1 → Memref sig .tc .vmem S1x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false, false]

abbrev stage0_24 : Fin 1 → Memref sig .tc .vmem S128x4 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false]

abbrev stage0_25 : Fin 1 → Memref sig .tc .vmem S1x4 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false]

abbrev stage0_26 : Fin 1 → Memref sig .tc .vmem S256x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false, false]

abbrev stage0_27 : Fin 1 → Memref sig .tc .vmem S1x256 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false, false]

abbrev stage0_28 : Fin 1 → Memref sig .tc .vmem S256x4 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false, false]

abbrev stage0_29 : Fin 1 → Memref sig .tc .vmem S1x4 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false, false]

abbrev stage0_30 : Fin 2 → Memref sig .tc .vmem S1x32x256x4 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]

abbrev stage0_31 : Fin 2 → Memref sig .tc .vmem S1x32x256x4 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true, true]

abbrev stage0_32 : Fin 2 → Memref sig .tc .vmem S1x256x128 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true, true]
-- ==== KernelIdeal.lean ====
variable {F : FTy → Type} [FloatOps F] [Named F]
def κ : String → Option EReal := fun
  | "inv31" => some ((1 / 31 : ℝ) : EReal)
  | _ => none
-- ==== ReferenceIdeal.lean ====
abbrev S2x32x32x8 : Shape := ⟨4, ![2, 32, 32, 8]⟩
abbrev S2x32x32x16 : Shape := ⟨4, ![2, 32, 32, 16]⟩
abbrev S2x1024x32x128 : Shape := ⟨4, ![2, 1024, 32, 128]⟩
abbrev S2x32x32x128 : Shape := ⟨4, ![2, 32, 32, 128]⟩
abbrev S128x35 : Shape := ⟨2, ![128, 35]⟩
abbrev S128 : Shape := ⟨1, ![128]⟩
abbrev S128x128 : Shape := ⟨2, ![128, 128]⟩
abbrev S128x384 : Shape := ⟨2, ![128, 384]⟩
abbrev S384x128 : Shape := ⟨2, ![384, 128]⟩
abbrev S384 : Shape := ⟨1, ![384]⟩
abbrev S4x128 : Shape := ⟨2, ![4, 128]⟩
abbrev S4 : Shape := ⟨1, ![4]⟩
abbrev S256x256 : Shape := ⟨2, ![256, 256]⟩
abbrev S256 : Shape := ⟨1, ![256]⟩
abbrev S4x256 : Shape := ⟨2, ![4, 256]⟩
abbrev S2x32x32x2 : Shape := ⟨4, ![2, 32, 32, 2]⟩
abbrev S2x32x1x32x2 : Shape := ⟨5, ![2, 32, 1, 32, 2]⟩
abbrev S2x32x32x32x2 : Shape := ⟨5, ![2, 32, 32, 32, 2]⟩
abbrev S2x1x32x32x2 : Shape := ⟨5, ![2, 1, 32, 32, 2]⟩
abbrev S2x32x32x32x1 : Shape := ⟨5, ![2, 32, 32, 32, 1]⟩
abbrev S2x32x32x32x9 : Shape := ⟨5, ![2, 32, 32, 32, 9]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S1x32x32x1x1 : Shape := ⟨5, ![1, 32, 32, 1, 1]⟩
abbrev S_ : Shape := ⟨0, ![]⟩
abbrev S2x32x32x9 : Shape := ⟨4, ![2, 32, 32, 9]⟩
abbrev S2x32x32x19 : Shape := ⟨4, ![2, 32, 32, 19]⟩
abbrev S2x32x32x35 : Shape := ⟨4, ![2, 32, 32, 35]⟩
abbrev S35x128 : Shape := ⟨2, ![35, 128]⟩
abbrev S1x1x1x128 : Shape := ⟨4, ![1, 1, 1, 128]⟩
abbrev S2x32x1x32x128 : Shape := ⟨5, ![2, 32, 1, 32, 128]⟩
abbrev S2x32x32x32x128 : Shape := ⟨5, ![2, 32, 32, 32, 128]⟩
abbrev S2x1x32x32x128 : Shape := ⟨5, ![2, 1, 32, 32, 128]⟩
abbrev S2x1024x32x384 : Shape := ⟨4, ![2, 1024, 32, 384]⟩
abbrev S2048x32x128 : Shape := ⟨3, ![2048, 32, 128]⟩
abbrev S2048x128 : Shape := ⟨2, ![2048, 128]⟩
abbrev S32x2048x128 : Shape := ⟨3, ![32, 2048, 128]⟩
abbrev S1x2048x128 : Shape := ⟨3, ![1, 2048, 128]⟩
abbrev S2048x384 : Shape := ⟨2, ![2048, 384]⟩
abbrev S1x384 : Shape := ⟨2, ![1, 384]⟩
abbrev S1x1x128 : Shape := ⟨3, ![1, 1, 128]⟩
abbrev S128x4 : Shape := ⟨2, ![128, 4]⟩
abbrev S2048x32x4 : Shape := ⟨3, ![2048, 32, 4]⟩
abbrev S1x1x4 : Shape := ⟨3, ![1, 1, 4]⟩
abbrev S2x1024x32x4 : Shape := ⟨4, ![2, 1024, 32, 4]⟩
abbrev S2x32x1024x4 : Shape := ⟨4, ![2, 32, 1024, 4]⟩
abbrev S2048x32x256 : Shape := ⟨3, ![2048, 32, 256]⟩
abbrev S1x1x256 : Shape := ⟨3, ![1, 1, 256]⟩
abbrev S256x4 : Shape := ⟨2, ![256, 4]⟩
abbrev S2x1024x128 : Shape := ⟨3, ![2, 1024, 128]⟩

abbrev nBuf : Space → Nat
  | .hbm => 297
  | .vmem => 0
  | .smem => 0
  | _ => 0

abbrev hbmTy0_0 (i : Nat) : BufTy := match i % 128 with
  | 0 => ⟨S2x32x32x8, .f32⟩
  | 1 => ⟨S2x32x32x16, .f32⟩
  | 2 => ⟨S2x1024x32x128, .f32⟩
  | 3 => ⟨S2x32x32x128, .f32⟩
  | 4 => ⟨S128x35, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x384, .f32⟩
  | 11 => ⟨S128, .f32⟩
  | 12 => ⟨S128x128, .f32⟩
  | 13 => ⟨S128, .f32⟩
  | 14 => ⟨S384x128, .f32⟩
  | 15 => ⟨S384x128, .f32⟩
  | 16 => ⟨S384, .f32⟩
  | 17 => ⟨S384, .f32⟩
  | 18 => ⟨S384x128, .f32⟩
  | 19 => ⟨S384x128, .f32⟩
  | 20 => ⟨S384, .f32⟩
  | 21 => ⟨S384, .f32⟩
  | 22 => ⟨S128x128, .f32⟩
  | 23 => ⟨S128, .f32⟩
  | 24 => ⟨S4x128, .f32⟩
  | 25 => ⟨S4, .f32⟩
  | 26 => ⟨S256x256, .f32⟩
  | 27 => ⟨S256, .f32⟩
  | 28 => ⟨S4x256, .f32⟩
  | 29 => ⟨S4, .f32⟩
  | 30 => ⟨S2x32x32x8, .f32⟩
  | 31 => ⟨S2x32x32x2, .f32⟩
  | 32 => ⟨S2x32x32x2, .f32⟩
  | 33 => ⟨S2x32x1x32x2, .f32⟩
  | 34 => ⟨S2x32x32x32x2, .f32⟩
  | 35 => ⟨S2x1x32x32x2, .f32⟩
  | 36 => ⟨S2x32x32x32x2, .f32⟩
  | 37 => ⟨S2x32x1x32x2, .f32⟩
  | 38 => ⟨S2x32x32x32x2, .f32⟩
  | 39 => ⟨S2x1x32x32x2, .f32⟩
  | 40 => ⟨S2x32x32x32x2, .f32⟩
  | 41 => ⟨S2x32x32x32x2, .f32⟩
  | 42 => ⟨S2x32x32x32x2, .f32⟩
  | 43 => ⟨S2x32x32x32x1, .f32⟩
  | 44 => ⟨S2x32x32x32x1, .f32⟩
  | 45 => ⟨S2x32x32x32x1, .f32⟩
  | 46 => ⟨S2x32x32x32x1, .f32⟩
  | 47 => ⟨S2x32x32x32x1, .f32⟩
  | 48 => ⟨S2x32x32x32x1, .f32⟩
  | 49 => ⟨S2x32x32x32x1, .f32⟩
  | 50 => ⟨S2x32x32x32x9, .f32⟩
  | 51 => ⟨S32, .i32⟩
  | 52 => ⟨S32x1, .i32⟩
  | 53 => ⟨S32, .i32⟩
  | 54 => ⟨S1x32, .i32⟩
  | 55 => ⟨S32x32, .i32⟩
  | 56 => ⟨S32x32, .i32⟩
  | 57 => ⟨S32x32, .i1⟩
  | 58 => ⟨S1x32x32x1x1, .i1⟩
  | 59 => ⟨S_, .f32⟩
  | 60 => ⟨S_, .f32⟩
  | 61 => ⟨S2x32x32x32x9, .i1⟩
  | 62 => ⟨S2x32x32x32x9, .f32⟩
  | 63 => ⟨S2x32x32x32x9, .f32⟩
  | 64 => ⟨S_, .f32⟩
  | 65 => ⟨S2x32x32x9, .f32⟩
  | 66 => ⟨S_, .f32⟩
  | 67 => ⟨S2x32x32x9, .f32⟩
  | 68 => ⟨S2x32x32x9, .f32⟩
  | 69 => ⟨S2x32x32x19, .f32⟩
  | 70 => ⟨S2x32x32x35, .f32⟩
  | 71 => ⟨S35x128, .f32⟩
  | 72 => ⟨S2x32x32x128, .f32⟩
  | 73 => ⟨S1x1x1x128, .f32⟩
  | 74 => ⟨S2x32x32x128, .f32⟩
  | 75 => ⟨S2x32x32x128, .f32⟩
  | 76 => ⟨S_, .f32⟩
  | 77 => ⟨S2x32x32x128, .f32⟩
  | 78 => ⟨S2x32x32x128, .f32⟩
  | 79 => ⟨S2x32x32x128, .f32⟩
  | 80 => ⟨S128x128, .f32⟩
  | 81 => ⟨S2x32x32x128, .f32⟩
  | 82 => ⟨S1x1x1x128, .f32⟩
  | 83 => ⟨S2x32x32x128, .f32⟩
  | 84 => ⟨S2x32x32x128, .f32⟩
  | 85 => ⟨S_, .f32⟩
  | 86 => ⟨S2x32x32x128, .f32⟩
  | 87 => ⟨S2x32x32x128, .i1⟩
  | 88 => ⟨S2x32x32x128, .f32⟩
  | 89 => ⟨S2x32x32x128, .f32⟩
  | 90 => ⟨S128x128, .f32⟩
  | 91 => ⟨S2x32x32x128, .f32⟩
  | 92 => ⟨S1x1x1x128, .f32⟩
  | 93 => ⟨S2x32x32x128, .f32⟩
  | 94 => ⟨S2x32x32x128, .f32⟩
  | 95 => ⟨S_, .f32⟩
  | 96 => ⟨S2x32x32x128, .f32⟩
  | 97 => ⟨S2x32x32x128, .i1⟩
  | 98 => ⟨S2x32x32x128, .f32⟩
  | 99 => ⟨S2x32x32x128, .f32⟩
  | 100 => ⟨S2x32x1x32x128, .f32⟩
  | 101 => ⟨S2x32x32x32x128, .f32⟩
  | 102 => ⟨S2x1024x32x128, .f32⟩
  | 103 => ⟨S2x1x32x32x128, .f32⟩
  | 104 => ⟨S2x32x32x32x128, .f32⟩
  | 105 => ⟨S2x1024x32x128, .f32⟩
  | 106 => ⟨S2x1024x32x384, .f32⟩
  | 107 => ⟨S384x128, .f32⟩
  | 108 => ⟨S2x1024x32x128, .f32⟩
  | 109 => ⟨S1x1x1x128, .f32⟩
  | 110 => ⟨S2x1024x32x128, .f32⟩
  | 111 => ⟨S2x1024x32x128, .f32⟩
  | 112 => ⟨S_, .f32⟩
  | 113 => ⟨S2x1024x32x128, .f32⟩
  | 114 => ⟨S2x1024x32x128, .i1⟩
  | 115 => ⟨S2x1024x32x128, .f32⟩
  | 116 => ⟨S2x1024x32x128, .f32⟩
  | 117 => ⟨S128x128, .f32⟩
  | 118 => ⟨S2x1024x32x128, .f32⟩
  | 119 => ⟨S1x1x1x128, .f32⟩
  | 120 => ⟨S2x1024x32x128, .f32⟩
  | 121 => ⟨S2x1024x32x128, .f32⟩
  | 122 => ⟨S_, .f32⟩
  | 123 => ⟨S2x1024x32x128, .f32⟩
  | 124 => ⟨S2x1024x32x128, .i1⟩
  | 125 => ⟨S2x1024x32x128, .f32⟩
  | 126 => ⟨S2x1024x32x128, .f32⟩
  | 127 => ⟨S2048x32x128, .f32⟩
  | _ => ⟨S2x32x32x8, .f32⟩

abbrev hbmTy0_1 (i : Nat) : BufTy := match i % 128 with
  | 0 => ⟨S_, .f32⟩
  | 1 => ⟨S2048x128, .f32⟩
  | 2 => ⟨S32x2048x128, .f32⟩
  | 3 => ⟨S32x2048x128, .f32⟩
  | 4 => ⟨S_, .f32⟩
  | 5 => ⟨S32x2048x128, .f32⟩
  | 6 => ⟨S_, .f32⟩
  | 7 => ⟨S32x2048x128, .f32⟩
  | 8 => ⟨S_, .i32⟩
  | 9 => ⟨S32x2048x128, .f32⟩
  | 10 => ⟨S32x2048x128, .f32⟩
  | 11 => ⟨S384x128, .f32⟩
  | 12 => ⟨S384, .f32⟩
  | 13 => ⟨S384x128, .f32⟩
  | 14 => ⟨S384, .f32⟩
  | 15 => ⟨S384x128, .f32⟩
  | 16 => ⟨S384, .f32⟩
  | 17 => ⟨S384x128, .f32⟩
  | 18 => ⟨S384, .f32⟩
  | 19 => ⟨S_, .i32⟩
  | 20 => ⟨S2048x128, .f32⟩
  | 21 => ⟨S2048x128, .f32⟩
  | 22 => ⟨S32x2048x128, .f32⟩
  | 23 => ⟨S32x2048x128, .f32⟩
  | 24 => ⟨S_, .i32⟩
  | 25 => ⟨S_, .i1⟩
  | 26 => ⟨S_, .i32⟩
  | 27 => ⟨S_, .i32⟩
  | 28 => ⟨S1x2048x128, .f32⟩
  | 29 => ⟨S2048x128, .f32⟩
  | 30 => ⟨S_, .i32⟩
  | 31 => ⟨S_, .i32⟩
  | 32 => ⟨S1x2048x128, .f32⟩
  | 33 => ⟨S2048x128, .f32⟩
  | 34 => ⟨S128x384, .f32⟩
  | 35 => ⟨S2048x384, .f32⟩
  | 36 => ⟨S1x384, .f32⟩
  | 37 => ⟨S2048x384, .f32⟩
  | 38 => ⟨S2048x384, .f32⟩
  | 39 => ⟨S128x384, .f32⟩
  | 40 => ⟨S2048x384, .f32⟩
  | 41 => ⟨S1x384, .f32⟩
  | 42 => ⟨S2048x384, .f32⟩
  | 43 => ⟨S2048x384, .f32⟩
  | 44 => ⟨S2048x128, .f32⟩
  | 45 => ⟨S2048x128, .f32⟩
  | 46 => ⟨S2048x128, .f32⟩
  | 47 => ⟨S2048x128, .f32⟩
  | 48 => ⟨S2048x128, .f32⟩
  | 49 => ⟨S2048x128, .f32⟩
  | 50 => ⟨S2048x128, .f32⟩
  | 51 => ⟨S2048x128, .f32⟩
  | 52 => ⟨S2048x128, .f32⟩
  | 53 => ⟨S_, .f32⟩
  | 54 => ⟨S2048x128, .f32⟩
  | 55 => ⟨S2048x128, .f32⟩
  | 56 => ⟨S_, .f32⟩
  | 57 => ⟨S2048x128, .f32⟩
  | 58 => ⟨S2048x128, .f32⟩
  | 59 => ⟨S2048x128, .f32⟩
  | 60 => ⟨S2048x128, .f32⟩
  | 61 => ⟨S2048x128, .f32⟩
  | 62 => ⟨S_, .f32⟩
  | 63 => ⟨S2048x128, .f32⟩
  | 64 => ⟨S2048x128, .f32⟩
  | 65 => ⟨S_, .f32⟩
  | 66 => ⟨S2048x128, .f32⟩
  | 67 => ⟨S2048x128, .f32⟩
  | 68 => ⟨S2048x128, .f32⟩
  | 69 => ⟨S2048x128, .f32⟩
  | 70 => ⟨S2048x128, .f32⟩
  | 71 => ⟨S_, .f32⟩
  | 72 => ⟨S2048x128, .f32⟩
  | 73 => ⟨S2048x128, .f32⟩
  | 74 => ⟨S2048x128, .f32⟩
  | 75 => ⟨S2048x128, .f32⟩
  | 76 => ⟨S2048x128, .f32⟩
  | 77 => ⟨S128x384, .f32⟩
  | 78 => ⟨S2048x384, .f32⟩
  | 79 => ⟨S1x384, .f32⟩
  | 80 => ⟨S2048x384, .f32⟩
  | 81 => ⟨S2048x384, .f32⟩
  | 82 => ⟨S128x384, .f32⟩
  | 83 => ⟨S2048x384, .f32⟩
  | 84 => ⟨S1x384, .f32⟩
  | 85 => ⟨S2048x384, .f32⟩
  | 86 => ⟨S2048x384, .f32⟩
  | 87 => ⟨S2048x128, .f32⟩
  | 88 => ⟨S2048x128, .f32⟩
  | 89 => ⟨S2048x128, .f32⟩
  | 90 => ⟨S2048x128, .f32⟩
  | 91 => ⟨S2048x128, .f32⟩
  | 92 => ⟨S2048x128, .f32⟩
  | 93 => ⟨S2048x128, .f32⟩
  | 94 => ⟨S2048x128, .f32⟩
  | 95 => ⟨S2048x128, .f32⟩
  | 96 => ⟨S_, .f32⟩
  | 97 => ⟨S2048x128, .f32⟩
  | 98 => ⟨S2048x128, .f32⟩
  | 99 => ⟨S_, .f32⟩
  | 100 => ⟨S2048x128, .f32⟩
  | 101 => ⟨S2048x128, .f32⟩
  | 102 => ⟨S2048x128, .f32⟩
  | 103 => ⟨S2048x128, .f32⟩
  | 104 => ⟨S2048x128, .f32⟩
  | 105 => ⟨S_, .f32⟩
  | 106 => ⟨S2048x128, .f32⟩
  | 107 => ⟨S2048x128, .f32⟩
  | 108 => ⟨S_, .f32⟩
  | 109 => ⟨S2048x128, .f32⟩
  | 110 => ⟨S2048x128, .f32⟩
  | 111 => ⟨S2048x128, .f32⟩
  | 112 => ⟨S2048x128, .f32⟩
  | 113 => ⟨S2048x128, .f32⟩
  | 114 => ⟨S_, .f32⟩
  | 115 => ⟨S2048x128, .f32⟩
  | 116 => ⟨S2048x128, .f32⟩
  | 117 => ⟨S2048x128, .f32⟩
  | 118 => ⟨S2048x128, .f32⟩
  | 119 => ⟨S2048x128, .f32⟩
  | 120 => ⟨S1x2048x128, .f32⟩
  | 121 => ⟨S_, .i32⟩
  | 122 => ⟨S_, .i32⟩
  | 123 => ⟨S32x2048x128, .f32⟩
  | 124 => ⟨S1x2048x128, .f32⟩
  | 125 => ⟨S_, .i32⟩
  | 126 => ⟨S_, .i32⟩
  | 127 => ⟨S32x2048x128, .f32⟩
  | _ => ⟨S2x32x32x8, .f32⟩

abbrev hbmTy0_2 (i : Nat) : BufTy := match i % 128 with
  | 0 => ⟨S_, .i32⟩
  | 1 => ⟨S_, .i32⟩
  | 2 => ⟨S2048x32x128, .f32⟩
  | 3 => ⟨S32x2048x128, .f32⟩
  | 4 => ⟨S2048x32x128, .f32⟩
  | 5 => ⟨S128x128, .f32⟩
  | 6 => ⟨S2048x32x128, .f32⟩
  | 7 => ⟨S1x1x128, .f32⟩
  | 8 => ⟨S2048x32x128, .f32⟩
  | 9 => ⟨S2048x32x128, .f32⟩
  | 10 => ⟨S_, .f32⟩
  | 11 => ⟨S2048x32x128, .f32⟩
  | 12 => ⟨S2048x32x128, .i1⟩
  | 13 => ⟨S2048x32x128, .f32⟩
  | 14 => ⟨S2048x32x128, .f32⟩
  | 15 => ⟨S128x4, .f32⟩
  | 16 => ⟨S2048x32x4, .f32⟩
  | 17 => ⟨S1x1x4, .f32⟩
  | 18 => ⟨S2048x32x4, .f32⟩
  | 19 => ⟨S2048x32x4, .f32⟩
  | 20 => ⟨S2x1024x32x4, .f32⟩
  | 21 => ⟨S2x32x1024x4, .f32⟩
  | 22 => ⟨S2048x32x256, .f32⟩
  | 23 => ⟨S256x256, .f32⟩
  | 24 => ⟨S2048x32x256, .f32⟩
  | 25 => ⟨S1x1x256, .f32⟩
  | 26 => ⟨S2048x32x256, .f32⟩
  | 27 => ⟨S2048x32x256, .f32⟩
  | 28 => ⟨S_, .f32⟩
  | 29 => ⟨S2048x32x256, .f32⟩
  | 30 => ⟨S2048x32x256, .i1⟩
  | 31 => ⟨S2048x32x256, .f32⟩
  | 32 => ⟨S2048x32x256, .f32⟩
  | 33 => ⟨S256x4, .f32⟩
  | 34 => ⟨S2048x32x4, .f32⟩
  | 35 => ⟨S1x1x4, .f32⟩
  | 36 => ⟨S2048x32x4, .f32⟩
  | 37 => ⟨S2048x32x4, .f32⟩
  | 38 => ⟨S2x1024x32x4, .f32⟩
  | 39 => ⟨S2x32x1024x4, .f32⟩
  | 40 => ⟨S2x1024x128, .f32⟩
  | _ => ⟨S2x32x32x8, .f32⟩

abbrev hbmTy (i : Nat) : BufTy := match i / 128 with
  | 0 => hbmTy0_0 i
  | 1 => hbmTy0_1 i
  | 2 => hbmTy0_2 i
  | _ => ⟨S2x32x32x8, .f32⟩

abbrev bufTy : (tb : Table) → Fin (tcTables nBuf tb) → BufTy
  | .hbm, ⟨i, _⟩ => hbmTy i
  | _, _ => ⟨S2x32x32x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_cst : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v29 : Ref sig .tc := ⟨.hbm, 63, rfl⟩
abbrev main_cst_0 : Ref sig .tc := ⟨.hbm, 64, rfl⟩
abbrev main_v30 : Ref sig .tc := ⟨.hbm, 65, rfl⟩
abbrev main_cst_1 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_cst_2 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_3 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_4 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_5 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_6 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_cst_7 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_8 : Ref sig .tc := ⟨.hbm, 132, rfl⟩
abbrev main_v90 : Ref sig .tc := ⟨.hbm, 133, rfl⟩
abbrev main_cst_9 : Ref sig .tc := ⟨.hbm, 134, rfl⟩
abbrev main_v91 : Ref sig .tc := ⟨.hbm, 135, rfl⟩
abbrev main_c : Ref sig .tc := ⟨.hbm, 136, rfl⟩
abbrev main_v92_0 : Ref sig .tc := ⟨.hbm, 137, rfl⟩
abbrev main_v92_1 : Ref sig .tc := ⟨.hbm, 138, rfl⟩
abbrev main_v92_2 : Ref sig .tc := ⟨.hbm, 139, rfl⟩
abbrev main_v92_3 : Ref sig .tc := ⟨.hbm, 140, rfl⟩
abbrev main_v92_4 : Ref sig .tc := ⟨.hbm, 141, rfl⟩
abbrev main_v92_5 : Ref sig .tc := ⟨.hbm, 142, rfl⟩
abbrev main_v92_6 : Ref sig .tc := ⟨.hbm, 143, rfl⟩
abbrev main_v92_7 : Ref sig .tc := ⟨.hbm, 144, rfl⟩
abbrev main_v92_8 : Ref sig .tc := ⟨.hbm, 145, rfl⟩
abbrev main_v92_9 : Ref sig .tc := ⟨.hbm, 146, rfl⟩
abbrev main_v92_10 : Ref sig .tc := ⟨.hbm, 147, rfl⟩
abbrev main_v92_11 : Ref sig .tc := ⟨.hbm, 148, rfl⟩
abbrev main_v92_12 : Ref sig .tc := ⟨.hbm, 149, rfl⟩
abbrev main_v92_13 : Ref sig .tc := ⟨.hbm, 150, rfl⟩
abbrev main_v92_14 : Ref sig .tc := ⟨.hbm, 151, rfl⟩
abbrev main_while0c_c_26 : Ref sig .tc := ⟨.hbm, 152, rfl⟩
abbrev main_while0c_v130 : Ref sig .tc := ⟨.hbm, 153, rfl⟩
abbrev main_while0b_call5_c : Ref sig .tc := ⟨.hbm, 154, rfl⟩
abbrev main_while0b_call5_c_0 : Ref sig .tc := ⟨.hbm, 155, rfl⟩
abbrev main_while0b_call5_v0 : Ref sig .tc := ⟨.hbm, 156, rfl⟩
abbrev main_while0b_v130 : Ref sig .tc := ⟨.hbm, 157, rfl⟩
abbrev main_while0b_call6_c : Ref sig .tc := ⟨.hbm, 158, rfl⟩
abbrev main_while0b_call6_c_0 : Ref sig .tc := ⟨.hbm, 159, rfl⟩
abbrev main_while0b_call6_v0 : Ref sig .tc := ⟨.hbm, 160, rfl⟩
abbrev main_while0b_v131 : Ref sig .tc := ⟨.hbm, 161, rfl⟩
abbrev main_while0b_v132 : Ref sig .tc := ⟨.hbm, 162, rfl⟩
abbrev main_while0b_v133 : Ref sig .tc := ⟨.hbm, 163, rfl⟩
abbrev main_while0b_v134 : Ref sig .tc := ⟨.hbm, 164, rfl⟩
abbrev main_while0b_v135 : Ref sig .tc := ⟨.hbm, 165, rfl⟩
abbrev main_while0b_v136 : Ref sig .tc := ⟨.hbm, 166, rfl⟩
abbrev main_while0b_v137 : Ref sig .tc := ⟨.hbm, 167, rfl⟩
abbrev main_while0b_v138 : Ref sig .tc := ⟨.hbm, 168, rfl⟩
abbrev main_while0b_v139 : Ref sig .tc := ⟨.hbm, 169, rfl⟩
abbrev main_while0b_v140 : Ref sig .tc := ⟨.hbm, 170, rfl⟩
abbrev main_while0b_v141 : Ref sig .tc := ⟨.hbm, 171, rfl⟩
abbrev main_while0b_v142 : Ref sig .tc := ⟨.hbm, 172, rfl⟩
abbrev main_while0b_v143 : Ref sig .tc := ⟨.hbm, 173, rfl⟩
abbrev main_while0b_v144 : Ref sig .tc := ⟨.hbm, 174, rfl⟩
abbrev main_while0b_v145 : Ref sig .tc := ⟨.hbm, 175, rfl⟩
abbrev main_while0b_v146 : Ref sig .tc := ⟨.hbm, 176, rfl⟩
abbrev main_while0b_v147 : Ref sig .tc := ⟨.hbm, 177, rfl⟩
abbrev main_while0b_v148 : Ref sig .tc := ⟨.hbm, 178, rfl⟩
abbrev main_while0b_v149 : Ref sig .tc := ⟨.hbm, 179, rfl⟩
abbrev main_while0b_v150 : Ref sig .tc := ⟨.hbm, 180, rfl⟩
abbrev main_while0b_cst_26 : Ref sig .tc := ⟨.hbm, 181, rfl⟩
abbrev main_while0b_v151 : Ref sig .tc := ⟨.hbm, 182, rfl⟩
abbrev main_while0b_v152 : Ref sig .tc := ⟨.hbm, 183, rfl⟩
abbrev main_while0b_cst_27 : Ref sig .tc := ⟨.hbm, 184, rfl⟩
abbrev main_while0b_v153 : Ref sig .tc := ⟨.hbm, 185, rfl⟩
abbrev main_while0b_v154 : Ref sig .tc := ⟨.hbm, 186, rfl⟩
abbrev main_while0b_v155 : Ref sig .tc := ⟨.hbm, 187, rfl⟩
abbrev main_while0b_v156 : Ref sig .tc := ⟨.hbm, 188, rfl⟩
abbrev main_while0b_v157 : Ref sig .tc := ⟨.hbm, 189, rfl⟩
abbrev main_while0b_cst_28 : Ref sig .tc := ⟨.hbm, 190, rfl⟩
abbrev main_while0b_v158 : Ref sig .tc := ⟨.hbm, 191, rfl⟩
abbrev main_while0b_v159 : Ref sig .tc := ⟨.hbm, 192, rfl⟩
abbrev main_while0b_cst_29 : Ref sig .tc := ⟨.hbm, 193, rfl⟩
abbrev main_while0b_v160 : Ref sig .tc := ⟨.hbm, 194, rfl⟩
abbrev main_while0b_v161 : Ref sig .tc := ⟨.hbm, 195, rfl⟩
abbrev main_while0b_v162 : Ref sig .tc := ⟨.hbm, 196, rfl⟩
abbrev main_while0b_v163 : Ref sig .tc := ⟨.hbm, 197, rfl⟩
abbrev main_while0b_v164 : Ref sig .tc := ⟨.hbm, 198, rfl⟩
abbrev main_while0b_cst_30 : Ref sig .tc := ⟨.hbm, 199, rfl⟩
abbrev main_while0b_v165 : Ref sig .tc := ⟨.hbm, 200, rfl⟩
abbrev main_while0b_v166 : Ref sig .tc := ⟨.hbm, 201, rfl⟩
abbrev main_while0b_v167 : Ref sig .tc := ⟨.hbm, 202, rfl⟩
abbrev main_while0b_v168 : Ref sig .tc := ⟨.hbm, 203, rfl⟩
abbrev main_while0b_v169 : Ref sig .tc := ⟨.hbm, 204, rfl⟩
abbrev main_while0b_v170 : Ref sig .tc := ⟨.hbm, 205, rfl⟩
abbrev main_while0b_v171 : Ref sig .tc := ⟨.hbm, 206, rfl⟩
abbrev main_while0b_v172 : Ref sig .tc := ⟨.hbm, 207, rfl⟩
abbrev main_while0b_v173 : Ref sig .tc := ⟨.hbm, 208, rfl⟩
abbrev main_while0b_v174 : Ref sig .tc := ⟨.hbm, 209, rfl⟩
abbrev main_while0b_v175 : Ref sig .tc := ⟨.hbm, 210, rfl⟩
abbrev main_while0b_v176 : Ref sig .tc := ⟨.hbm, 211, rfl⟩
abbrev main_while0b_v177 : Ref sig .tc := ⟨.hbm, 212, rfl⟩
abbrev main_while0b_v178 : Ref sig .tc := ⟨.hbm, 213, rfl⟩
abbrev main_while0b_v179 : Ref sig .tc := ⟨.hbm, 214, rfl⟩
abbrev main_while0b_v180 : Ref sig .tc := ⟨.hbm, 215, rfl⟩
abbrev main_while0b_v181 : Ref sig .tc := ⟨.hbm, 216, rfl⟩
abbrev main_while0b_v182 : Ref sig .tc := ⟨.hbm, 217, rfl⟩
abbrev main_while0b_v183 : Ref sig .tc := ⟨.hbm, 218, rfl⟩
abbrev main_while0b_v184 : Ref sig .tc := ⟨.hbm, 219, rfl⟩
abbrev main_while0b_v185 : Ref sig .tc := ⟨.hbm, 220, rfl⟩
abbrev main_while0b_v186 : Ref sig .tc := ⟨.hbm, 221, rfl⟩
abbrev main_while0b_v187 : Ref sig .tc := ⟨.hbm, 222, rfl⟩
abbrev main_while0b_v188 : Ref sig .tc := ⟨.hbm, 223, rfl⟩
abbrev main_while0b_cst_31 : Ref sig .tc := ⟨.hbm, 224, rfl⟩
abbrev main_while0b_v189 : Ref sig .tc := ⟨.hbm, 225, rfl⟩
abbrev main_while0b_v190 : Ref sig .tc := ⟨.hbm, 226, rfl⟩
abbrev main_while0b_cst_32 : Ref sig .tc := ⟨.hbm, 227, rfl⟩
abbrev main_while0b_v191 : Ref sig .tc := ⟨.hbm, 228, rfl⟩
abbrev main_while0b_v192 : Ref sig .tc := ⟨.hbm, 229, rfl⟩
abbrev main_while0b_v193 : Ref sig .tc := ⟨.hbm, 230, rfl⟩
abbrev main_while0b_v194 : Ref sig .tc := ⟨.hbm, 231, rfl⟩
abbrev main_while0b_v195 : Ref sig .tc := ⟨.hbm, 232, rfl⟩
abbrev main_while0b_cst_33 : Ref sig .tc := ⟨.hbm, 233, rfl⟩
abbrev main_while0b_v196 : Ref sig .tc := ⟨.hbm, 234, rfl⟩
abbrev main_while0b_v197 : Ref sig .tc := ⟨.hbm, 235, rfl⟩
abbrev main_while0b_cst_34 : Ref sig .tc := ⟨.hbm, 236, rfl⟩
abbrev main_while0b_v198 : Ref sig .tc := ⟨.hbm, 237, rfl⟩
abbrev main_while0b_v199 : Ref sig .tc := ⟨.hbm, 238, rfl⟩
abbrev main_while0b_v200 : Ref sig .tc := ⟨.hbm, 239, rfl⟩
abbrev main_while0b_v201 : Ref sig .tc := ⟨.hbm, 240, rfl⟩
abbrev main_while0b_v202 : Ref sig .tc := ⟨.hbm, 241, rfl⟩
abbrev main_while0b_cst_35 : Ref sig .tc := ⟨.hbm, 242, rfl⟩
abbrev main_while0b_v203 : Ref sig .tc := ⟨.hbm, 243, rfl⟩
abbrev main_while0b_v204 : Ref sig .tc := ⟨.hbm, 244, rfl⟩
abbrev main_while0b_v205 : Ref sig .tc := ⟨.hbm, 245, rfl⟩
abbrev main_while0b_v206 : Ref sig .tc := ⟨.hbm, 246, rfl⟩
abbrev main_while0b_v207 : Ref sig .tc := ⟨.hbm, 247, rfl⟩
abbrev main_while0b_call7_v0 : Ref sig .tc := ⟨.hbm, 248, rfl⟩
abbrev main_while0b_call7_c : Ref sig .tc := ⟨.hbm, 249, rfl⟩
abbrev main_while0b_call7_c_0 : Ref sig .tc := ⟨.hbm, 250, rfl⟩
abbrev main_while0b_v208 : Ref sig .tc := ⟨.hbm, 251, rfl⟩
abbrev main_while0b_call8_v0 : Ref sig .tc := ⟨.hbm, 252, rfl⟩
abbrev main_while0b_call8_c : Ref sig .tc := ⟨.hbm, 253, rfl⟩
abbrev main_while0b_call8_c_0 : Ref sig .tc := ⟨.hbm, 254, rfl⟩
abbrev main_while0b_v209 : Ref sig .tc := ⟨.hbm, 255, rfl⟩
abbrev main_while0b_c_36 : Ref sig .tc := ⟨.hbm, 256, rfl⟩
abbrev main_while0b_v210 : Ref sig .tc := ⟨.hbm, 257, rfl⟩
abbrev main_v93 : Ref sig .tc := ⟨.hbm, 258, rfl⟩
abbrev main_v94 : Ref sig .tc := ⟨.hbm, 259, rfl⟩
abbrev main_v95 : Ref sig .tc := ⟨.hbm, 260, rfl⟩
abbrev main_v96 : Ref sig .tc := ⟨.hbm, 261, rfl⟩
abbrev main_v97 : Ref sig .tc := ⟨.hbm, 262, rfl⟩
abbrev main_v98 : Ref sig .tc := ⟨.hbm, 263, rfl⟩
abbrev main_v99 : Ref sig .tc := ⟨.hbm, 264, rfl⟩
abbrev main_v100 : Ref sig .tc := ⟨.hbm, 265, rfl⟩
abbrev main_cst_10 : Ref sig .tc := ⟨.hbm, 266, rfl⟩
abbrev main_v101 : Ref sig .tc := ⟨.hbm, 267, rfl⟩
abbrev main_v102 : Ref sig .tc := ⟨.hbm, 268, rfl⟩
abbrev main_v103 : Ref sig .tc := ⟨.hbm, 269, rfl⟩
abbrev main_v104 : Ref sig .tc := ⟨.hbm, 270, rfl⟩
abbrev main_v105 : Ref sig .tc := ⟨.hbm, 271, rfl⟩
abbrev main_v106 : Ref sig .tc := ⟨.hbm, 272, rfl⟩
abbrev main_v107 : Ref sig .tc := ⟨.hbm, 273, rfl⟩
abbrev main_v108 : Ref sig .tc := ⟨.hbm, 274, rfl⟩
abbrev main_v109 : Ref sig .tc := ⟨.hbm, 275, rfl⟩
abbrev main_v110 : Ref sig .tc := ⟨.hbm, 276, rfl⟩
abbrev main_v111 : Ref sig .tc := ⟨.hbm, 277, rfl⟩
abbrev main_v112 : Ref sig .tc := ⟨.hbm, 278, rfl⟩
abbrev main_v113 : Ref sig .tc := ⟨.hbm, 279, rfl⟩
abbrev main_v114 : Ref sig .tc := ⟨.hbm, 280, rfl⟩
abbrev main_v115 : Ref sig .tc := ⟨.hbm, 281, rfl⟩
abbrev main_v116 : Ref sig .tc := ⟨.hbm, 282, rfl⟩
abbrev main_v117 : Ref sig .tc := ⟨.hbm, 283, rfl⟩
abbrev main_cst_11 : Ref sig .tc := ⟨.hbm, 284, rfl⟩
abbrev main_v118 : Ref sig .tc := ⟨.hbm, 285, rfl⟩
abbrev main_v119 : Ref sig .tc := ⟨.hbm, 286, rfl⟩
abbrev main_v120 : Ref sig .tc := ⟨.hbm, 287, rfl⟩
abbrev main_v121 : Ref sig .tc := ⟨.hbm, 288, rfl⟩
abbrev main_v122 : Ref sig .tc := ⟨.hbm, 289, rfl⟩
abbrev main_v123 : Ref sig .tc := ⟨.hbm, 290, rfl⟩
abbrev main_v124 : Ref sig .tc := ⟨.hbm, 291, rfl⟩
abbrev main_v125 : Ref sig .tc := ⟨.hbm, 292, rfl⟩
abbrev main_v126 : Ref sig .tc := ⟨.hbm, 293, rfl⟩
abbrev main_v127 : Ref sig .tc := ⟨.hbm, 294, rfl⟩
abbrev main_v128 : Ref sig .tc := ⟨.hbm, 295, rfl⟩
abbrev main_v129 : Ref sig .tc := ⟨.hbm, 296, rfl⟩

abbrev nD : Nat := 1
abbrev τ : Topo := Topo.v7x

variable {F : FTy → Type} [FloatOps F]

abbrev main_while0_count : Scf.Loop 32 := ⟨0#32, 32#32, 1#32⟩
-- ==== Proof.Bits.Body.lean ====
/- One run of the compiled kernel's body on any staging buffers. -/
module

public import proofs.«01_k».proof.Proof.Bits.Refs

@[expose] public section

-- the arrays have long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it takes more than the default budget)
set_option maxHeartbeats 40000000 in
/-- The body's triple: on whole staging memrefs — the inputs' at their contents,
    the FORGOTTEN outputs' (30, 31, 32) at anything, handed back at some contents nothing names —
    the body runs to the continuation holding the inputs' as they were, the scratch at some contents. -/
theorem kernelRun0_A (c : Dev nD) (i : grid0.Coords) (arg2 : Memref sig .tc .vmem S1x256x32x128 .f32) (harg2 : arg2.IsWhole) (arg3 : Memref sig .tc .vmem S1x32x32x128 .f32) (harg3 : arg3.IsWhole) (arg4 : Memref sig .tc .vmem S1x32x32x8 .f32) (harg4 : arg4.IsWhole) (arg5 : Memref sig .tc .vmem S1x32x32x16 .f32) (harg5 : arg5.IsWhole) (arg6 : Memref sig .tc .vmem S35x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S384x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x384 .f32) (harg16 : arg16.IsWhole) (arg17 : Memref sig .tc .vmem S128x384 .f32) (harg17 : arg17.IsWhole) (arg18 : Memref sig .tc .vmem S1x384 .f32) (harg18 : arg18.IsWhole) (arg19 : Memref sig .tc .vmem S1x384 .f32) (harg19 : arg19.IsWhole) (arg20 : Memref sig .tc .vmem S128x384 .f32) (harg20 : arg20.IsWhole) (arg21 : Memref sig .tc .vmem S128x384 .f32) (harg21 : arg21.IsWhole) (arg22 : Memref sig .tc .vmem S1x384 .f32) (harg22 : arg22.IsWhole) (arg23 : Memref sig .tc .vmem S1x384 .f32) (harg23 : arg23.IsWhole) (arg24 : Memref sig .tc .vmem S128x128 .f32) (harg24 : arg24.IsWhole) (arg25 : Memref sig .tc .vmem S1x128 .f32) (harg25 : arg25.IsWhole) (arg26 : Memref sig .tc .vmem S128x4 .f32) (harg26 : arg26.IsWhole) (arg27 : Memref sig .tc .vmem S1x4 .f32) (harg27 : arg27.IsWhole) (arg28 : Memref sig .tc .vmem S256x256 .f32) (harg28 : arg28.IsWhole) (arg29 : Memref sig .tc .vmem S1x256 .f32) (harg29 : arg29.IsWhole) (arg30 : Memref sig .tc .vmem S256x4 .f32) (harg30 : arg30.IsWhole) (arg31 : Memref sig .tc .vmem S1x4 .f32) (harg31 : arg31.IsWhole) (arg32 : Memref sig .tc .vmem S1x32x256x4 .f32) (harg32 : arg32.IsWhole) (arg33 : Memref sig .tc .vmem S1x32x256x4 .f32) (harg33 : arg33.IsWhole) (arg34 : Memref sig .tc .vmem S1x256x128 .f32) (harg34 : arg34.IsWhole) (arg35 : Memref sig .tc .vmem S32x256x128 .f32) (harg35 : arg35.IsWhole) (arg36 : Memref sig .tc .vmem S32x256x384 .f32) (harg36 : arg36.IsWhole) (arg37 : Memref sig .tc .vmem S32x256x128 .f32) (harg37 : arg37.IsWhole) (arg38 : Memref sig .tc .vmem S32x256x128 .f32) (harg38 : arg38.IsWhole) (arg39 : Memref sig .tc .vmem S32x32x128 .f32) (harg39 : arg39.IsWhole)
    (x0 : Vec F S1x256x32x128 .f32) (x1 : Vec F S1x32x32x128 .f32) (x2 : Vec F S1x32x32x8 .f32) (x3 : Vec F S1x32x32x16 .f32) (x4 : Vec F S35x128 .f32) (x5 : Vec F S1x128 .f32) (x6 : Vec F S128x128 .f32) (x7 : Vec F S1x128 .f32) (x8 : Vec F S128x128 .f32) (x9 : Vec F S1x128 .f32) (x10 : Vec F S384x128 .f32) (x11 : Vec F S1x128 .f32) (x12 : Vec F S128x128 .f32) (x13 : Vec F S1x128 .f32) (x14 : Vec F S128x384 .f32) (x15 : Vec F S128x384 .f32) (x16 : Vec F S1x384 .f32) (x17 : Vec F S1x384 .f32) (x18 : Vec F S128x384 .f32) (x19 : Vec F S128x384 .f32) (x20 : Vec F S1x384 .f32) (x21 : Vec F S1x384 .f32) (x22 : Vec F S128x128 .f32) (x23 : Vec F S1x128 .f32) (x24 : Vec F S128x4 .f32) (x25 : Vec F S1x4 .f32) (x26 : Vec F S256x256 .f32) (x27 : Vec F S1x256 .f32) (x28 : Vec F S256x4 .f32) (x29 : Vec F S1x4 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)) -∗ K ⟨⟩))
          ⊢ wp frame (wpE (defs₀ (F := F)) Variants.none c none) E (cc0__edge_rnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K := by
    intro E K
    simp only [cc0__edge_rnn_kernel_eq_skeleton]; unfold cc0__edge_rnn_kernel_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, ⟨%d31, %f31, -, H31⟩, ⟨%d32, %f32, -, H32⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]
    · iexists _, _; isplitr; swap; · iexact H30
      ipureintro; rfl
    isplitl [H31]
    · iexists _, _; isplitr; swap; · iexact H31
      ipureintro; rfl
    isplitl [H32]
    · iexists _, _; isplitr; swap; · iexact H32
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Run

end
-- ==== Proof.Run.Refs.lean ====
/- The staging and scratch buffers of the kernel, named point by point, and the region's invariant over them. -/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The kernel body on any staging memrefs: a subtype the run finds -/

/-- One staging buffer of output window 30, through which its contents are stated (`View.read_writes_of_cover`: the
    choice does not matter). -/
abbrev VO0_30 : View sig .tc .vmem S1x32x256x4 .f32 := (Memref.whole cc0_stg30_0 : Memref sig .tc .vmem S1x32x256x4 .f32).view
/-- One staging buffer of output window 31, through which its contents are stated (`View.read_writes_of_cover`: the
    choice does not matter). -/
abbrev VO0_31 : View sig .tc .vmem S1x32x256x4 .f32 := (Memref.whole cc0_stg31_0 : Memref sig .tc .vmem S1x32x256x4 .f32).view
/-- One staging buffer of output window 32, through which its contents are stated (`View.read_writes_of_cover`: the
    choice does not matter). -/
abbrev VO0_32 : View sig .tc .vmem S1x256x128 .f32 := (Memref.whole cc0_stg32_0 : Memref sig .tc .vmem S1x256x128 .f32).view
/-- Each window's current staging memref at point `t`, spelled as the pipeline passes it (`bodyAt0`), and its wholeness. -/
abbrev ms0_0 (t : Fin cfg0.N) : Memref sig .tc .vmem S1x256x32x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x32x32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x32x32x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x32x32x16 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S35x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S384x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x128 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x384 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x384 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x384 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x384 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S128x384 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S128x384 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S1x384 .f32 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S1x384 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S128x128 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x128 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S128x4 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S1x4 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S256x256 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S1x256 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S256x4 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S1x4 .f32 := win0_29.stage (cfg0.slots t 29)
abbrev hs0_29 (t : Fin cfg0.N) : (ms0_29 t).IsWhole := hstage0_29 ((cfg0.slots t 29).cast nbuf0_29)
abbrev ms0_30 (t : Fin cfg0.N) : Memref sig .tc .vmem S1x32x256x4 .f32 := win0_30.stage (cfg0.slots t 30)
abbrev hs0_30 (t : Fin cfg0.N) : (ms0_30 t).IsWhole := hstage0_30 ((cfg0.slots t 30).cast nbuf0_30)
abbrev ms0_31 (t : Fin cfg0.N) : Memref sig .tc .vmem S1x32x256x4 .f32 := win0_31.stage (cfg0.slots t 31)
abbrev hs0_31 (t : Fin cfg0.N) : (ms0_31 t).IsWhole := hstage0_31 ((cfg0.slots t 31).cast nbuf0_31)
abbrev ms0_32 (t : Fin cfg0.N) : Memref sig .tc .vmem S1x256x128 .f32 := win0_32.stage (cfg0.slots t 32)
abbrev hs0_32 (t : Fin cfg0.N) : (ms0_32 t).IsWhole := hstage0_32 ((cfg0.slots t 32).cast nbuf0_32)
/-- The scratch operands: whole scoped buffers of the kernel's own, passed beside the windows. -/
abbrev scM0_0 : Memref sig .tc .vmem S32x256x128 .f32 := Memref.whole cc0_scratch0
abbrev scM0_1 : Memref sig .tc .vmem S32x256x384 .f32 := Memref.whole cc0_scratch1
abbrev scM0_2 : Memref sig .tc .vmem S32x256x128 .f32 := Memref.whole cc0_scratch2
abbrev scM0_3 : Memref sig .tc .vmem S32x256x128 .f32 := Memref.whole cc0_scratch3
abbrev scM0_4 : Memref sig .tc .vmem S32x32x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Run

end
-- ==== Proof.Run.Body.lean ====
/- One run of the kernel's body on any staging buffers. -/
module

public import proofs.«01_k».proof.Proof.Run.Refs

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it takes more than the default budget)
set_option maxHeartbeats 40000000 in
/-- What the body's stores leave in each output's staging buffer, as pieces (last first), when the two buffers that the
    recurrences write step by step hold `fs2` and `fs3` at the start; with the proof that the body, on whole staging
    buffers with the inputs at their contents, runs to the continuation holding the inputs as they were, the scratch at
    some contents and each output's buffer with its pieces written. -/
noncomputable def kernelRun0_A (c : Dev nD) (i : grid0.Coords) (arg2 : Memref sig .tc .vmem S1x256x32x128 .f32) (harg2 : arg2.IsWhole) (arg3 : Memref sig .tc .vmem S1x32x32x128 .f32) (harg3 : arg3.IsWhole) (arg4 : Memref sig .tc .vmem S1x32x32x8 .f32) (harg4 : arg4.IsWhole) (arg5 : Memref sig .tc .vmem S1x32x32x16 .f32) (harg5 : arg5.IsWhole) (arg6 : Memref sig .tc .vmem S35x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S384x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x384 .f32) (harg16 : arg16.IsWhole) (arg17 : Memref sig .tc .vmem S128x384 .f32) (harg17 : arg17.IsWhole) (arg18 : Memref sig .tc .vmem S1x384 .f32) (harg18 : arg18.IsWhole) (arg19 : Memref sig .tc .vmem S1x384 .f32) (harg19 : arg19.IsWhole) (arg20 : Memref sig .tc .vmem S128x384 .f32) (harg20 : arg20.IsWhole) (arg21 : Memref sig .tc .vmem S128x384 .f32) (harg21 : arg21.IsWhole) (arg22 : Memref sig .tc .vmem S1x384 .f32) (harg22 : arg22.IsWhole) (arg23 : Memref sig .tc .vmem S1x384 .f32) (harg23 : arg23.IsWhole) (arg24 : Memref sig .tc .vmem S128x128 .f32) (harg24 : arg24.IsWhole) (arg25 : Memref sig .tc .vmem S1x128 .f32) (harg25 : arg25.IsWhole) (arg26 : Memref sig .tc .vmem S128x4 .f32) (harg26 : arg26.IsWhole) (arg27 : Memref sig .tc .vmem S1x4 .f32) (harg27 : arg27.IsWhole) (arg28 : Memref sig .tc .vmem S256x256 .f32) (harg28 : arg28.IsWhole) (arg29 : Memref sig .tc .vmem S1x256 .f32) (harg29 : arg29.IsWhole) (arg30 : Memref sig .tc .vmem S256x4 .f32) (harg30 : arg30.IsWhole) (arg31 : Memref sig .tc .vmem S1x4 .f32) (harg31 : arg31.IsWhole) (arg32 : Memref sig .tc .vmem S1x32x256x4 .f32) (harg32 : arg32.IsWhole) (arg33 : Memref sig .tc .vmem S1x32x256x4 .f32) (harg33 : arg33.IsWhole) (arg34 : Memref sig .tc .vmem S1x256x128 .f32) (harg34 : arg34.IsWhole) (arg35 : Memref sig .tc .vmem S32x256x128 .f32) (harg35 : arg35.IsWhole) (arg36 : Memref sig .tc .vmem S32x256x384 .f32) (harg36 : arg36.IsWhole) (arg37 : Memref sig .tc .vmem S32x256x128 .f32) (harg37 : arg37.IsWhole) (arg38 : Memref sig .tc .vmem S32x256x128 .f32) (harg38 : arg38.IsWhole) (arg39 : Memref sig .tc .vmem S32x32x128 .f32) (harg39 : arg39.IsWhole)
    (x0 : Vec F S1x256x32x128 .f32) (x1 : Vec F S1x32x32x128 .f32) (x2 : Vec F S1x32x32x8 .f32) (x3 : Vec F S1x32x32x16 .f32) (x4 : Vec F S35x128 .f32) (x5 : Vec F S1x128 .f32) (x6 : Vec F S128x128 .f32) (x7 : Vec F S1x128 .f32) (x8 : Vec F S128x128 .f32) (x9 : Vec F S1x128 .f32) (x10 : Vec F S384x128 .f32) (x11 : Vec F S1x128 .f32) (x12 : Vec F S128x128 .f32) (x13 : Vec F S1x128 .f32) (x14 : Vec F S128x384 .f32) (x15 : Vec F S128x384 .f32) (x16 : Vec F S1x384 .f32) (x17 : Vec F S1x384 .f32) (x18 : Vec F S128x384 .f32) (x19 : Vec F S128x384 .f32) (x20 : Vec F S1x384 .f32) (x21 : Vec F S1x384 .f32) (x22 : Vec F S128x128 .f32) (x23 : Vec F S1x128 .f32) (x24 : Vec F S128x4 .f32) (x25 : Vec F S1x4 .f32) (x26 : Vec F S256x256 .f32) (x27 : Vec F S1x256 .f32) (x28 : Vec F S256x4 .f32) (x29 : Vec F S1x4 .f32)
    (fs2 : BufTy.Contents (Elt F) arg37.view.ty) (fs3 : BufTy.Contents (Elt F) arg38.view.ty) :
    Σ' (L30 : List (View.Piece (Elt F) S1x32x256x4 .f32)), Σ' (L31 : List (View.Piece (Elt F) S1x32x256x4 .f32)), { L32 : List (View.Piece (Elt F) S1x256x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (arg37.view.loc (c : Thread nD τ) ↦[arg37.view.set]{fullShare} fs2) ∗ (arg38.view.loc (c : Thread nD τ) ↦[arg38.view.set]{fullShare} fs3) ∗ (∃ d, owns (c : Thread nD τ) arg39 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare x24 ∗ owns (c : Thread nD τ) arg27 fullShare x25 ∗ owns (c : Thread nD τ) arg28 fullShare x26 ∗ owns (c : Thread nD τ) arg29 fullShare x27 ∗ owns (c : Thread nD τ) arg30 fullShare x28 ∗ owns (c : Thread nD τ) arg31 fullShare x29 ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f L31) ∗ (∃ f, arg34.view.loc (c : Thread nD τ) ↦[arg34.view.set]{fullShare} arg34.view.writes (Elt F) f L32) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d)) -∗ K ⟨⟩))
          ⊢ wp frame (wpE (defs₀ (F := F)) Variants.none c none) E (cc0__edge_rnn_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, ?_, fun E K => ?run⟩
  case run =>
    simp only [cc0__edge_rnn_kernel_eq_skeleton]; unfold cc0__edge_rnn_kernel_skel
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, ⟨%d31, %f31, -, H31⟩, ⟨%d32, %f32, -, H32⟩, ⟨%ds0, %fs0, -, HS0⟩, ⟨%ds1, %fs1, -, HS1⟩, HS2, HS3, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20; obtain rfl := harg23.eq_unread hf21; obtain rfl := harg24.eq_unread hf22; obtain rfl := harg25.eq_unread hf23; obtain rfl := harg26.eq_unread hf24; obtain rfl := harg27.eq_unread hf25; obtain rfl := harg28.eq_unread hf26; obtain rfl := harg29.eq_unread hf27; obtain rfl := harg30.eq_unread hf28; obtain rfl := harg31.eq_unread hf29
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]
    · iexists _; isplitr; · ipureintro; exact harg23.read_unread _
      iexact H21
    isplitl [H22]
    · iexists _; isplitr; · ipureintro; exact harg24.read_unread _
      iexact H22
    isplitl [H23]
    · iexists _; isplitr; · ipureintro; exact harg25.read_unread _
      iexact H23
    isplitl [H24]
    · iexists _; isplitr; · ipureintro; exact harg26.read_unread _
      iexact H24
    isplitl [H25]
    · iexists _; isplitr; · ipureintro; exact harg27.read_unread _
      iexact H25
    isplitl [H26]
    · iexists _; isplitr; · ipureintro; exact harg28.read_unread _
      iexact H26
    isplitl [H27]
    · iexists _; isplitr; · ipureintro; exact harg29.read_unread _
      iexact H27
    isplitl [H28]
    · iexists _; isplitr; · ipureintro; exact harg30.read_unread _
      iexact H28
    isplitl [H29]
    · iexists _; isplitr; · ipureintro; exact harg31.read_unread _
      iexact H29
    isplitl [H30]; · iexists _; iexact H30
    isplitl [H31]; · iexists _; iexact H31
    isplitl [H32]; · iexists _; iexact H32
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Run

end
-- ==== Proof.Run.Frame.lean ====
/- The kernel's frame: every run ends, and leaves the argument arrays as they were. -/
module

public import proofs.«01_k».proof.Proof.Run.Body
public import Idealize.ShloMosaic.Lib.Claim

@[expose] public section

-- the arrays have long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1980000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  (θ_run defs _ _).mono (fun _ h c => ⟨((h c).2 main_arg0 (Pipeline.mem_restRefs_of main_arg0 (by decide) (by decide))).trans (V_main_arg0 m c),
      (Pipeline.RDat.FramePost.arr_in h c 3 rfl).trans ((hA c 3).trans (V_main_arg1 m c)),
      (Pipeline.RDat.FramePost.arr_in h c 0 rfl).trans ((hA c 0).trans (V_main_arg2 m c)),
      (Pipeline.RDat.FramePost.arr_in h c 1 rfl).trans ((hA c 1).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c)⟩) h

/-! ## The pipeline's proof data -/

/-- The output windows this certificate FORGETS (30, 31, 32): nothing reads what the kernel leaves in them, so nothing
    of it is named (Lib/Pipeline/Dat.lean `Dat.toRForget`). -/
def forgets0 : Fin 33 → Bool := fun w => w.val == 30 || w.val == 31 || w.val == 32

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, h⟩ => Pipeline.Dat.unnamed (cfg := cfg0) ⟨30, h⟩ t
    | ⟨31, h⟩ => Pipeline.Dat.unnamed (cfg := cfg0) ⟨31, h⟩ t
    | ⟨32, h⟩ => Pipeline.Dat.unnamed (cfg := cfg0) ⟨32, h⟩ t
    | ⟨_ + 33, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare d)
    ∗ (∃ d, owns (c : Thread nD τ) (ms0_31 t) fullShare d)
    ∗ (∃ d, owns (c : Thread nD τ) (ms0_32 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ (∃ d, owns (c : Thread nD τ) (ms0_30 t) fullShare d)
    ∗ (∃ d, owns (c : Thread nD τ) (ms0_31 t) fullShare d)
    ∗ (∃ d, owns (c : Thread nD τ) (ms0_32 t) fullShare d))

/-- Scratch buffer 2 at some contents, written with the contents of its cells. -/
theorem scratch2_open (c : Dev nD) :
    (iprop(∃ d, owns (c : Thread nD τ) scM0_2 fullShare d) : sProp 𝕄)
      ⊢ iprop(∃ f, scM0_2.view.loc (c : Thread nD τ) ↦[scM0_2.view.set]{fullShare} f) := by
  unfold owns
  iintro ⟨%d, %f, %h, H⟩
  iexists f
  iexact H

/-- Scratch buffer 3 at some contents, written with the contents of its cells. -/
theorem scratch3_open (c : Dev nD) :
    (iprop(∃ d, owns (c : Thread nD τ) scM0_3 fullShare d) : sProp 𝕄)
      ⊢ iprop(∃ f, scM0_3.view.loc (c : Thread nD τ) ↦[scM0_3.view.set]{fullShare} f) := by
  unfold owns
  iintro ⟨%d, %f, %h, H⟩
  iexists f
  iexact H

/-- The cells of output window 30's buffer, handed back as the buffer at some contents. -/
theorem window30_close (c : Dev nD) (t : Fin cfg0.N) (f : BufTy.Contents (Elt F) (ms0_30 t).view.ty) :
    (iprop((ms0_30 t).view.loc (c : Thread nD τ) ↦[(ms0_30 t).view.set]{fullShare} f) : sProp 𝕄)
      ⊢ iprop(∃ d, owns (c : Thread nD τ) (ms0_30 t) fullShare d) := by
  unfold owns
  iintro H
  iexists _, f
  isplitr
  swap
  · iexact H
  ipureintro
  rfl

/-- The cells of output window 31's buffer, handed back as the buffer at some contents. -/
theorem window31_close (c : Dev nD) (t : Fin cfg0.N) (f : BufTy.Contents (Elt F) (ms0_31 t).view.ty) :
    (iprop((ms0_31 t).view.loc (c : Thread nD τ) ↦[(ms0_31 t).view.set]{fullShare} f) : sProp 𝕄)
      ⊢ iprop(∃ d, owns (c : Thread nD τ) (ms0_31 t) fullShare d) := by
  unfold owns
  iintro H
  iexists _, f
  isplitr
  swap
  · iexact H
  ipureintro
  rfl

/-- The cells of output window 32's buffer, handed back as the buffer at some contents. -/
theorem window32_close (c : Dev nD) (t : Fin cfg0.N) (f : BufTy.Contents (Elt F) (ms0_32 t).view.ty) :
    (iprop((ms0_32 t).view.loc (c : Thread nD τ) ↦[(ms0_32 t).view.set]{fullShare} f) : sProp 𝕄)
      ⊢ iprop(∃ d, owns (c : Thread nD τ) (ms0_32 t) fullShare d) := by
  unfold owns
  iintro H
  iexists _, f
  isplitr
  swap
  · iexact H
  ipureintro
  rfl

set_option maxHeartbeats 3600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  ihave HS2' := (scratch2_open c) $$ HS2
  icases HS2' with ⟨%fs2, HS2⟩
  ihave HS3' := (scratch3_open c) $$ HS3
  icases HS3' with ⟨%fs3, HS3⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) fs2 fs3).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  isplitl [H31]; · iexists _; iexact H31
  isplitl [H32]; · iexists _; iexact H32
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, H23, H24, H25, H26, H27, H28, H29, ⟨%e30, H30⟩, ⟨%e31, H31⟩, ⟨%e32, H32⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]
  · iapply (window30_close c t _) $$ H30
  isplitl [H31]
  · iapply (window31_close c t _) $$ H31
  iapply (window32_close c t _) $$ H32

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 30, 31, 32) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)) :=
  frame_of_forget m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0) :=
  θ_run_and (unchanged m ρ) ((θ_run defs _ _).mono (fun _ h => h.2) (run_main_quiescent m ρ))

end Cert.KernelIdeal.Run

end
-- ==== Proof.Ref.Groups.lean ====
/- What the reference computes before its loop, group of operations by group of operations. -/
module

public import proofs.«01_k».proof.Proof.Gen.ReferenceIdeal.Run
public import proofs.«01_k».proof.Proof.Gen.ReferenceIdeal.Step

@[expose] public section

noncomputable section

namespace Cert.Ref.Entry

open Idealize.ShloMosaic Idealize.ShloMosaic.TcCoe Idealize.SL.Sem Idealize.ShloMosaic.StableHlo
open Cert.ReferenceIdeal Cert.ReferenceIdeal.Gen Cert.ReferenceIdeal.Value Cert.ReferenceIdeal.Step

variable {F : FTy → Type} [FloatOps F]
variable (V : Valuation τ sig (Elt F))
variable (a0 : (⟨S2x32x32x8, .f32⟩ : BufTy).Contents (Elt F))
  (a1 : (⟨S2x32x32x16, .f32⟩ : BufTy).Contents (Elt F))
  (a2 : (⟨S2x1024x32x128, .f32⟩ : BufTy).Contents (Elt F))
  (a3 : (⟨S2x32x32x128, .f32⟩ : BufTy).Contents (Elt F))
  (a4 : (⟨S128x35, .f32⟩ : BufTy).Contents (Elt F))
  (a5 : (⟨S128, .f32⟩ : BufTy).Contents (Elt F))
  (a6 : (⟨S128x128, .f32⟩ : BufTy).Contents (Elt F))
  (a7 : (⟨S128, .f32⟩ : BufTy).Contents (Elt F))
  (a8 : (⟨S128x128, .f32⟩ : BufTy).Contents (Elt F))
  (a9 : (⟨S128, .f32⟩ : BufTy).Contents (Elt F))
  (a10 : (⟨S128x384, .f32⟩ : BufTy).Contents (Elt F))
  (a11 : (⟨S128, .f32⟩ : BufTy).Contents (Elt F))
  (a12 : (⟨S128x128, .f32⟩ : BufTy).Contents (Elt F))
  (a13 : (⟨S128, .f32⟩ : BufTy).Contents (Elt F))

set_option maxHeartbeats 4000000 in
/-- The group leaves `main_v0` at its value. -/
theorem g0_v0 (h_arg0 : V (Proc.devRef .tc main_arg0) = a0) :
    after hostOps0 V (Proc.devRef .tc main_v0) = A_main_v0 a0 a1 a2 a3 a4 a5 a6 a7 a8 a9 a10 a11 a12 a13 := by
  after_reads_simp
  rw [h_arg0]
  rfl

set_option maxHeartbeats 4000000 in
/-- The group leaves `main_v1` at its value. -/
theorem g0_v1 (h_arg0 : V (Proc.devRef .tc main_arg0) = a0) :
    after hostOps0 V (Proc.devRef .tc main_v1) = A_main_v1 a0 a1 a2 a3 a4 a5 a6 a7 a8 a9 a10 a11 a12 a13 := by
  after_reads_simp
  rw [h_arg0]
  rfl

set_option maxHeartbeats 4000000 in
/-- A part of the concatenation. -/
theorem u0_v11 (h_arg0 : V (Proc.devRef .tc main_arg0) = a0) :
    upto hostOps0 V 20 (Proc.devRef .tc main_v11) = A_main_v11 a0 a1 a2 a3 a4 a5 a6 a7 a8 a9 a10 a11 a12 a13 := by
  after_reads_simp
  rw [h_arg0]
  try rfl

set_option maxHeartbeats 4000000 in
/-- A part of the concatenation. -/
theorem u0_v12 (h_arg0 : V (Proc.devRef .tc main_arg0) = a0) :
    upto hostOps0 V 20 (Proc.devRef .tc main_v12) = A_main_v12 a0 a1 a2 a3 a4 a5 a6 a7 a8 a9 a10 a11 a12 a13 := by
  after_reads_simp
  rw [h_arg0]
  try rfl

set_option maxHeartbeats 4000000 in
/-- A part of the concatenation. -/
theorem u0_v8 (h_arg0 : V (Proc.devRef .tc main_arg0) = a0) :
    upto hostOps0 V 20 (Proc.devRef .tc main_v8) = A_main_v8 a0 a1 a2 a3 a4 a5 a6 a7 a8 a9 a10 a11 a12 a13 := by
  after_reads_simp
  rw [h_arg0]
  try rfl

set_option maxHeartbeats 4000000 in
/-- A part of the concatenation. -/
theorem u0_v10 (h_arg0 : V (Proc.devRef .tc main_arg0) = a0) :
    upto hostOps0 V 20 (Proc.devRef .tc main_v10) = A_main_v10 a0 a1 a2 a3 a4 a5 a6 a7 a8 a9 a10 a11 a12 a13 := by
  after_reads_simp
  rw [h_arg0]
  try rfl

set_option maxHeartbeats 4000000 in
/-- A part of the concatenation. -/
theorem u0_v19 (h_arg0 : V (Proc.devRef .tc main_arg0) = a0) :
    upto hostOps0 V 20 (Proc.devRef .tc main_v19) = A_main_v19 a0 a1 a2 a3 a4 a5 a6 a7 a8 a9 a10 a11 a12 a13 := by
  after_reads_simp
  rw [h_arg0]
  try rfl

set_option maxHeartbeats 4000000 in
/-- The group leaves `main_v20` at its value. -/
theorem g0_v20 (h_arg0 : V (Proc.devRef .tc main_arg0) = a0) :
    after hostOps0 V (Proc.devRef .tc main_v20) = A_main_v20 a0 a1 a2 a3 a4 a5 a6 a7 a8 a9 a10 a11 a12 a13 := by
  after_reads_simp
  erw [u0_v11 V a0 a1 a2 a3 a4 a5 a6 a7 a8 a9 a10 a11 a12 a13 h_arg0, u0_v12 V a0 a1 a2 a3 a4 a5 a6 a7 a8 a9 a10 a11 a12 a13 h_arg0, u0_v8 V a0 a1 a2 a3 a4 a5 a6 a7 a8 a9 a10 a11 a12 a13 h_arg0, u0_v10 V a0 a1 a2 a3 a4 a5 a6 a7 a8 a9 a10 a11 a12 a13 h_arg0, u0_v19 V a0 a1 a2 a3 a4 a5 a6 a7 a8 a9 a10 a11 a12 a13 h_arg0]
  rfl

set_option maxHeartbeats 4000000 in
/-- The mask of the other senders. -/
theorem g0_v28 : after hostOps0 V (Proc.devRef .tc main_v28) = K_main_v28 := by
  after_reads_simp
  rfl

set_option maxHeartbeats 4000000 in
/-- The zero of the mask. -/
theorem g0_cst : after hostOps0 V (Proc.devRef .tc main_cst) = K_main_cst := by
  after_reads_simp
  rfl

set_option maxHeartbeats 4000000 in
/-- The group leaves `main_v29` at its value. -/
theorem g1_v29 (h_v28 : V (Proc.devRef .tc main_v28) = K_main_v28) (h_v20 : V (Proc.devRef .tc main_v20) = A_main_v20 a0 a1 a2 a3 a4 a5 a6 a7 a8 a9 a10 a11 a12 a13) (h_cst : V (Proc.devRef .tc main_cst) = K_main_cst) :
    after hostOps0_1 V (Proc.devRef .tc main_v29) = A_main_v29 a0 a1 a2 a3 a4 a5 a6 a7 a8 a9 a10 a11 a12 a13 := by
  after_reads_simp
  rw [h_v28, h_v20, h_cst]
  rfl

/-- This group leaves `main_v0` alone. -/
theorem k1_v0 : after hostOps0_1 V (Proc.devRef .tc main_v0) = V (Proc.devRef .tc main_v0) :=
  after_of_writes_sub hostOps0_1 V hostOps0_1_writes (by decide +kernel)

/-- This group leaves `main_v1` alone. -/
theorem k1_v1 : after hostOps0_1 V (Proc.devRef .tc main_v1) = V (Proc.devRef .tc main_v1) :=
  after_of_writes_sub hostOps0_1 V hostOps0_1_writes (by decide +kernel)

set_option maxHeartbeats 4000000 in
/-- A part of the concatenation. -/
theorem u2_v0 (h_v0 : V (Proc.devRef .tc main_v0) = A_main_v0 a0 a1 a2 a3 a4 a5 a6 a7 a8 a9 a10 a11 a12 a13) :
    upto hostOps0_2 V 5 (Proc.devRef .tc main_v0) = A_main_v0 a0 a1 a2 a3 a4 a5 a6 a7 a8 a9 a10 a11 a12 a13 := by
  after_reads_simp
  rw [h_v0]
  try rfl

set_option maxHeartbeats 4000000 in
/-- A part of the concatenation. -/
theorem u2_v32 (h_v29 : V (Proc.devRef .tc main_v29) = A_main_v29 a0 a1 a2 a3 a4 a5 a6 a7 a8 a9 a10 a11 a12 a13) :
    upto hostOps0_2 V 5 (Proc.devRef .tc main_v32) = A_main_v32 a0 a1 a2 a3 a4 a5 a6 a7 a8 a9 a10 a11 a12 a13 := by
  after_reads_simp
  rw [h_v29]
  try rfl

set_option maxHeartbeats 4000000 in
/-- A part of the concatenation. -/
theorem u2_v1 (h_v1 : V (Proc.devRef .tc main_v1) = A_main_v1 a0 a1 a2 a3 a4 a5 a6 a7 a8 a9 a10 a11 a12 a13) :
    upto hostOps0_2 V 5 (Proc.devRef .tc main_v1) = A_main_v1 a0 a1 a2 a3 a4 a5 a6 a7 a8 a9 a10 a11 a12 a13 := by
  after_reads_simp
  rw [h_v1]
  try rfl

set_option maxHeartbeats 4000000 in
/-- A part of the concatenation. -/
theorem u2_v33 (h_v29 : V (Proc.devRef .tc main_v29) = A_main_v29 a0 a1 a2 a3 a4 a5 a6 a7 a8 a9 a10 a11 a12 a13) (h_v0 : V (Proc.devRef .tc main_v0) = A_main_v0 a0 a1 a2 a3 a4 a5 a6 a7 a8 a9 a10 a11 a12 a13) (h_v1 : V (Proc.devRef .tc main_v1) = A_main_v1 a0 a1 a2 a3 a4 a5 a6 a7 a8 a9 a10 a11 a12 a13) :
    upto hostOps0_2 V 6 (Proc.devRef .tc main_v33) = A_main_v33 a0 a1 a2 a3 a4 a5 a6 a7 a8 a9 a10 a11 a12 a13 := by
  after_reads_simp
  erw [u2_v0 V a0 a1 a2 a3 a4 a5 a6 a7 a8 a9 a10 a11 a12 a13 h_v0, u2_v32 V a0 a1 a2 a3 a4 a5 a6 a7 a8 a9 a10 a11 a12 a13 h_v29, u2_v1 V a0 a1 a2 a3 a4 a5 a6 a7 a8 a9 a10 a11 a12 a13 h_v1]
  rfl

set_option maxHeartbeats 4000000 in
/-- A part of the concatenation. -/
theorem u2_arg1 (h_arg1 : V (Proc.devRef .tc main_arg1) = a1) :
    upto hostOps0_2 V 6 (Proc.devRef .tc main_arg1) = a1 := by
  after_reads_simp
  exact h_arg1

set_option maxHeartbeats 4000000 in
/-- The group leaves `main_v47` at its value. -/
theorem g2_v47 (h_v29 : V (Proc.devRef .tc main_v29) = A_main_v29 a0 a1 a2 a3 a4 a5 a6 a7 a8 a9 a10 a11 a12 a13) (h_v0 : V (Proc.devRef .tc main_v0) = A_main_v0 a0 a1 a2 a3 a4 a5 a6 a7 a8 a9 a10 a11 a12 a13) (h_v1 : V (Proc.devRef .tc main_v1) = A_main_v1 a0 a1 a2 a3 a4 a5 a6 a7 a8 a9 a10 a11 a12 a13) (h_arg1 : V (Proc.devRef .tc main_arg1) = a1) (h_arg4 : V (Proc.devRef .tc main_arg4) = a4) (h_arg5 : V (Proc.devRef .tc main_arg5) = a5) (h_arg3 : V (Proc.devRef .tc main_arg3) = a3) (h_arg6 : V (Proc.devRef .tc main_arg6) = a6) (h_arg7 : V (Proc.devRef .tc main_arg7) = a7) :
    after hostOps0_2 V (Proc.devRef .tc main_v47) = A_main_v47 a0 a1 a2 a3 a4 a5 a6 a7 a8 a9 a10 a11 a12 a13 := by
  after_reads_simp
  erw [u2_v33 V a0 a1 a2 a3 a4 a5 a6 a7 a8 a9 a10 a11 a12 a13 h_v29 h_v0 h_v1, u2_arg1 V a1 h_arg1, h_arg4, h_arg5, h_arg3, h_arg6, h_arg7]
  rfl

set_option maxHeartbeats 4000000 in
/-- The group leaves `main_v49` at its value. -/
theorem g2_v49 (h_v29 : V (Proc.devRef .tc main_v29) = A_main_v29 a0 a1 a2 a3 a4 a5 a6 a7 a8 a9 a10 a11 a12 a13) (h_v0 : V (Proc.devRef .tc main_v0) = A_main_v0 a0 a1 a2 a3 a4 a5 a6 a7 a8 a9 a10 a11 a12 a13) (h_v1 : V (Proc.devRef .tc main_v1) = A_main_v1 a0 a1 a2 a3 a4 a5 a6 a7 a8 a9 a10 a11 a12 a13) (h_arg1 : V (Proc.devRef .tc main_arg1) = a1) (h_arg4 : V (Proc.devRef .tc main_arg4) = a4) (h_arg5 : V (Proc.devRef .tc main_arg5) = a5) (h_arg3 : V (Proc.devRef .tc main_arg3) = a3) (h_arg6 : V (Proc.devRef .tc main_arg6) = a6) (h_arg7 : V (Proc.devRef .tc main_arg7) = a7) :
    after hostOps0_2 V (Proc.devRef .tc main_v49) = A_main_v49 a0 a1 a2 a3 a4 a5 a6 a7 a8 a9 a10 a11 a12 a13 := by
  after_reads_simp
  erw [u2_v33 V a0 a1 a2 a3 a4 a5 a6 a7 a8 a9 a10 a11 a12 a13 h_v29 h_v0 h_v1, u2_arg1 V a1 h_arg1, h_arg4, h_arg5, h_arg3, h_arg6, h_arg7]
  rfl

set_option maxHeartbeats 4000000 in
/-- The group leaves `main_v50` at its value. -/
theorem g2_v50 (h_v29 : V (Proc.devRef .tc main_v29) = A_main_v29 a0 a1 a2 a3 a4 a5 a6 a7 a8 a9 a10 a11 a12 a13) (h_v0 : V (Proc.devRef .tc main_v0) = A_main_v0 a0 a1 a2 a3 a4 a5 a6 a7 a8 a9 a10 a11 a12 a13) (h_v1 : V (Proc.devRef .tc main_v1) = A_main_v1 a0 a1 a2 a3 a4 a5 a6 a7 a8 a9 a10 a11 a12 a13) (h_arg1 : V (Proc.devRef .tc main_arg1) = a1) (h_arg4 : V (Proc.devRef .tc main_arg4) = a4) (h_arg5 : V (Proc.devRef .tc main_arg5) = a5) (h_arg3 : V (Proc.devRef .tc main_arg3) = a3) (h_arg6 : V (Proc.devRef .tc main_arg6) = a6) (h_arg7 : V (Proc.devRef .tc main_arg7) = a7) :
    after hostOps0_2 V (Proc.devRef .tc main_v50) = A_main_v50 a0 a1 a2 a3 a4 a5 a6 a7 a8 a9 a10 a11 a12 a13 := by
  after_reads_simp
  erw [u2_v33 V a0 a1 a2 a3 a4 a5 a6 a7 a8 a9 a10 a11 a12 a13 h_v29 h_v0 h_v1, u2_arg1 V a1 h_arg1, h_arg4, h_arg5, h_arg3, h_arg6, h_arg7]
  rfl

set_option maxHeartbeats 4000000 in
/-- The group leaves `main_v51` at its value. -/
theorem g3_v51 (h_v49 : V (Proc.devRef .tc main_v49) = A_main_v49 a0 a1 a2 a3 a4 a5 a6 a7 a8 a9 a10 a11 a12 a13) (h_v47 : V (Proc.devRef .tc main_v47) = A_main_v47 a0 a1 a2 a3 a4 a5 a6 a7 a8 a9 a10 a11 a12 a13) (h_v50 : V (Proc.devRef .tc main_v50) = A_main_v50 a0 a1 a2 a3 a4 a5 a6 a7 a8 a9 a10 a11 a12 a13) :
    after hostOps0_3 V (Proc.devRef .tc main_v51) = A_main_v51 a0 a1 a2 a3 a4 a5 a6 a7 a8 a9 a10 a11 a12 a13 := by
  after_reads_simp
  rw [h_v49, h_v47, h_v50]
  rfl

set_option maxHeartbeats 4000000 in
/-- The group leaves `main_v56` at its value. -/
theorem g4_v56 (h_v51 : V (Proc.devRef .tc main_v51) = A_main_v51 a0 a1 a2 a3 a4 a5 a6 a7 a8 a9 a10 a11 a12 a13) (h_arg8 : V (Proc.devRef .tc main_arg8) = a8) (h_arg9 : V (Proc.devRef .tc main_arg9) = a9) :
    after hostOps0_4 V (Proc.devRef .tc main_v56) = A_main_v56 a0 a1 a2 a3 a4 a5 a6 a7 a8 a9 a10 a11 a12 a13 := by
  after_reads_simp
  rw [h_v51, h_arg8, h_arg9]
  rfl

set_option maxHeartbeats 4000000 in
/-- The group leaves `main_v58` at its value. -/
theorem g4_v58 (h_v51 : V (Proc.devRef .tc main_v51) = A_main_v51 a0 a1 a2 a3 a4 a5 a6 a7 a8 a9 a10 a11 a12 a13) (h_arg8 : V (Proc.devRef .tc main_arg8) = a8) (h_arg9 : V (Proc.devRef .tc main_arg9) = a9) :
    after hostOps0_4 V (Proc.devRef .tc main_v58) = A_main_v58 a0 a1 a2 a3 a4 a5 a6 a7 a8 a9 a10 a11 a12 a13 := by
  after_reads_simp
  rw [h_v51, h_arg8, h_arg9]
  rfl

set_option maxHeartbeats 4000000 in
/-- The group leaves `main_v59` at its value. -/
theorem g4_v59 (h_v51 : V (Proc.devRef .tc main_v51) = A_main_v51 a0 a1 a2 a3 a4 a5 a6 a7 a8 a9 a10 a11 a12 a13) (h_arg8 : V (Proc.devRef .tc main_arg8) = a8) (h_arg9 : V (Proc.devRef .tc main_arg9) = a9) :
    after hostOps0_4 V (Proc.devRef .tc main_v59) = A_main_v59 a0 a1 a2 a3 a4 a5 a6 a7 a8 a9 a10 a11 a12 a13 := by
  after_reads_simp
  rw [h_v51, h_arg8, h_arg9]
  rfl

set_option maxHeartbeats 4000000 in
/-- The group leaves `main_v60` at its value. -/
theorem g5_v60 (h_v58 : V (Proc.devRef .tc main_v58) = A_main_v58 a0 a1 a2 a3 a4 a5 a6 a7 a8 a9 a10 a11 a12 a13) (h_v56 : V (Proc.devRef .tc main_v56) = A_main_v56 a0 a1 a2 a3 a4 a5 a6 a7 a8 a9 a10 a11 a12 a13) (h_v59 : V (Proc.devRef .tc main_v59) = A_main_v59 a0 a1 a2 a3 a4 a5 a6 a7 a8 a9 a10 a11 a12 a13) :
    after hostOps0_5 V (Proc.devRef .tc main_v60) = A_main_v60 a0 a1 a2 a3 a4 a5 a6 a7 a8 a9 a10 a11 a12 a13 := by
  after_reads_simp
  rw [h_v58, h_v56, h_v59]
  rfl

set_option maxHeartbeats 4000000 in
/-- A part of the concatenation. -/
theorem u6_v63 (h_v60 : V (Proc.devRef .tc main_v60) = A_main_v60 a0 a1 a2 a3 a4 a5 a6 a7 a8 a9 a10 a11 a12 a13) :
    upto hostOps0_6 V 6 (Proc.devRef .tc main_v63) = A_main_v63 a0 a1 a2 a3 a4 a5 a6 a7 a8 a9 a10 a11 a12 a13 := by
  after_reads_simp
  rw [h_v60]
  rfl

set_option maxHeartbeats 4000000 in
/-- A part of the concatenation. -/
theorem u6_v66 (h_v60 : V (Proc.devRef .tc main_v60) = A_main_v60 a0 a1 a2 a3 a4 a5 a6 a7 a8 a9 a10 a11 a12 a13) :
    upto hostOps0_6 V 6 (Proc.devRef .tc main_v66) = A_main_v66 a0 a1 a2 a3 a4 a5 a6 a7 a8 a9 a10 a11 a12 a13 := by
  after_reads_simp
  rw [h_v60]
  rfl

set_option maxHeartbeats 4000000 in
/-- A part of the concatenation. -/
theorem u6_arg2 (h_arg2 : V (Proc.devRef .tc main_arg2) = a2) :
    upto hostOps0_6 V 6 (Proc.devRef .tc main_arg2) = a2 := by
  after_reads_simp
  exact h_arg2

set_option maxHeartbeats 4000000 in
/-- The group leaves `main_v72` at its value. -/
theorem g6_v72 (h_v60 : V (Proc.devRef .tc main_v60) = A_main_v60 a0 a1 a2 a3 a4 a5 a6 a7 a8 a9 a10 a11 a12 a13) (h_arg2 : V (Proc.devRef .tc main_arg2) = a2) (h_arg10 : V (Proc.devRef .tc main_arg10) = a10) (h_arg11 : V (Proc.devRef .tc main_arg11) = a11) :
    after hostOps0_6 V (Proc.devRef .tc main_v72) = A_main_v72 a0 a1 a2 a3 a4 a5 a6 a7 a8 a9 a10 a11 a12 a13 := by
  after_reads_simp
  erw [u6_v63 V a0 a1 a2 a3 a4 a5 a6 a7 a8 a9 a10 a11 a12 a13 h_v60, u6_v66 V a0 a1 a2 a3 a4 a5 a6 a7 a8 a9 a10 a11 a12 a13 h_v60, u6_arg2 V a2 h_arg2, h_arg10, h_arg11]
  rfl

set_option maxHeartbeats 4000000 in
/-- The group leaves `main_v74` at its value. -/
theorem g6_v74 (h_v60 : V (Proc.devRef .tc main_v60) = A_main_v60 a0 a1 a2 a3 a4 a5 a6 a7 a8 a9 a10 a11 a12 a13) (h_arg2 : V (Proc.devRef .tc main_arg2) = a2) (h_arg10 : V (Proc.devRef .tc main_arg10) = a10) (h_arg11 : V (Proc.devRef .tc main_arg11) = a11) :
    after hostOps0_6 V (Proc.devRef .tc main_v74) = A_main_v74 a0 a1 a2 a3 a4 a5 a6 a7 a8 a9 a10 a11 a12 a13 := by
  after_reads_simp
  erw [u6_v63 V a0 a1 a2 a3 a4 a5 a6 a7 a8 a9 a10 a11 a12 a13 h_v60, u6_v66 V a0 a1 a2 a3 a4 a5 a6 a7 a8 a9 a10 a11 a12 a13 h_v60, u6_arg2 V a2 h_arg2, h_arg10, h_arg11]
  rfl

set_option maxHeartbeats 4000000 in
/-- The group leaves `main_v75` at its value. -/
theorem g6_v75 (h_v60 : V (Proc.devRef .tc main_v60) = A_main_v60 a0 a1 a2 a3 a4 a5 a6 a7 a8 a9 a10 a11 a12 a13) (h_arg2 : V (Proc.devRef .tc main_arg2) = a2) (h_arg10 : V (Proc.devRef .tc main_arg10) = a10) (h_arg11 : V (Proc.devRef .tc main_arg11) = a11) :
    after hostOps0_6 V (Proc.devRef .tc main_v75) = A_main_v75 a0 a1 a2 a3 a4 a5 a6 a7 a8 a9 a10 a11 a12 a13 := by
  after_reads_simp
  erw [u6_v63 V a0 a1 a2 a3 a4 a5 a6 a7 a8 a9 a10 a11 a12 a13 h_v60, u6_v66 V a0 a1 a2 a3 a4 a5 a6 a7 a8 a9 a10 a11 a12 a13 h_v60, u6_arg2 V a2 h_arg2, h_arg10, h_arg11]
  rfl

set_option maxHeartbeats 4000000 in
/-- The group leaves `main_v76` at its value. -/
theorem g7_v76 (h_v74 : V (Proc.devRef .tc main_v74) = A_main_v74 a0 a1 a2 a3 a4 a5 a6 a7 a8 a9 a10 a11 a12 a13) (h_v72 : V (Proc.devRef .tc main_v72) = A_main_v72 a0 a1 a2 a3 a4 a5 a6 a7 a8 a9 a10 a11 a12 a13) (h_v75 : V (Proc.devRef .tc main_v75) = A_main_v75 a0 a1 a2 a3 a4 a5 a6 a7 a8 a9 a10 a11 a12 a13) :
    after hostOps0_7 V (Proc.devRef .tc main_v76) = A_main_v76 a0 a1 a2 a3 a4 a5 a6 a7 a8 a9 a10 a11 a12 a13 := by
  after_reads_simp
  rw [h_v74, h_v72, h_v75]
  rfl

set_option maxHeartbeats 4000000 in
/-- The group leaves `main_v81` at its value. -/
theorem g8_v81 (h_v76 : V (Proc.devRef .tc main_v76) = A_main_v76 a0 a1 a2 a3 a4 a5 a6 a7 a8 a9 a10 a11 a12 a13) (h_arg12 : V (Proc.devRef .tc main_arg12) = a12) (h_arg13 : V (Proc.devRef .tc main_arg13) = a13) :
    after hostOps0_8 V (Proc.devRef .tc main_v81) = A_main_v81 a0 a1 a2 a3 a4 a5 a6 a7 a8 a9 a10 a11 a12 a13 := by
  after_reads_simp
  rw [h_v76, h_arg12, h_arg13]
  rfl

set_option maxHeartbeats 4000000 in
/-- The group leaves `main_v83` at its value. -/
theorem g8_v83 (h_v76 : V (Proc.devRef .tc main_v76) = A_main_v76 a0 a1 a2 a3 a4 a5 a6 a7 a8 a9 a10 a11 a12 a13) (h_arg12 : V (Proc.devRef .tc main_arg12) = a12) (h_arg13 : V (Proc.devRef .tc main_arg13) = a13) :
    after hostOps0_8 V (Proc.devRef .tc main_v83) = A_main_v83 a0 a1 a2 a3 a4 a5 a6 a7 a8 a9 a10 a11 a12 a13 := by
  after_reads_simp
  rw [h_v76, h_arg12, h_arg13]
  rfl

set_option maxHeartbeats 4000000 in
/-- The group leaves `main_v84` at its value. -/
theorem g8_v84 (h_v76 : V (Proc.devRef .tc main_v76) = A_main_v76 a0 a1 a2 a3 a4 a5 a6 a7 a8 a9 a10 a11 a12 a13) (h_arg12 : V (Proc.devRef .tc main_arg12) = a12) (h_arg13 : V (Proc.devRef .tc main_arg13) = a13) :
    after hostOps0_8 V (Proc.devRef .tc main_v84) = A_main_v84 a0 a1 a2 a3 a4 a5 a6 a7 a8 a9 a10 a11 a12 a13 := by
  after_reads_simp
  rw [h_v76, h_arg12, h_arg13]
  rfl

set_option maxHeartbeats 4000000 in
/-- The group leaves `main_v85` at its value. -/
theorem g9_v85 (h_v83 : V (Proc.devRef .tc main_v83) = A_main_v83 a0 a1 a2 a3 a4 a5 a6 a7 a8 a9 a10 a11 a12 a13) (h_v81 : V (Proc.devRef .tc main_v81) = A_main_v81 a0 a1 a2 a3 a4 a5 a6 a7 a8 a9 a10 a11 a12 a13) (h_v84 : V (Proc.devRef .tc main_v84) = A_main_v84 a0 a1 a2 a3 a4 a5 a6 a7 a8 a9 a10 a11 a12 a13) :
    after hostOps0_9 V (Proc.devRef .tc main_v85) = A_main_v85 a0 a1 a2 a3 a4 a5 a6 a7 a8 a9 a10 a11 a12 a13 := by
  after_reads_simp
  rw [h_v83, h_v81, h_v84]
  rfl

set_option maxHeartbeats 4000000 in
/-- The group hands the forward inputs to the loop. -/
theorem g10_v92_0 (h_v85 : V (Proc.devRef .tc main_v85) = A_main_v85 a0 a1 a2 a3 a4 a5 a6 a7 a8 a9 a10 a11 a12 a13) :
    after hostOps0_10 V (Proc.devRef .tc main_v92_0) = A_main_v88 a0 a1 a2 a3 a4 a5 a6 a7 a8 a9 a10 a11 a12 a13 := by
  after_reads_simp
  rw [h_v85]
  rfl

set_option maxHeartbeats 4000000 in
/-- The group hands the reverse inputs to the loop. -/
theorem g10_v92_1 (h_v85 : V (Proc.devRef .tc main_v85) = A_main_v85 a0 a1 a2 a3 a4 a5 a6 a7 a8 a9 a10 a11 a12 a13) :
    after hostOps0_10 V (Proc.devRef .tc main_v92_1) = A_main_v89 a0 a1 a2 a3 a4 a5 a6 a7 a8 a9 a10 a11 a12 a13 := by
  after_reads_simp
  rw [h_v85]
  rfl

set_option maxHeartbeats 4000000 in
/-- A weight handed to the loop. -/
theorem g10_v92_2 : after hostOps0_10 V (Proc.devRef .tc main_v92_2) = V (Proc.devRef .tc main_arg14) := by
  after_reads_simp
  rfl

set_option maxHeartbeats 4000000 in
/-- A weight handed to the loop. -/
theorem g10_v92_3 : after hostOps0_10 V (Proc.devRef .tc main_v92_3) = V (Proc.devRef .tc main_arg16) := by
  after_reads_simp
  rfl

set_option maxHeartbeats 4000000 in
/-- A weight handed to the loop. -/
theorem g10_v92_4 : after hostOps0_10 V (Proc.devRef .tc main_v92_4) = V (Proc.devRef .tc main_arg15) := by
  after_reads_simp
  rfl

set_option maxHeartbeats 4000000 in
/-- A weight handed to the loop. -/
theorem g10_v92_5 : after hostOps0_10 V (Proc.devRef .tc main_v92_5) = V (Proc.devRef .tc main_arg17) := by
  after_reads_simp
  rfl

set_option maxHeartbeats 4000000 in
/-- A weight handed to the loop. -/
theorem g10_v92_6 : after hostOps0_10 V (Proc.devRef .tc main_v92_6) = V (Proc.devRef .tc main_arg18) := by
  after_reads_simp
  rfl

set_option maxHeartbeats 4000000 in
/-- A weight handed to the loop. -/
theorem g10_v92_7 : after hostOps0_10 V (Proc.devRef .tc main_v92_7) = V (Proc.devRef .tc main_arg20) := by
  after_reads_simp
  rfl

set_option maxHeartbeats 4000000 in
/-- A weight handed to the loop. -/
theorem g10_v92_8 : after hostOps0_10 V (Proc.devRef .tc main_v92_8) = V (Proc.devRef .tc main_arg19) := by
  after_reads_simp
  rfl

set_option maxHeartbeats 4000000 in
/-- A weight handed to the loop. -/
theorem g10_v92_9 : after hostOps0_10 V (Proc.devRef .tc main_v92_9) = V (Proc.devRef .tc main_arg21) := by
  after_reads_simp
  rfl

set_option maxHeartbeats 4000000 in
/-- A carried value starts at zero. -/
theorem g10_v92_11 : after hostOps0_10 V (Proc.devRef .tc main_v92_11) = K_main_v87 := by
  after_reads_simp
  rfl

set_option maxHeartbeats 4000000 in
/-- A carried value starts at zero. -/
theorem g10_v92_12 : after hostOps0_10 V (Proc.devRef .tc main_v92_12) = K_main_v87 := by
  after_reads_simp
  rfl

set_option maxHeartbeats 4000000 in
/-- A carried value starts at zero. -/
theorem g10_v92_13 : after hostOps0_10 V (Proc.devRef .tc main_v92_13) = K_main_v90 := by
  after_reads_simp
  rfl

set_option maxHeartbeats 4000000 in
/-- A carried value starts at zero. -/
theorem g10_v92_14 : after hostOps0_10 V (Proc.devRef .tc main_v92_14) = K_main_v91 := by
  after_reads_simp
  rfl

set_option maxHeartbeats 4000000 in
/-- The counter starts at zero. -/
theorem g10_v92_10 : after hostOps0_10 V (Proc.devRef .tc main_v92_10) = constantI S_ 32 (BitVec.ofNat 32 0) := by
  after_reads_simp
  rfl

end Cert.Ref.Entry

end
-- ==== Proof.Ref.StepAl.lean ====
/- One trip of the reference's loop is the step function on the state it carries. -/
module

public import proofs.«01_k».proof.Proof.Gen.ReferenceIdeal.Run
public import proofs.«01_k».proof.Proof.Gen.ReferenceIdeal.Step

@[expose] public section

noncomputable section

namespace Cert.ReferenceIdeal.StepRunK

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_11 : V0 (Proc.devRef .tc main_v92_11) = s.main_v92_11
  f_12 : V0 (Proc.devRef .tc main_v92_12) = s.main_v92_12
  f_13 : V0 (Proc.devRef .tc main_v92_13) = s.main_v92_13
  f_14 : V0 (Proc.devRef .tc main_v92_14) = s.main_v92_14
  f_0 : V0 (Proc.devRef .tc main_v92_0) = s.main_v92_0
  f_1 : V0 (Proc.devRef .tc main_v92_1) = s.main_v92_1
  f_2 : V0 (Proc.devRef .tc main_v92_2) = s.main_v92_2
  f_3 : V0 (Proc.devRef .tc main_v92_3) = s.main_v92_3
  f_4 : V0 (Proc.devRef .tc main_v92_4) = s.main_v92_4
  f_5 : V0 (Proc.devRef .tc main_v92_5) = s.main_v92_5
  f_6 : V0 (Proc.devRef .tc main_v92_6) = s.main_v92_6
  f_7 : V0 (Proc.devRef .tc main_v92_7) = s.main_v92_7
  f_8 : V0 (Proc.devRef .tc main_v92_8) = s.main_v92_8
  f_9 : V0 (Proc.devRef .tc main_v92_9) = s.main_v92_9
  n_10 : V0 (Proc.devRef .tc main_v92_10) = constantI S_ 32 (BitVec.ofNat 32 j)

variable {V0 s j}

set_option maxRecDepth 8192 in
theorem al_0 (h : Holds V0 s j) : (constantI S_ 32 0#32 : (Proc.devRef .tc main_while0b_call5_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call5_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x2048x128 (V0 (Proc.devRef .tc main_v92_0)) (fun k => (((![V0 (Proc.devRef .tc main_v92_10), constantI S_ 32 0#32, constantI S_ 32 0#32] : Fin 3 → (⟨S_, .i32⟩ : BufTy).Contents (Elt F))) k (Shape.Idx.first h_S_)).toInt) sliceFits_S32x2048x128_S1x2048x128 : (Proc.devRef .tc main_while0b_call5_v0 : DevRef τ sig).ty.Contents (Elt F)) = Cert.ReferenceIdeal.Step.b2 j s := by
  unfold Cert.ReferenceIdeal.Step.b2
  rw [← al_0 h, ← al_1 h, h.f_0, h.n_10]
  try rfl
set_option maxRecDepth 8192 in
theorem al_3 (h : Holds V0 s j) : (shapeCast S2048x128 (Host.dynamicSlice S1x2048x128 (V0 (Proc.devRef .tc main_v92_0)) (fun k => (((![V0 (Proc.devRef .tc main_v92_10), constantI S_ 32 0#32, constantI S_ 32 0#32] : Fin 3 → (⟨S_, .i32⟩ : BufTy).Contents (Elt F))) k (Shape.Idx.first h_S_)).toInt) sliceFits_S32x2048x128_S1x2048x128) shapeCasts_S1x2048x128_S2048x128 : (Proc.devRef .tc main_while0b_v130 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call6_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call6_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x2048x128 (V0 (Proc.devRef .tc main_v92_1)) (fun k => (((![V0 (Proc.devRef .tc main_v92_10), constantI S_ 32 0#32, constantI S_ 32 0#32] : Fin 3 → (⟨S_, .i32⟩ : BufTy).Contents (Elt F))) k (Shape.Idx.first h_S_)).toInt) sliceFits_S32x2048x128_S1x2048x128 : (Proc.devRef .tc main_while0b_call6_v0 : DevRef τ sig).ty.Contents (Elt F)) = Cert.ReferenceIdeal.Step.b6 j s := by
  unfold Cert.ReferenceIdeal.Step.b6
  rw [← al_4 h, ← al_5 h, h.f_1, h.n_10]
  try rfl
set_option maxRecDepth 8192 in
theorem al_7 (h : Holds V0 s j) : (shapeCast S2048x128 (Host.dynamicSlice S1x2048x128 (V0 (Proc.devRef .tc main_v92_1)) (fun k => (((![V0 (Proc.devRef .tc main_v92_10), constantI S_ 32 0#32, constantI S_ 32 0#32] : Fin 3 → (⟨S_, .i32⟩ : BufTy).Contents (Elt F))) k (Shape.Idx.first h_S_)).toInt) sliceFits_S32x2048x128_S1x2048x128) shapeCasts_S1x2048x128_S2048x128 : (Proc.devRef .tc main_while0b_v131 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (transpose S128x384 [1, 0] (V0 (Proc.devRef .tc main_v92_2)) transposes_S384x128_S128x384_1_0 : (Proc.devRef .tc main_while0b_v132 : DevRef τ sig).ty.Contents (Elt F)) = Cert.ReferenceIdeal.Step.b8 j s := by
  unfold Cert.ReferenceIdeal.Step.b8
  rw [h.f_2]
  try rfl
set_option maxRecDepth 8192 in
theorem al_9 (h : Holds V0 s j) : (Host.dotGeneral dot_S2048x128_S128x384_S2048x384_1_0_0_1_n_n none (shapeCast S2048x128 (Host.dynamicSlice S1x2048x128 (V0 (Proc.devRef .tc main_v92_0)) (fun k => (((![V0 (Proc.devRef .tc main_v92_10), constantI S_ 32 0#32, constantI S_ 32 0#32] : Fin 3 → (⟨S_, .i32⟩ : BufTy).Contents (Elt F))) k (Shape.Idx.first h_S_)).toInt) sliceFits_S32x2048x128_S1x2048x128) shapeCasts_S1x2048x128_S2048x128) (transpose S128x384 [1, 0] (V0 (Proc.devRef .tc main_v92_2)) transposes_S384x128_S128x384_1_0) : (Proc.devRef .tc main_while0b_v133 : DevRef τ sig).ty.Contents (Elt F)) = Cert.ReferenceIdeal.Step.b9 j s := by
  unfold Cert.ReferenceIdeal.Step.b9
  rw [← al_3 h, ← al_8 h]
  try rfl
set_option maxRecDepth 8192 in
theorem al_10 (h : Holds V0 s j) : (broadcastInDim S1x384 ![1] bcast_S384_S1x384_1 (V0 (Proc.devRef .tc main_v92_3)) : (Proc.devRef .tc main_while0b_v134 : DevRef τ sig).ty.Contents (Elt F)) = Cert.ReferenceIdeal.Step.b10 j s := by
  unfold Cert.ReferenceIdeal.Step.b10
  rw [h.f_3]
  try rfl
set_option maxRecDepth 8192 in
theorem al_11 (h : Holds V0 s j) : (broadcastInDim S2048x384 ![0, 1] bcast_S1x384_S2048x384_0_1 (broadcastInDim S1x384 ![1] bcast_S384_S1x384_1 (V0 (Proc.devRef .tc main_v92_3))) : (Proc.devRef .tc main_while0b_v135 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (res_main_while0b_v136 V0 : (Proc.devRef .tc main_while0b_v136 : DevRef τ sig).ty.Contents (Elt F)) = Cert.ReferenceIdeal.Step.b12 j s := by
  unfold res_main_while0b_v136 Cert.ReferenceIdeal.Step.b12
  rw [← al_9 h, ← al_11 h]
  try rfl
set_option maxRecDepth 8192 in
theorem al_13 (h : Holds V0 s j) : (transpose S128x384 [1, 0] (V0 (Proc.devRef .tc main_v92_4)) transposes_S384x128_S128x384_1_0 : (Proc.devRef .tc main_while0b_v137 : DevRef τ sig).ty.Contents (Elt F)) = Cert.ReferenceIdeal.Step.b13 j s := by
  unfold Cert.ReferenceIdeal.Step.b13
  rw [h.f_4]
  try rfl
set_option maxRecDepth 8192 in
theorem al_14 (h : Holds V0 s j) : (Host.dotGeneral dot_S2048x128_S128x384_S2048x384_1_0_0_1_n_n none (V0 (Proc.devRef .tc main_v92_11)) (transpose S128x384 [1, 0] (V0 (Proc.devRef .tc main_v92_4)) transposes_S384x128_S128x384_1_0) : (Proc.devRef .tc main_while0b_v138 : DevRef τ sig).ty.Contents (Elt F)) = Cert.ReferenceIdeal.Step.b14 j s := by
  unfold Cert.ReferenceIdeal.Step.b14
  rw [← al_13 h, h.f_11]
  try rfl
set_option maxRecDepth 8192 in
theorem al_15 (h : Holds V0 s j) : (broadcastInDim S1x384 ![1] bcast_S384_S1x384_1 (V0 (Proc.devRef .tc main_v92_5)) : (Proc.devRef .tc main_while0b_v139 : DevRef τ sig).ty.Contents (Elt F)) = Cert.ReferenceIdeal.Step.b15 j s := by
  unfold Cert.ReferenceIdeal.Step.b15
  rw [h.f_5]
  try rfl
set_option maxRecDepth 8192 in
theorem al_16 (h : Holds V0 s j) : (broadcastInDim S2048x384 ![0, 1] bcast_S1x384_S2048x384_0_1 (broadcastInDim S1x384 ![1] bcast_S384_S1x384_1 (V0 (Proc.devRef .tc main_v92_5))) : (Proc.devRef .tc main_while0b_v140 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (res_main_while0b_v141 V0 : (Proc.devRef .tc main_while0b_v141 : DevRef τ sig).ty.Contents (Elt F)) = Cert.ReferenceIdeal.Step.b17 j s := by
  unfold res_main_while0b_v141 Cert.ReferenceIdeal.Step.b17
  rw [← al_14 h, ← al_16 h]
  try rfl
set_option maxRecDepth 8192 in
theorem al_18 (h : Holds V0 s j) : (extractStridedSlice S2048x128 ![0, 0] (res_main_while0b_v136 V0) slices_S2048x384_S2048x128_0_0 : (Proc.devRef .tc main_while0b_v142 : DevRef τ sig).ty.Contents (Elt F)) = Cert.ReferenceIdeal.Step.b18 j s := by
  unfold Cert.ReferenceIdeal.Step.b18
  rw [← al_12 h]
  try rfl
set_option maxRecDepth 8192 in
theorem al_19 (h : Holds V0 s j) : (extractStridedSlice S2048x128 ![0, 128] (res_main_while0b_v136 V0) slices_S2048x384_S2048x128_0_128 : (Proc.devRef .tc main_while0b_v143 : DevRef τ sig).ty.Contents (Elt F)) = Cert.ReferenceIdeal.Step.b19 j s := by
  unfold Cert.ReferenceIdeal.Step.b19
  rw [← al_12 h]
  try rfl
set_option maxRecDepth 8192 in
theorem al_20 (h : Holds V0 s j) : (extractStridedSlice S2048x128 ![0, 256] (res_main_while0b_v136 V0) slices_S2048x384_S2048x128_0_256 : (Proc.devRef .tc main_while0b_v144 : DevRef τ sig).ty.Contents (Elt F)) = Cert.ReferenceIdeal.Step.b20 j s := by
  unfold Cert.ReferenceIdeal.Step.b20
  rw [← al_12 h]
  try rfl
set_option maxRecDepth 8192 in
theorem al_21 (h : Holds V0 s j) : (extractStridedSlice S2048x128 ![0, 0] (res_main_while0b_v141 V0) slices_S2048x384_S2048x128_0_0 : (Proc.devRef .tc main_while0b_v145 : DevRef τ sig).ty.Contents (Elt F)) = Cert.ReferenceIdeal.Step.b21 j s := by
  unfold Cert.ReferenceIdeal.Step.b21
  rw [← al_17 h]
  try rfl
set_option maxRecDepth 8192 in
theorem al_22 (h : Holds V0 s j) : (extractStridedSlice S2048x128 ![0, 128] (res_main_while0b_v141 V0) slices_S2048x384_S2048x128_0_128 : (Proc.devRef .tc main_while0b_v146 : DevRef τ sig).ty.Contents (Elt F)) = Cert.ReferenceIdeal.Step.b22 j s := by
  unfold Cert.ReferenceIdeal.Step.b22
  rw [← al_17 h]
  try rfl
set_option maxRecDepth 8192 in
theorem al_23 (h : Holds V0 s j) : (extractStridedSlice S2048x128 ![0, 256] (res_main_while0b_v141 V0) slices_S2048x384_S2048x128_0_256 : (Proc.devRef .tc main_while0b_v147 : DevRef τ sig).ty.Contents (Elt F)) = Cert.ReferenceIdeal.Step.b23 j s := by
  unfold Cert.ReferenceIdeal.Step.b23
  rw [← al_17 h]
  try rfl
set_option maxRecDepth 8192 in
theorem al_24 (h : Holds V0 s j) : (addf (extractStridedSlice S2048x128 ![0, 0] (res_main_while0b_v136 V0) slices_S2048x384_S2048x128_0_0) (extractStridedSlice S2048x128 ![0, 0] (res_main_while0b_v141 V0) slices_S2048x384_S2048x128_0_0) : (Proc.devRef .tc main_while0b_v148 : DevRef τ sig).ty.Contents (Elt F)) = Cert.ReferenceIdeal.Step.b24 j s := by
  unfold Cert.ReferenceIdeal.Step.b24
  rw [← al_18 h, ← al_21 h]
  try rfl
set_option maxRecDepth 8192 in
theorem al_25 (h : Holds V0 s j) : (Host.negf (addf (extractStridedSlice S2048x128 ![0, 0] (res_main_while0b_v136 V0) slices_S2048x384_S2048x128_0_0) (extractStridedSlice S2048x128 ![0, 0] (res_main_while0b_v141 V0) slices_S2048x384_S2048x128_0_0)) : (Proc.devRef .tc main_while0b_v149 : DevRef τ sig).ty.Contents (Elt F)) = Cert.ReferenceIdeal.Step.b25 j s := by
  unfold Cert.ReferenceIdeal.Step.b25
  rw [← al_24 h]
  try rfl
set_option maxRecDepth 8192 in
theorem al_26 (h : Holds V0 s j) : (Host.exp (Host.negf (addf (extractStridedSlice S2048x128 ![0, 0] (res_main_while0b_v136 V0) slices_S2048x384_S2048x128_0_0) (extractStridedSlice S2048x128 ![0, 0] (res_main_while0b_v141 V0) slices_S2048x384_S2048x128_0_0))) : (Proc.devRef .tc main_while0b_v150 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (constant S_ .f32 0x3F800000#32 : (Proc.devRef .tc main_while0b_cst_26 : DevRef τ sig).ty.Contents (Elt F)) = Cert.ReferenceIdeal.Step.b27 j s := by
  unfold Cert.ReferenceIdeal.Step.b27
  rfl
set_option maxRecDepth 8192 in
theorem al_28 (h : Holds V0 s j) : (broadcastInDim S2048x128 ![] bcast_S_S2048x128 (constant S_ .f32 0x3F800000#32) : (Proc.devRef .tc main_while0b_v151 : DevRef τ sig).ty.Contents (Elt F)) = Cert.ReferenceIdeal.Step.b28 j s := by
  unfold Cert.ReferenceIdeal.Step.b28
  rw [← al_27 h]
  try rfl
set_option maxRecDepth 8192 in
theorem al_29 (h : Holds V0 s j) : (addf (broadcastInDim S2048x128 ![] bcast_S_S2048x128 (constant S_ .f32 0x3F800000#32)) (Host.exp (Host.negf (addf (extractStridedSlice S2048x128 ![0, 0] (res_main_while0b_v136 V0) slices_S2048x384_S2048x128_0_0) (extractStridedSlice S2048x128 ![0, 0] (res_main_while0b_v141 V0) slices_S2048x384_S2048x128_0_0)))) : (Proc.devRef .tc main_while0b_v152 : DevRef τ sig).ty.Contents (Elt F)) = Cert.ReferenceIdeal.Step.b29 j s := by
  unfold Cert.ReferenceIdeal.Step.b29
  rw [← al_28 h, ← al_26 h]
  try rfl
set_option maxRecDepth 8192 in
theorem al_30 (h : Holds V0 s j) : (constant S_ .f32 0x3F800000#32 : (Proc.devRef .tc main_while0b_cst_27 : DevRef τ sig).ty.Contents (Elt F)) = Cert.ReferenceIdeal.Step.b30 j s := by
  unfold Cert.ReferenceIdeal.Step.b30
  rfl
set_option maxRecDepth 8192 in
theorem al_31 (h : Holds V0 s j) : (broadcastInDim S2048x128 ![] bcast_S_S2048x128 (constant S_ .f32 0x3F800000#32) : (Proc.devRef .tc main_while0b_v153 : DevRef τ sig).ty.Contents (Elt F)) = Cert.ReferenceIdeal.Step.b31 j s := by
  unfold Cert.ReferenceIdeal.Step.b31
  rw [← al_30 h]
  try rfl
set_option maxRecDepth 8192 in
theorem al_32 (h : Holds V0 s j) : (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v136 V0) slices_S2048x384_S2048x128_0_0) (extractStridedSlice S2048x128 ![0, 0] (res_main_while0b_v141 V0) slices_S2048x384_S2048x128_0_0))))) : (Proc.devRef .tc main_while0b_v154 : DevRef τ sig).ty.Contents (Elt F)) = Cert.ReferenceIdeal.Step.b32 j s := by
  unfold Cert.ReferenceIdeal.Step.b32
  rw [← al_31 h, ← al_29 h]
  try rfl
set_option maxRecDepth 8192 in
theorem al_33 (h : Holds V0 s j) : (addf (extractStridedSlice S2048x128 ![0, 128] (res_main_while0b_v136 V0) slices_S2048x384_S2048x128_0_128) (extractStridedSlice S2048x128 ![0, 128] (res_main_while0b_v141 V0) slices_S2048x384_S2048x128_0_128) : (Proc.devRef .tc main_while0b_v155 : DevRef τ sig).ty.Contents (Elt F)) = Cert.ReferenceIdeal.Step.b33 j s := by
  unfold Cert.ReferenceIdeal.Step.b33
  rw [← al_19 h, ← al_22 h]
  try rfl
set_option maxRecDepth 8192 in
theorem al_34 (h : Holds V0 s j) : (Host.negf (addf (extractStridedSlice S2048x128 ![0, 128] (res_main_while0b_v136 V0) slices_S2048x384_S2048x128_0_128) (extractStridedSlice S2048x128 ![0, 128] (res_main_while0b_v141 V0) slices_S2048x384_S2048x128_0_128)) : (Proc.devRef .tc main_while0b_v156 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (Host.exp (Host.negf (addf (extractStridedSlice S2048x128 ![0, 128] (res_main_while0b_v136 V0) slices_S2048x384_S2048x128_0_128) (extractStridedSlice S2048x128 ![0, 128] (res_main_while0b_v141 V0) slices_S2048x384_S2048x128_0_128))) : (Proc.devRef .tc main_while0b_v157 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (constant S_ .f32 0x3F800000#32 : (Proc.devRef .tc main_while0b_cst_28 : DevRef τ sig).ty.Contents (Elt F)) = Cert.ReferenceIdeal.Step.b36 j s := by
  unfold Cert.ReferenceIdeal.Step.b36
  rfl
set_option maxRecDepth 8192 in
theorem al_37 (h : Holds V0 s j) : (broadcastInDim S2048x128 ![] bcast_S_S2048x128 (constant S_ .f32 0x3F800000#32) : (Proc.devRef .tc main_while0b_v158 : DevRef τ sig).ty.Contents (Elt F)) = Cert.ReferenceIdeal.Step.b37 j s := by
  unfold Cert.ReferenceIdeal.Step.b37
  rw [← al_36 h]
  try rfl
set_option maxRecDepth 8192 in
theorem al_38 (h : Holds V0 s j) : (addf (broadcastInDim S2048x128 ![] bcast_S_S2048x128 (constant S_ .f32 0x3F800000#32)) (Host.exp (Host.negf (addf (extractStridedSlice S2048x128 ![0, 128] (res_main_while0b_v136 V0) slices_S2048x384_S2048x128_0_128) (extractStridedSlice S2048x128 ![0, 128] (res_main_while0b_v141 V0) slices_S2048x384_S2048x128_0_128)))) : (Proc.devRef .tc main_while0b_v159 : DevRef τ sig).ty.Contents (Elt F)) = Cert.ReferenceIdeal.Step.b38 j s := by
  unfold Cert.ReferenceIdeal.Step.b38
  rw [← al_37 h, ← al_35 h]
  try rfl
set_option maxRecDepth 8192 in
theorem al_39 (h : Holds V0 s j) : (constant S_ .f32 0x3F800000#32 : (Proc.devRef .tc main_while0b_cst_29 : DevRef τ sig).ty.Contents (Elt F)) = Cert.ReferenceIdeal.Step.b39 j s := by
  unfold Cert.ReferenceIdeal.Step.b39
  rfl
set_option maxRecDepth 8192 in
theorem al_40 (h : Holds V0 s j) : (broadcastInDim S2048x128 ![] bcast_S_S2048x128 (constant S_ .f32 0x3F800000#32) : (Proc.devRef .tc main_while0b_v160 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (res_main_while0b_v161 V0 : (Proc.devRef .tc main_while0b_v161 : DevRef τ sig).ty.Contents (Elt F)) = Cert.ReferenceIdeal.Step.b41 j s := by
  unfold res_main_while0b_v161 Cert.ReferenceIdeal.Step.b41
  rw [← al_40 h, ← al_38 h]
  try rfl
set_option maxRecDepth 8192 in
theorem al_42 (h : Holds V0 s j) : (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v136 V0) slices_S2048x384_S2048x128_0_0) (extractStridedSlice S2048x128 ![0, 0] (res_main_while0b_v141 V0) slices_S2048x384_S2048x128_0_0)))))) (extractStridedSlice S2048x128 ![0, 256] (res_main_while0b_v141 V0) slices_S2048x384_S2048x128_0_256) : (Proc.devRef .tc main_while0b_v162 : DevRef τ sig).ty.Contents (Elt F)) = Cert.ReferenceIdeal.Step.b42 j s := by
  unfold Cert.ReferenceIdeal.Step.b42
  rw [← al_32 h, ← al_23 h]
  try rfl
set_option maxRecDepth 8192 in
theorem al_43 (h : Holds V0 s j) : (addf (extractStridedSlice S2048x128 ![0, 256] (res_main_while0b_v136 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v136 V0) slices_S2048x384_S2048x128_0_0) (extractStridedSlice S2048x128 ![0, 0] (res_main_while0b_v141 V0) slices_S2048x384_S2048x128_0_0)))))) (extractStridedSlice S2048x128 ![0, 256] (res_main_while0b_v141 V0) slices_S2048x384_S2048x128_0_256)) : (Proc.devRef .tc main_while0b_v163 : DevRef τ sig).ty.Contents (Elt F)) = Cert.ReferenceIdeal.Step.b43 j s := by
  unfold Cert.ReferenceIdeal.Step.b43
  rw [← al_20 h, ← al_42 h]
  try rfl
set_option maxRecDepth 8192 in
theorem al_44 (h : Holds V0 s j) : (Host.tanh (addf (extractStridedSlice S2048x128 ![0, 256] (res_main_while0b_v136 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v136 V0) slices_S2048x384_S2048x128_0_0) (extractStridedSlice S2048x128 ![0, 0] (res_main_while0b_v141 V0) slices_S2048x384_S2048x128_0_0)))))) (extractStridedSlice S2048x128 ![0, 256] (res_main_while0b_v141 V0) slices_S2048x384_S2048x128_0_256))) : (Proc.devRef .tc main_while0b_v164 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (constant S_ .f32 0x3F800000#32 : (Proc.devRef .tc main_while0b_cst_30 : DevRef τ sig).ty.Contents (Elt F)) = Cert.ReferenceIdeal.Step.b45 j s := by
  unfold Cert.ReferenceIdeal.Step.b45
  rfl
set_option maxRecDepth 8192 in
theorem al_46 (h : Holds V0 s j) : (broadcastInDim S2048x128 ![] bcast_S_S2048x128 (constant S_ .f32 0x3F800000#32) : (Proc.devRef .tc main_while0b_v165 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (subf (broadcastInDim S2048x128 ![] bcast_S_S2048x128 (constant S_ .f32 0x3F800000#32)) (res_main_while0b_v161 V0) : (Proc.devRef .tc main_while0b_v166 : DevRef τ sig).ty.Contents (Elt F)) = Cert.ReferenceIdeal.Step.b47 j s := by
  unfold Cert.ReferenceIdeal.Step.b47
  rw [← al_46 h, ← al_41 h]
  try rfl
set_option maxRecDepth 8192 in
theorem al_48 (h : Holds V0 s j) : (mulf (subf (broadcastInDim S2048x128 ![] bcast_S_S2048x128 (constant S_ .f32 0x3F800000#32)) (res_main_while0b_v161 V0)) (Host.tanh (addf (extractStridedSlice S2048x128 ![0, 256] (res_main_while0b_v136 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v136 V0) slices_S2048x384_S2048x128_0_0) (extractStridedSlice S2048x128 ![0, 0] (res_main_while0b_v141 V0) slices_S2048x384_S2048x128_0_0)))))) (extractStridedSlice S2048x128 ![0, 256] (res_main_while0b_v141 V0) slices_S2048x384_S2048x128_0_256)))) : (Proc.devRef .tc main_while0b_v167 : DevRef τ sig).ty.Contents (Elt F)) = Cert.ReferenceIdeal.Step.b48 j s := by
  unfold Cert.ReferenceIdeal.Step.b48
  rw [← al_47 h, ← al_44 h]
  try rfl
set_option maxRecDepth 8192 in
theorem al_49 (h : Holds V0 s j) : (mulf (res_main_while0b_v161 V0) (V0 (Proc.devRef .tc main_v92_11)) : (Proc.devRef .tc main_while0b_v168 : DevRef τ sig).ty.Contents (Elt F)) = Cert.ReferenceIdeal.Step.b49 j s := by
  unfold Cert.ReferenceIdeal.Step.b49
  rw [← al_41 h, h.f_11]
  try rfl
set_option maxRecDepth 8192 in
theorem al_50 (h : Holds V0 s j) : (res_main_while0b_v169 V0 : (Proc.devRef .tc main_while0b_v169 : DevRef τ sig).ty.Contents (Elt F)) = Cert.ReferenceIdeal.Step.b50 j s := by
  unfold res_main_while0b_v169 Cert.ReferenceIdeal.Step.b50
  rw [← al_48 h, ← al_49 h]
  try rfl
set_option maxRecDepth 8192 in
theorem al_51 (h : Holds V0 s j) : (transpose S128x384 [1, 0] (V0 (Proc.devRef .tc main_v92_6)) transposes_S384x128_S128x384_1_0 : (Proc.devRef .tc main_while0b_v170 : DevRef τ sig).ty.Contents (Elt F)) = Cert.ReferenceIdeal.Step.b51 j s := by
  unfold Cert.ReferenceIdeal.Step.b51
  rw [h.f_6]
  try rfl
set_option maxRecDepth 8192 in
theorem al_52 (h : Holds V0 s j) : (Host.dotGeneral dot_S2048x128_S128x384_S2048x384_1_0_0_1_n_n none (shapeCast S2048x128 (Host.dynamicSlice S1x2048x128 (V0 (Proc.devRef .tc main_v92_1)) (fun k => (((![V0 (Proc.devRef .tc main_v92_10), constantI S_ 32 0#32, constantI S_ 32 0#32] : Fin 3 → (⟨S_, .i32⟩ : BufTy).Contents (Elt F))) k (Shape.Idx.first h_S_)).toInt) sliceFits_S32x2048x128_S1x2048x128) shapeCasts_S1x2048x128_S2048x128) (transpose S128x384 [1, 0] (V0 (Proc.devRef .tc main_v92_6)) transposes_S384x128_S128x384_1_0) : (Proc.devRef .tc main_while0b_v171 : DevRef τ sig).ty.Contents (Elt F)) = Cert.ReferenceIdeal.Step.b52 j s := by
  unfold Cert.ReferenceIdeal.Step.b52
  rw [← al_7 h, ← al_51 h]
  try rfl
set_option maxRecDepth 8192 in
theorem al_53 (h : Holds V0 s j) : (broadcastInDim S1x384 ![1] bcast_S384_S1x384_1 (V0 (Proc.devRef .tc main_v92_7)) : (Proc.devRef .tc main_while0b_v172 : DevRef τ sig).ty.Contents (Elt F)) = Cert.ReferenceIdeal.Step.b53 j s := by
  unfold Cert.ReferenceIdeal.Step.b53
  rw [h.f_7]
  try rfl
set_option maxRecDepth 8192 in
theorem al_54 (h : Holds V0 s j) : (broadcastInDim S2048x384 ![0, 1] bcast_S1x384_S2048x384_0_1 (broadcastInDim S1x384 ![1] bcast_S384_S1x384_1 (V0 (Proc.devRef .tc main_v92_7))) : (Proc.devRef .tc main_while0b_v173 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (res_main_while0b_v174 V0 : (Proc.devRef .tc main_while0b_v174 : DevRef τ sig).ty.Contents (Elt F)) = Cert.ReferenceIdeal.Step.b55 j s := by
  unfold res_main_while0b_v174 Cert.ReferenceIdeal.Step.b55
  rw [← al_52 h, ← al_54 h]
  try rfl
set_option maxRecDepth 8192 in
theorem al_56 (h : Holds V0 s j) : (transpose S128x384 [1, 0] (V0 (Proc.devRef .tc main_v92_8)) transposes_S384x128_S128x384_1_0 : (Proc.devRef .tc main_while0b_v175 : DevRef τ sig).ty.Contents (Elt F)) = Cert.ReferenceIdeal.Step.b56 j s := by
  unfold Cert.ReferenceIdeal.Step.b56
  rw [h.f_8]
  try rfl
set_option maxRecDepth 8192 in
theorem al_57 (h : Holds V0 s j) : (Host.dotGeneral dot_S2048x128_S128x384_S2048x384_1_0_0_1_n_n none (V0 (Proc.devRef .tc main_v92_12)) (transpose S128x384 [1, 0] (V0 (Proc.devRef .tc main_v92_8)) transposes_S384x128_S128x384_1_0) : (Proc.devRef .tc main_while0b_v176 : DevRef τ sig).ty.Contents (Elt F)) = Cert.ReferenceIdeal.Step.b57 j s := by
  unfold Cert.ReferenceIdeal.Step.b57
  rw [← al_56 h, h.f_12]
  try rfl
set_option maxRecDepth 8192 in
theorem al_58 (h : Holds V0 s j) : (broadcastInDim S1x384 ![1] bcast_S384_S1x384_1 (V0 (Proc.devRef .tc main_v92_9)) : (Proc.devRef .tc main_while0b_v177 : DevRef τ sig).ty.Contents (Elt F)) = Cert.ReferenceIdeal.Step.b58 j s := by
  unfold Cert.ReferenceIdeal.Step.b58
  rw [h.f_9]
  try rfl
set_option maxRecDepth 8192 in
theorem al_59 (h : Holds V0 s j) : (broadcastInDim S2048x384 ![0, 1] bcast_S1x384_S2048x384_0_1 (broadcastInDim S1x384 ![1] bcast_S384_S1x384_1 (V0 (Proc.devRef .tc main_v92_9))) : (Proc.devRef .tc main_while0b_v178 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (res_main_while0b_v179 V0 : (Proc.devRef .tc main_while0b_v179 : DevRef τ sig).ty.Contents (Elt F)) = Cert.ReferenceIdeal.Step.b60 j s := by
  unfold res_main_while0b_v179 Cert.ReferenceIdeal.Step.b60
  rw [← al_57 h, ← al_59 h]
  try rfl
set_option maxRecDepth 8192 in
theorem al_61 (h : Holds V0 s j) : (extractStridedSlice S2048x128 ![0, 0] (res_main_while0b_v174 V0) slices_S2048x384_S2048x128_0_0 : (Proc.devRef .tc main_while0b_v180 : DevRef τ sig).ty.Contents (Elt F)) = Cert.ReferenceIdeal.Step.b61 j s := by
  unfold Cert.ReferenceIdeal.Step.b61
  rw [← al_55 h]
  try rfl
set_option maxRecDepth 8192 in
theorem al_62 (h : Holds V0 s j) : (extractStridedSlice S2048x128 ![0, 128] (res_main_while0b_v174 V0) slices_S2048x384_S2048x128_0_128 : (Proc.devRef .tc main_while0b_v181 : DevRef τ sig).ty.Contents (Elt F)) = Cert.ReferenceIdeal.Step.b62 j s := by
  unfold Cert.ReferenceIdeal.Step.b62
  rw [← al_55 h]
  try rfl
set_option maxRecDepth 8192 in
theorem al_63 (h : Holds V0 s j) : (extractStridedSlice S2048x128 ![0, 256] (res_main_while0b_v174 V0) slices_S2048x384_S2048x128_0_256 : (Proc.devRef .tc main_while0b_v182 : DevRef τ sig).ty.Contents (Elt F)) = Cert.ReferenceIdeal.Step.b63 j s := by
  unfold Cert.ReferenceIdeal.Step.b63
  rw [← al_55 h]
  try rfl
set_option maxRecDepth 8192 in
theorem al_64 (h : Holds V0 s j) : (extractStridedSlice S2048x128 ![0, 0] (res_main_while0b_v179 V0) slices_S2048x384_S2048x128_0_0 : (Proc.devRef .tc main_while0b_v183 : DevRef τ sig).ty.Contents (Elt F)) = Cert.ReferenceIdeal.Step.b64 j s := by
  unfold Cert.ReferenceIdeal.Step.b64
  rw [← al_60 h]
  try rfl
set_option maxRecDepth 8192 in
theorem al_65 (h : Holds V0 s j) : (extractStridedSlice S2048x128 ![0, 128] (res_main_while0b_v179 V0) slices_S2048x384_S2048x128_0_128 : (Proc.devRef .tc main_while0b_v184 : DevRef τ sig).ty.Contents (Elt F)) = Cert.ReferenceIdeal.Step.b65 j s := by
  unfold Cert.ReferenceIdeal.Step.b65
  rw [← al_60 h]
  try rfl
set_option maxRecDepth 8192 in
theorem al_66 (h : Holds V0 s j) : (extractStridedSlice S2048x128 ![0, 256] (res_main_while0b_v179 V0) slices_S2048x384_S2048x128_0_256 : (Proc.devRef .tc main_while0b_v185 : DevRef τ sig).ty.Contents (Elt F)) = Cert.ReferenceIdeal.Step.b66 j s := by
  unfold Cert.ReferenceIdeal.Step.b66
  rw [← al_60 h]
  try rfl
set_option maxRecDepth 8192 in
theorem al_67 (h : Holds V0 s j) : (addf (extractStridedSlice S2048x128 ![0, 0] (res_main_while0b_v174 V0) slices_S2048x384_S2048x128_0_0) (extractStridedSlice S2048x128 ![0, 0] (res_main_while0b_v179 V0) slices_S2048x384_S2048x128_0_0) : (Proc.devRef .tc main_while0b_v186 : DevRef τ sig).ty.Contents (Elt F)) = Cert.ReferenceIdeal.Step.b67 j s := by
  unfold Cert.ReferenceIdeal.Step.b67
  rw [← al_61 h, ← al_64 h]
  try rfl
set_option maxRecDepth 8192 in
theorem al_68 (h : Holds V0 s j) : (Host.negf (addf (extractStridedSlice S2048x128 ![0, 0] (res_main_while0b_v174 V0) slices_S2048x384_S2048x128_0_0) (extractStridedSlice S2048x128 ![0, 0] (res_main_while0b_v179 V0) slices_S2048x384_S2048x128_0_0)) : (Proc.devRef .tc main_while0b_v187 : DevRef τ sig).ty.Contents (Elt F)) = Cert.ReferenceIdeal.Step.b68 j s := by
  unfold Cert.ReferenceIdeal.Step.b68
  rw [← al_67 h]
  try rfl
set_option maxRecDepth 8192 in
theorem al_69 (h : Holds V0 s j) : (Host.exp (Host.negf (addf (extractStridedSlice S2048x128 ![0, 0] (res_main_while0b_v174 V0) slices_S2048x384_S2048x128_0_0) (extractStridedSlice S2048x128 ![0, 0] (res_main_while0b_v179 V0) slices_S2048x384_S2048x128_0_0))) : (Proc.devRef .tc main_while0b_v188 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (constant S_ .f32 0x3F800000#32 : (Proc.devRef .tc main_while0b_cst_31 : DevRef τ sig).ty.Contents (Elt F)) = Cert.ReferenceIdeal.Step.b70 j s := by
  unfold Cert.ReferenceIdeal.Step.b70
  rfl
set_option maxRecDepth 8192 in
theorem al_71 (h : Holds V0 s j) : (broadcastInDim S2048x128 ![] bcast_S_S2048x128 (constant S_ .f32 0x3F800000#32) : (Proc.devRef .tc main_while0b_v189 : DevRef τ sig).ty.Contents (Elt F)) = Cert.ReferenceIdeal.Step.b71 j s := by
  unfold Cert.ReferenceIdeal.Step.b71
  rw [← al_70 h]
  try rfl
set_option maxRecDepth 8192 in
theorem al_72 (h : Holds V0 s j) : (addf (broadcastInDim S2048x128 ![] bcast_S_S2048x128 (constant S_ .f32 0x3F800000#32)) (Host.exp (Host.negf (addf (extractStridedSlice S2048x128 ![0, 0] (res_main_while0b_v174 V0) slices_S2048x384_S2048x128_0_0) (extractStridedSlice S2048x128 ![0, 0] (res_main_while0b_v179 V0) slices_S2048x384_S2048x128_0_0)))) : (Proc.devRef .tc main_while0b_v190 : DevRef τ sig).ty.Contents (Elt F)) = Cert.ReferenceIdeal.Step.b72 j s := by
  unfold Cert.ReferenceIdeal.Step.b72
  rw [← al_71 h, ← al_69 h]
  try rfl
set_option maxRecDepth 8192 in
theorem al_73 (h : Holds V0 s j) : (constant S_ .f32 0x3F800000#32 : (Proc.devRef .tc main_while0b_cst_32 : DevRef τ sig).ty.Contents (Elt F)) = Cert.ReferenceIdeal.Step.b73 j s := by
  unfold Cert.ReferenceIdeal.Step.b73
  rfl
set_option maxRecDepth 8192 in
theorem al_74 (h : Holds V0 s j) : (broadcastInDim S2048x128 ![] bcast_S_S2048x128 (constant S_ .f32 0x3F800000#32) : (Proc.devRef .tc main_while0b_v191 : DevRef τ sig).ty.Contents (Elt F)) = Cert.ReferenceIdeal.Step.b74 j s := by
  unfold Cert.ReferenceIdeal.Step.b74
  rw [← al_73 h]
  try rfl
set_option maxRecDepth 8192 in
theorem al_75 (h : Holds V0 s j) : (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v174 V0) slices_S2048x384_S2048x128_0_0) (extractStridedSlice S2048x128 ![0, 0] (res_main_while0b_v179 V0) slices_S2048x384_S2048x128_0_0))))) : (Proc.devRef .tc main_while0b_v192 : DevRef τ sig).ty.Contents (Elt F)) = Cert.ReferenceIdeal.Step.b75 j s := by
  unfold Cert.ReferenceIdeal.Step.b75
  rw [← al_74 h, ← al_72 h]
  try rfl
set_option maxRecDepth 8192 in
theorem al_76 (h : Holds V0 s j) : (addf (extractStridedSlice S2048x128 ![0, 128] (res_main_while0b_v174 V0) slices_S2048x384_S2048x128_0_128) (extractStridedSlice S2048x128 ![0, 128] (res_main_while0b_v179 V0) slices_S2048x384_S2048x128_0_128) : (Proc.devRef .tc main_while0b_v193 : DevRef τ sig).ty.Contents (Elt F)) = Cert.ReferenceIdeal.Step.b76 j s := by
  unfold Cert.ReferenceIdeal.Step.b76
  rw [← al_62 h, ← al_65 h]
  try rfl
set_option maxRecDepth 8192 in
theorem al_77 (h : Holds V0 s j) : (Host.negf (addf (extractStridedSlice S2048x128 ![0, 128] (res_main_while0b_v174 V0) slices_S2048x384_S2048x128_0_128) (extractStridedSlice S2048x128 ![0, 128] (res_main_while0b_v179 V0) slices_S2048x384_S2048x128_0_128)) : (Proc.devRef .tc main_while0b_v194 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (Host.exp (Host.negf (addf (extractStridedSlice S2048x128 ![0, 128] (res_main_while0b_v174 V0) slices_S2048x384_S2048x128_0_128) (extractStridedSlice S2048x128 ![0, 128] (res_main_while0b_v179 V0) slices_S2048x384_S2048x128_0_128))) : (Proc.devRef .tc main_while0b_v195 : DevRef τ sig).ty.Contents (Elt F)) = Cert.ReferenceIdeal.Step.b78 j s := by
  unfold Cert.ReferenceIdeal.Step.b78
  rw [← al_77 h]
  try rfl
set_option maxRecDepth 8192 in
theorem al_79 (h : Holds V0 s j) : (constant S_ .f32 0x3F800000#32 : (Proc.devRef .tc main_while0b_cst_33 : DevRef τ sig).ty.Contents (Elt F)) = Cert.ReferenceIdeal.Step.b79 j s := by
  unfold Cert.ReferenceIdeal.Step.b79
  rfl
set_option maxRecDepth 8192 in
theorem al_80 (h : Holds V0 s j) : (broadcastInDim S2048x128 ![] bcast_S_S2048x128 (constant S_ .f32 0x3F800000#32) : (Proc.devRef .tc main_while0b_v196 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (addf (broadcastInDim S2048x128 ![] bcast_S_S2048x128 (constant S_ .f32 0x3F800000#32)) (Host.exp (Host.negf (addf (extractStridedSlice S2048x128 ![0, 128] (res_main_while0b_v174 V0) slices_S2048x384_S2048x128_0_128) (extractStridedSlice S2048x128 ![0, 128] (res_main_while0b_v179 V0) slices_S2048x384_S2048x128_0_128)))) : (Proc.devRef .tc main_while0b_v197 : DevRef τ sig).ty.Contents (Elt F)) = Cert.ReferenceIdeal.Step.b81 j s := by
  unfold Cert.ReferenceIdeal.Step.b81
  rw [← al_80 h, ← al_78 h]
  try rfl
set_option maxRecDepth 8192 in
theorem al_82 (h : Holds V0 s j) : (constant S_ .f32 0x3F800000#32 : (Proc.devRef .tc main_while0b_cst_34 : DevRef τ sig).ty.Contents (Elt F)) = Cert.ReferenceIdeal.Step.b82 j s := by
  unfold Cert.ReferenceIdeal.Step.b82
  rfl
set_option maxRecDepth 8192 in
theorem al_83 (h : Holds V0 s j) : (broadcastInDim S2048x128 ![] bcast_S_S2048x128 (constant S_ .f32 0x3F800000#32) : (Proc.devRef .tc main_while0b_v198 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (res_main_while0b_v199 V0 : (Proc.devRef .tc main_while0b_v199 : DevRef τ sig).ty.Contents (Elt F)) = Cert.ReferenceIdeal.Step.b84 j s := by
  unfold res_main_while0b_v199 Cert.ReferenceIdeal.Step.b84
  rw [← al_83 h, ← al_81 h]
  try rfl
set_option maxRecDepth 8192 in
theorem al_85 (h : Holds V0 s j) : (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v174 V0) slices_S2048x384_S2048x128_0_0) (extractStridedSlice S2048x128 ![0, 0] (res_main_while0b_v179 V0) slices_S2048x384_S2048x128_0_0)))))) (extractStridedSlice S2048x128 ![0, 256] (res_main_while0b_v179 V0) slices_S2048x384_S2048x128_0_256) : (Proc.devRef .tc main_while0b_v200 : DevRef τ sig).ty.Contents (Elt F)) = Cert.ReferenceIdeal.Step.b85 j s := by
  unfold Cert.ReferenceIdeal.Step.b85
  rw [← al_75 h, ← al_66 h]
  try rfl
set_option maxRecDepth 8192 in
theorem al_86 (h : Holds V0 s j) : (addf (extractStridedSlice S2048x128 ![0, 256] (res_main_while0b_v174 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v174 V0) slices_S2048x384_S2048x128_0_0) (extractStridedSlice S2048x128 ![0, 0] (res_main_while0b_v179 V0) slices_S2048x384_S2048x128_0_0)))))) (extractStridedSlice S2048x128 ![0, 256] (res_main_while0b_v179 V0) slices_S2048x384_S2048x128_0_256)) : (Proc.devRef .tc main_while0b_v201 : DevRef τ sig).ty.Contents (Elt F)) = Cert.ReferenceIdeal.Step.b86 j s := by
  unfold Cert.ReferenceIdeal.Step.b86
  rw [← al_63 h, ← al_85 h]
  try rfl
set_option maxRecDepth 8192 in
theorem al_87 (h : Holds V0 s j) : (Host.tanh (addf (extractStridedSlice S2048x128 ![0, 256] (res_main_while0b_v174 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v174 V0) slices_S2048x384_S2048x128_0_0) (extractStridedSlice S2048x128 ![0, 0] (res_main_while0b_v179 V0) slices_S2048x384_S2048x128_0_0)))))) (extractStridedSlice S2048x128 ![0, 256] (res_main_while0b_v179 V0) slices_S2048x384_S2048x128_0_256))) : (Proc.devRef .tc main_while0b_v202 : DevRef τ sig).ty.Contents (Elt F)) = Cert.ReferenceIdeal.Step.b87 j s := by
  unfold Cert.ReferenceIdeal.Step.b87
  rw [← al_86 h]
  try rfl
set_option maxRecDepth 8192 in
theorem al_88 (h : Holds V0 s j) : (constant S_ .f32 0x3F800000#32 : (Proc.devRef .tc main_while0b_cst_35 : DevRef τ sig).ty.Contents (Elt F)) = Cert.ReferenceIdeal.Step.b88 j s := by
  unfold Cert.ReferenceIdeal.Step.b88
  rfl
set_option maxRecDepth 8192 in
theorem al_89 (h : Holds V0 s j) : (broadcastInDim S2048x128 ![] bcast_S_S2048x128 (constant S_ .f32 0x3F800000#32) : (Proc.devRef .tc main_while0b_v203 : DevRef τ sig).ty.Contents (Elt F)) = Cert.ReferenceIdeal.Step.b89 j s := by
  unfold Cert.ReferenceIdeal.Step.b89
  rw [← al_88 h]
  try rfl
set_option maxRecDepth 8192 in
theorem al_90 (h : Holds V0 s j) : (subf (broadcastInDim S2048x128 ![] bcast_S_S2048x128 (constant S_ .f32 0x3F800000#32)) (res_main_while0b_v199 V0) : (Proc.devRef .tc main_while0b_v204 : DevRef τ sig).ty.Contents (Elt F)) = Cert.ReferenceIdeal.Step.b90 j s := by
  unfold Cert.ReferenceIdeal.Step.b90
  rw [← al_89 h, ← al_84 h]
  try rfl
set_option maxRecDepth 8192 in
theorem al_91 (h : Holds V0 s j) : (mulf (subf (broadcastInDim S2048x128 ![] bcast_S_S2048x128 (constant S_ .f32 0x3F800000#32)) (res_main_while0b_v199 V0)) (Host.tanh (addf (extractStridedSlice S2048x128 ![0, 256] (res_main_while0b_v174 V0) slices_S2048x384_S2048x128_0_256) (mulf (Host.divf (broadcastInDim S2048x128 ![] bcast_S_S2048x128 (constant S_ .f32 0x3F800000#32)) (addf (broadcastInDim S2048x128 ![] bcast_S_S2048x128 (constant S_ .f32 0x3F800000#32)) (Host.exp (Host.negf (addf (extractStridedSlice S2048x128 ![0, 0] (res_main_while0b_v174 V0) slices_S2048x384_S2048x128_0_0) (extractStridedSlice S2048x128 ![0, 0] (res_main_while0b_v179 V0) slices_S2048x384_S2048x128_0_0)))))) (extractStridedSlice S2048x128 ![0, 256] (res_main_while0b_v179 V0) slices_S2048x384_S2048x128_0_256)))) : (Proc.devRef .tc main_while0b_v205 : DevRef τ sig).ty.Contents (Elt F)) = Cert.ReferenceIdeal.Step.b91 j s := by
  unfold Cert.ReferenceIdeal.Step.b91
  rw [← al_90 h, ← al_87 h]
  try rfl
set_option maxRecDepth 8192 in
theorem al_92 (h : Holds V0 s j) : (mulf (res_main_while0b_v199 V0) (V0 (Proc.devRef .tc main_v92_12)) : (Proc.devRef .tc main_while0b_v206 : DevRef τ sig).ty.Contents (Elt F)) = Cert.ReferenceIdeal.Step.b92 j s := by
  unfold Cert.ReferenceIdeal.Step.b92
  rw [← al_84 h, h.f_12]
  try rfl
set_option maxRecDepth 8192 in
theorem al_93 (h : Holds V0 s j) : (res_main_while0b_v207 V0 : (Proc.devRef .tc main_while0b_v207 : DevRef τ sig).ty.Contents (Elt F)) = Cert.ReferenceIdeal.Step.b93 j s := by
  unfold res_main_while0b_v207 Cert.ReferenceIdeal.Step.b93
  rw [← al_91 h, ← al_92 h]
  try rfl
set_option maxRecDepth 8192 in
theorem al_94 (h : Holds V0 s j) : (broadcastInDim S1x2048x128 ![1, 2] bcast_S2048x128_S1x2048x128_1_2 (res_main_while0b_v169 V0) : (Proc.devRef .tc main_while0b_call7_v0 : DevRef τ sig).ty.Contents (Elt F)) = Cert.ReferenceIdeal.Step.b94 j s := by
  unfold Cert.ReferenceIdeal.Step.b94
  rw [← al_50 h]
  try rfl
set_option maxRecDepth 8192 in
theorem al_95 (h : Holds V0 s j) : (constantI S_ 32 0#32 : (Proc.devRef .tc main_while0b_call7_c : DevRef τ sig).ty.Contents (Elt F)) = Cert.ReferenceIdeal.Step.b95 j s := by
  unfold Cert.ReferenceIdeal.Step.b95
  rfl
set_option maxRecDepth 8192 in
theorem al_96 (h : Holds V0 s j) : (constantI S_ 32 0#32 : (Proc.devRef .tc main_while0b_call7_c_0 : DevRef τ sig).ty.Contents (Elt F)) = Cert.ReferenceIdeal.Step.b96 j s := by
  unfold Cert.ReferenceIdeal.Step.b96
  rfl
set_option maxRecDepth 8192 in
theorem al_97 (h : Holds V0 s j) : (Host.dynamicUpdateSlice (V0 (Proc.devRef .tc main_v92_13)) (broadcastInDim S1x2048x128 ![1, 2] bcast_S2048x128_S1x2048x128_1_2 (res_main_while0b_v169 V0)) (fun k => (((![V0 (Proc.devRef .tc main_v92_10), constantI S_ 32 0#32, constantI S_ 32 0#32] : Fin 3 → (⟨S_, .i32⟩ : BufTy).Contents (Elt F))) k (Shape.Idx.first h_S_)).toInt) updateFits_S32x2048x128_S1x2048x128 : (Proc.devRef .tc main_while0b_v208 : DevRef τ sig).ty.Contents (Elt F)) = Cert.ReferenceIdeal.Step.b97 j s := by
  unfold Cert.ReferenceIdeal.Step.b97
  rw [← al_94 h, ← al_95 h, ← al_96 h, h.f_13, h.n_10]
  try rfl
set_option maxRecDepth 8192 in
theorem al_98 (h : Holds V0 s j) : (broadcastInDim S1x2048x128 ![1, 2] bcast_S2048x128_S1x2048x128_1_2 (res_main_while0b_v207 V0) : (Proc.devRef .tc main_while0b_call8_v0 : DevRef τ sig).ty.Contents (Elt F)) = Cert.ReferenceIdeal.Step.b98 j s := by
  unfold Cert.ReferenceIdeal.Step.b98
  rw [← al_93 h]
  try rfl
set_option maxRecDepth 8192 in
theorem al_99 (h : Holds V0 s j) : (constantI S_ 32 0#32 : (Proc.devRef .tc main_while0b_call8_c : DevRef τ sig).ty.Contents (Elt F)) = Cert.ReferenceIdeal.Step.b99 j s := by
  unfold Cert.ReferenceIdeal.Step.b99
  rfl
set_option maxRecDepth 8192 in
theorem al_100 (h : Holds V0 s j) : (constantI S_ 32 0#32 : (Proc.devRef .tc main_while0b_call8_c_0 : DevRef τ sig).ty.Contents (Elt F)) = Cert.ReferenceIdeal.Step.b100 j s := by
  unfold Cert.ReferenceIdeal.Step.b100
  rfl
set_option maxRecDepth 8192 in
theorem al_101 (h : Holds V0 s j) : (Host.dynamicUpdateSlice (V0 (Proc.devRef .tc main_v92_14)) (broadcastInDim S1x2048x128 ![1, 2] bcast_S2048x128_S1x2048x128_1_2 (res_main_while0b_v207 V0)) (fun k => (((![V0 (Proc.devRef .tc main_v92_10), constantI S_ 32 0#32, constantI S_ 32 0#32] : Fin 3 → (⟨S_, .i32⟩ : BufTy).Contents (Elt F))) k (Shape.Idx.first h_S_)).toInt) updateFits_S32x2048x128_S1x2048x128 : (Proc.devRef .tc main_while0b_v209 : DevRef τ sig).ty.Contents (Elt F)) = Cert.ReferenceIdeal.Step.b101 j s := by
  unfold Cert.ReferenceIdeal.Step.b101
  rw [← al_98 h, ← al_99 h, ← al_100 h, h.f_14, h.n_10]
  try rfl

/-! One trip's step of the carried values is `step`, field by field; a counter steps to the next number. -/

theorem step_11 (h : Holds V0 s j) : step_main_v92_11 V0 = (step j s).main_v92_11 := by
  unfold step_main_v92_11 Cert.ReferenceIdeal.Step.step
  show id (res_main_while0b_v169 V0) = _
  rw [al_50 h]
  try rfl
theorem step_12 (h : Holds V0 s j) : step_main_v92_12 V0 = (step j s).main_v92_12 := by
  unfold step_main_v92_12 Cert.ReferenceIdeal.Step.step
  show id (res_main_while0b_v207 V0) = _
  rw [al_93 h]
  try rfl
theorem step_13 (h : Holds V0 s j) : step_main_v92_13 V0 = (step j s).main_v92_13 := by
  unfold step_main_v92_13 Cert.ReferenceIdeal.Step.step
  show id (Host.dynamicUpdateSlice (V0 (Proc.devRef .tc main_v92_13)) (broadcastInDim S1x2048x128 ![1, 2] bcast_S2048x128_S1x2048x128_1_2 (res_main_while0b_v169 V0)) (fun k => (((![V0 (Proc.devRef .tc main_v92_10), constantI S_ 32 0#32, constantI S_ 32 0#32] : Fin 3 → (⟨S_, .i32⟩ : BufTy).Contents (Elt F))) k (Shape.Idx.first h_S_)).toInt) updateFits_S32x2048x128_S1x2048x128) = _
  exact al_97 h
theorem step_14 (h : Holds V0 s j) : step_main_v92_14 V0 = (step j s).main_v92_14 := by
  unfold step_main_v92_14 Cert.ReferenceIdeal.Step.step
  show id (Host.dynamicUpdateSlice (V0 (Proc.devRef .tc main_v92_14)) (broadcastInDim S1x2048x128 ![1, 2] bcast_S2048x128_S1x2048x128_1_2 (res_main_while0b_v207 V0)) (fun k => (((![V0 (Proc.devRef .tc main_v92_10), constantI S_ 32 0#32, constantI S_ 32 0#32] : Fin 3 → (⟨S_, .i32⟩ : BufTy).Contents (Elt F))) k (Shape.Idx.first h_S_)).toInt) updateFits_S32x2048x128_S1x2048x128) = _
  exact al_101 h
theorem step_10 (h : Holds V0 s j) : step_main_v92_10 V0 = constantI S_ 32 (BitVec.ofNat 32 (j + 1)) := by
  unfold step_main_v92_10
  rw [h.n_10]
  funext i
  show BitVec.ofNat 32 j + 1#32 = BitVec.ofNat 32 (j + 1)
  simp only [BitVec.ofNat_add]

set_option maxRecDepth 8192 in
theorem out_main_v111_holds (h : Holds V0 s j) {x_main_arg22 : (⟨S128x128, .f32⟩ : BufTy).Contents (Elt F)} (h_main_arg22 : V0 (Proc.devRef .tc main_arg22) = x_main_arg22) {x_main_arg23 : (⟨S128, .f32⟩ : BufTy).Contents (Elt F)} (h_main_arg23 : V0 (Proc.devRef .tc main_arg23) = x_main_arg23) {x_main_arg24 : (⟨S4x128, .f32⟩ : BufTy).Contents (Elt F)} (h_main_arg24 : V0 (Proc.devRef .tc main_arg24) = x_main_arg24) {x_main_arg25 : (⟨S4, .f32⟩ : BufTy).Contents (Elt F)} (h_main_arg25 : V0 (Proc.devRef .tc main_arg25) = x_main_arg25) : out_main_v111 V0 = Cert.ReferenceIdeal.Step.R_main_v111 s x_main_arg22 x_main_arg23 x_main_arg24 x_main_arg25 := by
  unfold out_main_v111 Cert.ReferenceIdeal.Step.R_main_v111
  rw [h.f_13, h_main_arg22, h_main_arg23, h_main_arg24, h_main_arg25]
  try rfl

set_option maxRecDepth 8192 in
theorem out_main_v128_holds (h : Holds V0 s j) {x_main_arg26 : (⟨S256x256, .f32⟩ : BufTy).Contents (Elt F)} (h_main_arg26 : V0 (Proc.devRef .tc main_arg26) = x_main_arg26) {x_main_arg27 : (⟨S256, .f32⟩ : BufTy).Contents (Elt F)} (h_main_arg27 : V0 (Proc.devRef .tc main_arg27) = x_main_arg27) {x_main_arg28 : (⟨S4x256, .f32⟩ : BufTy).Contents (Elt F)} (h_main_arg28 : V0 (Proc.devRef .tc main_arg28) = x_main_arg28) {x_main_arg29 : (⟨S4, .f32⟩ : BufTy).Contents (Elt F)} (h_main_arg29 : V0 (Proc.devRef .tc main_arg29) = x_main_arg29) : out_main_v128 V0 = Cert.ReferenceIdeal.Step.R_main_v128 s x_main_arg26 x_main_arg27 x_main_arg28 x_main_arg29 := by
  unfold out_main_v128 Cert.ReferenceIdeal.Step.R_main_v128
  rw [h.f_13, h.f_14, h_main_arg26, h_main_arg27, h_main_arg28, h_main_arg29]
  try rfl

set_option maxRecDepth 8192 in
theorem out_main_v129_holds (h : Holds V0 s j) : out_main_v129 V0 = Cert.ReferenceIdeal.Step.R_main_v129 s := by
  unfold out_main_v129 Cert.ReferenceIdeal.Step.R_main_v129
  rw [h.f_11]
  try rfl

/-- One trip keeps the valuation holding: `step` of the state, the same set-up values, the next number. -/
theorem holds_step (h : Holds V0 s j) : Holds (STEP V0) (step j s) (j + 1) where
  f_11 := (STEP_main_v92_11 V0).trans (step_11 h)
  f_12 := (STEP_main_v92_12 V0).trans (step_12 h)
  f_13 := (STEP_main_v92_13 V0).trans (step_13 h)
  f_14 := (STEP_main_v92_14 V0).trans (step_14 h)
  n_10 := (STEP_main_v92_10 V0).trans (step_10 h)
  f_0 := (STEP_main_v92_0 V0).trans h.f_0
  f_1 := (STEP_main_v92_1 V0).trans h.f_1
  f_2 := (STEP_main_v92_2 V0).trans h.f_2
  f_3 := (STEP_main_v92_3 V0).trans h.f_3
  f_4 := (STEP_main_v92_4 V0).trans h.f_4
  f_5 := (STEP_main_v92_5 V0).trans h.f_5
  f_6 := (STEP_main_v92_6 V0).trans h.f_6
  f_7 := (STEP_main_v92_7 V0).trans h.f_7
  f_8 := (STEP_main_v92_8 V0).trans h.f_8
  f_9 := (STEP_main_v92_9 V0).trans h.f_9

end Cert.ReferenceIdeal.StepRunK

end
-- ==== Proof.Ref.Entry.lean ====
/- The run of the reference: what its loop starts from, and the results as its step function iterated. -/
module

public import proofs.«01_k».proof.Proof.Ref.Groups
public import proofs.«01_k».proof.Proof.Ref.StepAl

@[expose] public section

noncomputable section

namespace Cert.ReferenceIdeal.StepRunK

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)
open Cert.Ref.Entry

variable {F : FTy → Type} [FloatOps F]

/-- The state the first trip starts from, of the memory the run starts from. -/
abbrev initState (m : (ℓ : Loc nD τ sig) → Buf (Elt F) ℓ) (c : Dev nD) : State F :=
  init (m ((c.tc : Thread nD τ).loc main_arg14)) (m ((c.tc : Thread nD τ).loc main_arg16)) (m ((c.tc : Thread nD τ).loc main_arg15)) (m ((c.tc : Thread nD τ).loc main_arg17)) (m ((c.tc : Thread nD τ).loc main_arg18)) (m ((c.tc : Thread nD τ).loc main_arg20)) (m ((c.tc : Thread nD τ).loc main_arg19)) (m ((c.tc : Thread nD τ).loc main_arg21)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

variable (m : (ℓ : Loc nD τ sig) → Buf (Elt F) ℓ) (c : Dev nD)

set_option maxRecDepth 65536 in
set_option maxHeartbeats 4000000 in
/-- What the operations before the loop leave: the initial state, and the counter at zero. -/
theorem entry_holds : Holds (entryContents preI m c) (initState m c) 0 := by
  let V0 : Valuation τ sig (Elt F) := fun b => m (c, b)
  let V1 := after hostOps0 V0
  let V2 := after hostOps0_1 V1
  let V3 := after hostOps0_2 V2
  let V4 := after hostOps0_3 V3
  let V5 := after hostOps0_4 V4
  let V6 := after hostOps0_5 V5
  let V7 := after hostOps0_6 V6
  let V8 := after hostOps0_7 V7
  let V9 := after hostOps0_8 V8
  let V10 := after hostOps0_9 V9
  have a2_1 : V2 (Proc.devRef .tc main_arg1) = m ((c.tc : Thread nD τ).loc main_arg1) := by
    show (after hostOps0_1 (after hostOps0 (fun b => m (c, b)))) _ = _
    rw [keep_main_arg1_hostOps0_1, keep_main_arg1_hostOps0]
  have a2_4 : V2 (Proc.devRef .tc main_arg4) = m ((c.tc : Thread nD τ).loc main_arg4) := by
    show (after hostOps0_1 (after hostOps0 (fun b => m (c, b)))) _ = _
    rw [keep_main_arg4_hostOps0_1, keep_main_arg4_hostOps0]
  have a2_5 : V2 (Proc.devRef .tc main_arg5) = m ((c.tc : Thread nD τ).loc main_arg5) := by
    show (after hostOps0_1 (after hostOps0 (fun b => m (c, b)))) _ = _
    rw [keep_main_arg5_hostOps0_1, keep_main_arg5_hostOps0]
  have a2_3 : V2 (Proc.devRef .tc main_arg3) = m ((c.tc : Thread nD τ).loc main_arg3) := by
    show (after hostOps0_1 (after hostOps0 (fun b => m (c, b)))) _ = _
    rw [keep_main_arg3_hostOps0_1, keep_main_arg3_hostOps0]
  have a2_6 : V2 (Proc.devRef .tc main_arg6) = m ((c.tc : Thread nD τ).loc main_arg6) := by
    show (after hostOps0_1 (after hostOps0 (fun b => m (c, b)))) _ = _
    rw [keep_main_arg6_hostOps0_1, keep_main_arg6_hostOps0]
  have a2_7 : V2 (Proc.devRef .tc main_arg7) = m ((c.tc : Thread nD τ).loc main_arg7) := by
    show (after hostOps0_1 (after hostOps0 (fun b => m (c, b)))) _ = _
    rw [keep_main_arg7_hostOps0_1, keep_main_arg7_hostOps0]
  have a4_8 : V4 (Proc.devRef .tc main_arg8) = m ((c.tc : Thread nD τ).loc main_arg8) := by
    show (after hostOps0_3 (after hostOps0_2 (after hostOps0_1 (after hostOps0 (fun b => m (c, b)))))) _ = _
    rw [keep_main_arg8_hostOps0_3, keep_main_arg8_hostOps0_2, keep_main_arg8_hostOps0_1, keep_main_arg8_hostOps0]
  have a4_9 : V4 (Proc.devRef .tc main_arg9) = m ((c.tc : Thread nD τ).loc main_arg9) := by
    show (after hostOps0_3 (after hostOps0_2 (after hostOps0_1 (after hostOps0 (fun b => m (c, b)))))) _ = _
    rw [keep_main_arg9_hostOps0_3, keep_main_arg9_hostOps0_2, keep_main_arg9_hostOps0_1, keep_main_arg9_hostOps0]
  have a6_2 : V6 (Proc.devRef .tc main_arg2) = m ((c.tc : Thread nD τ).loc main_arg2) := by
    show (after hostOps0_5 (after hostOps0_4 (after hostOps0_3 (after hostOps0_2 (after hostOps0_1 (after hostOps0 (fun b => m (c, b)))))))) _ = _
    rw [keep_main_arg2_hostOps0_5, keep_main_arg2_hostOps0_4, keep_main_arg2_hostOps0_3, keep_main_arg2_hostOps0_2, keep_main_arg2_hostOps0_1, keep_main_arg2_hostOps0]
  have a6_10 : V6 (Proc.devRef .tc main_arg10) = m ((c.tc : Thread nD τ).loc main_arg10) := by
    show (after hostOps0_5 (after hostOps0_4 (after hostOps0_3 (after hostOps0_2 (after hostOps0_1 (after hostOps0 (fun b => m (c, b)))))))) _ = _
    rw [keep_main_arg10_hostOps0_5, keep_main_arg10_hostOps0_4, keep_main_arg10_hostOps0_3, keep_main_arg10_hostOps0_2, keep_main_arg10_hostOps0_1, keep_main_arg10_hostOps0]
  have a6_11 : V6 (Proc.devRef .tc main_arg11) = m ((c.tc : Thread nD τ).loc main_arg11) := by
    show (after hostOps0_5 (after hostOps0_4 (after hostOps0_3 (after hostOps0_2 (after hostOps0_1 (after hostOps0 (fun b => m (c, b)))))))) _ = _
    rw [keep_main_arg11_hostOps0_5, keep_main_arg11_hostOps0_4, keep_main_arg11_hostOps0_3, keep_main_arg11_hostOps0_2, keep_main_arg11_hostOps0_1, keep_main_arg11_hostOps0]
  have a8_12 : V8 (Proc.devRef .tc main_arg12) = m ((c.tc : Thread nD τ).loc main_arg12) := by
    show (after hostOps0_7 (after hostOps0_6 (after hostOps0_5 (after hostOps0_4 (after hostOps0_3 (after hostOps0_2 (after hostOps0_1 (after hostOps0 (fun b => m (c, b)))))))))) _ = _
    rw [keep_main_arg12_hostOps0_7, keep_main_arg12_hostOps0_6, keep_main_arg12_hostOps0_5, keep_main_arg12_hostOps0_4, keep_main_arg12_hostOps0_3, keep_main_arg12_hostOps0_2, keep_main_arg12_hostOps0_1, keep_main_arg12_hostOps0]
  have a8_13 : V8 (Proc.devRef .tc main_arg13) = m ((c.tc : Thread nD τ).loc main_arg13) := by
    show (after hostOps0_7 (after hostOps0_6 (after hostOps0_5 (after hostOps0_4 (after hostOps0_3 (after hostOps0_2 (after hostOps0_1 (after hostOps0 (fun b => m (c, b)))))))))) _ = _
    rw [keep_main_arg13_hostOps0_7, keep_main_arg13_hostOps0_6, keep_main_arg13_hostOps0_5, keep_main_arg13_hostOps0_4, keep_main_arg13_hostOps0_3, keep_main_arg13_hostOps0_2, keep_main_arg13_hostOps0_1, keep_main_arg13_hostOps0]
  have a10_14 : V10 (Proc.devRef .tc main_arg14) = m ((c.tc : Thread nD τ).loc main_arg14) := by
    show (after hostOps0_9 (after hostOps0_8 (after hostOps0_7 (after hostOps0_6 (after hostOps0_5 (after hostOps0_4 (after hostOps0_3 (after hostOps0_2 (after hostOps0_1 (after hostOps0 (fun b => m (c, b)))))))))))) _ = _
    rw [keep_main_arg14_hostOps0_9, keep_main_arg14_hostOps0_8, keep_main_arg14_hostOps0_7, keep_main_arg14_hostOps0_6, keep_main_arg14_hostOps0_5, keep_main_arg14_hostOps0_4, keep_main_arg14_hostOps0_3, keep_main_arg14_hostOps0_2, keep_main_arg14_hostOps0_1, keep_main_arg14_hostOps0]
  have a10_16 : V10 (Proc.devRef .tc main_arg16) = m ((c.tc : Thread nD τ).loc main_arg16) := by
    show (after hostOps0_9 (after hostOps0_8 (after hostOps0_7 (after hostOps0_6 (after hostOps0_5 (after hostOps0_4 (after hostOps0_3 (after hostOps0_2 (after hostOps0_1 (after hostOps0 (fun b => m (c, b)))))))))))) _ = _
    rw [keep_main_arg16_hostOps0_9, keep_main_arg16_hostOps0_8, keep_main_arg16_hostOps0_7, keep_main_arg16_hostOps0_6, keep_main_arg16_hostOps0_5, keep_main_arg16_hostOps0_4, keep_main_arg16_hostOps0_3, keep_main_arg16_hostOps0_2, keep_main_arg16_hostOps0_1, keep_main_arg16_hostOps0]
  have a10_15 : V10 (Proc.devRef .tc main_arg15) = m ((c.tc : Thread nD τ).loc main_arg15) := by
    show (after hostOps0_9 (after hostOps0_8 (after hostOps0_7 (after hostOps0_6 (after hostOps0_5 (after hostOps0_4 (after hostOps0_3 (after hostOps0_2 (after hostOps0_1 (after hostOps0 (fun b => m (c, b)))))))))))) _ = _
    rw [keep_main_arg15_hostOps0_9, keep_main_arg15_hostOps0_8, keep_main_arg15_hostOps0_7, keep_main_arg15_hostOps0_6, keep_main_arg15_hostOps0_5, keep_main_arg15_hostOps0_4, keep_main_arg15_hostOps0_3, keep_main_arg15_hostOps0_2, keep_main_arg15_hostOps0_1, keep_main_arg15_hostOps0]
  have a10_17 : V10 (Proc.devRef .tc main_arg17) = m ((c.tc : Thread nD τ).loc main_arg17) := by
    show (after hostOps0_9 (after hostOps0_8 (after hostOps0_7 (after hostOps0_6 (after hostOps0_5 (after hostOps0_4 (after hostOps0_3 (after hostOps0_2 (after hostOps0_1 (after hostOps0 (fun b => m (c, b)))))))))))) _ = _
    rw [keep_main_arg17_hostOps0_9, keep_main_arg17_hostOps0_8, keep_main_arg17_hostOps0_7, keep_main_arg17_hostOps0_6, keep_main_arg17_hostOps0_5, keep_main_arg17_hostOps0_4, keep_main_arg17_hostOps0_3, keep_main_arg17_hostOps0_2, keep_main_arg17_hostOps0_1, keep_main_arg17_hostOps0]
  have a10_18 : V10 (Proc.devRef .tc main_arg18) = m ((c.tc : Thread nD τ).loc main_arg18) := by
    show (after hostOps0_9 (after hostOps0_8 (after hostOps0_7 (after hostOps0_6 (after hostOps0_5 (after hostOps0_4 (after hostOps0_3 (after hostOps0_2 (after hostOps0_1 (after hostOps0 (fun b => m (c, b)))))))))))) _ = _
    rw [keep_main_arg18_hostOps0_9, keep_main_arg18_hostOps0_8, keep_main_arg18_hostOps0_7, keep_main_arg18_hostOps0_6, keep_main_arg18_hostOps0_5, keep_main_arg18_hostOps0_4, keep_main_arg18_hostOps0_3, keep_main_arg18_hostOps0_2, keep_main_arg18_hostOps0_1, keep_main_arg18_hostOps0]
  have a10_20 : V10 (Proc.devRef .tc main_arg20) = m ((c.tc : Thread nD τ).loc main_arg20) := by
    show (after hostOps0_9 (after hostOps0_8 (after hostOps0_7 (after hostOps0_6 (after hostOps0_5 (after hostOps0_4 (after hostOps0_3 (after hostOps0_2 (after hostOps0_1 (after hostOps0 (fun b => m (c, b)))))))))))) _ = _
    rw [keep_main_arg20_hostOps0_9, keep_main_arg20_hostOps0_8, keep_main_arg20_hostOps0_7, keep_main_arg20_hostOps0_6, keep_main_arg20_hostOps0_5, keep_main_arg20_hostOps0_4, keep_main_arg20_hostOps0_3, keep_main_arg20_hostOps0_2, keep_main_arg20_hostOps0_1, keep_main_arg20_hostOps0]
  have a10_19 : V10 (Proc.devRef .tc main_arg19) = m ((c.tc : Thread nD τ).loc main_arg19) := by
    show (after hostOps0_9 (after hostOps0_8 (after hostOps0_7 (after hostOps0_6 (after hostOps0_5 (after hostOps0_4 (after hostOps0_3 (after hostOps0_2 (after hostOps0_1 (after hostOps0 (fun b => m (c, b)))))))))))) _ = _
    rw [keep_main_arg19_hostOps0_9, keep_main_arg19_hostOps0_8, keep_main_arg19_hostOps0_7, keep_main_arg19_hostOps0_6, keep_main_arg19_hostOps0_5, keep_main_arg19_hostOps0_4, keep_main_arg19_hostOps0_3, keep_main_arg19_hostOps0_2, keep_main_arg19_hostOps0_1, keep_main_arg19_hostOps0]
  have a10_21 : V10 (Proc.devRef .tc main_arg21) = m ((c.tc : Thread nD τ).loc main_arg21) := by
    show (after hostOps0_9 (after hostOps0_8 (after hostOps0_7 (after hostOps0_6 (after hostOps0_5 (after hostOps0_4 (after hostOps0_3 (after hostOps0_2 (after hostOps0_1 (after hostOps0 (fun b => m (c, b)))))))))))) _ = _
    rw [keep_main_arg21_hostOps0_9, keep_main_arg21_hostOps0_8, keep_main_arg21_hostOps0_7, keep_main_arg21_hostOps0_6, keep_main_arg21_hostOps0_5, keep_main_arg21_hostOps0_4, keep_main_arg21_hostOps0_3, keep_main_arg21_hostOps0_2, keep_main_arg21_hostOps0_1, keep_main_arg21_hostOps0]
  have e0_v0 := g0_v0 V0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) rfl
  have e0_v1 := g0_v1 V0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) rfl
  have e0_v20 := g0_v20 V0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) rfl
  have e1_v29 := g1_v29 V1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (g0_v28 V0) e0_v20 (g0_cst V0)
  have e1_v0 := (k1_v0 V1).trans e0_v0
  have e1_v1 := (k1_v1 V1).trans e0_v1
  have e2_v47 := g2_v47 V2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e1_v29 e1_v0 e1_v1 a2_1 a2_4 a2_5 a2_3 a2_6 a2_7
  have e2_v49 := g2_v49 V2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e1_v29 e1_v0 e1_v1 a2_1 a2_4 a2_5 a2_3 a2_6 a2_7
  have e2_v50 := g2_v50 V2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e1_v29 e1_v0 e1_v1 a2_1 a2_4 a2_5 a2_3 a2_6 a2_7
  have e3_v51 := g3_v51 V3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e2_v49 e2_v47 e2_v50
  have e4_v56 := g4_v56 V4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e3_v51 a4_8 a4_9
  have e4_v58 := g4_v58 V4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e3_v51 a4_8 a4_9
  have e4_v59 := g4_v59 V4 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e3_v51 a4_8 a4_9
  have e5_v60 := g5_v60 V5 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e4_v58 e4_v56 e4_v59
  have e6_v72 := g6_v72 V6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e5_v60 a6_2 a6_10 a6_11
  have e6_v74 := g6_v74 V6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e5_v60 a6_2 a6_10 a6_11
  have e6_v75 := g6_v75 V6 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e5_v60 a6_2 a6_10 a6_11
  have e7_v76 := g7_v76 V7 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e6_v74 e6_v72 e6_v75
  have e8_v81 := g8_v81 V8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e7_v76 a8_12 a8_13
  have e8_v83 := g8_v83 V8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e7_v76 a8_12 a8_13
  have e8_v84 := g8_v84 V8 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e7_v76 a8_12 a8_13
  have e9_v85 := g9_v85 V9 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e8_v83 e8_v81 e8_v84
  have e10_v92_0 := g10_v92_0 V10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e9_v85
  have e10_v92_1 := g10_v92_1 V10 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) e9_v85
  exact {
      f_11 := g10_v92_11 V10
      f_12 := g10_v92_12 V10
      f_13 := g10_v92_13 V10
      f_14 := g10_v92_14 V10
      f_0 := e10_v92_0
      f_1 := e10_v92_1
      f_2 := (g10_v92_2 V10).trans a10_14
      f_3 := (g10_v92_3 V10).trans a10_16
      f_4 := (g10_v92_4 V10).trans a10_15
      f_5 := (g10_v92_5 V10).trans a10_17
      f_6 := (g10_v92_6 V10).trans a10_18
      f_7 := (g10_v92_7 V10).trans a10_20
      f_8 := (g10_v92_8 V10).trans a10_19
      f_9 := (g10_v92_9 V10).trans a10_21
      n_10 := g10_v92_10 V10 }

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 32 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v111) = Cert.ReferenceIdeal.Step.R_main_v111 (it c 32) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v128) = Cert.ReferenceIdeal.Step.R_main_v128 (it c 32) (m ((c.tc : Thread nD τ).loc main_arg26)) (m ((c.tc : Thread nD τ).loc main_arg27)) (m ((c.tc : Thread nD τ).loc main_arg28)) (m ((c.tc : Thread nD τ).loc main_arg29))
      ∧ r.2.mem ((c.tc : Thread nD τ).loc main_v129) = Cert.ReferenceIdeal.Step.R_main_v129 (it c 32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun _ h c =>
    have hk := holds_iter m c (it c) (h0 c) (hs c) 32
    ⟨(h c).1.trans (out_main_v111_holds hk (iter_main_arg22 m c 32) (iter_main_arg23 m c 32) (iter_main_arg24 m c 32) (iter_main_arg25 m c 32)), (h c).2.1.trans (out_main_v128_holds hk (iter_main_arg26 m c 32) (iter_main_arg27 m c 32) (iter_main_arg28 m c 32) (iter_main_arg29 m c 32)), (h c).2.2.1.trans (out_main_v129_holds hk), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2.1, (h c).2.2.2.2.2.2.2.2.2.2.2.2.2.2.2.2.2.2.2.2.1, (h c).2.2.2.2.2.2.2.2.2.2.2.2.2.2.2.2.2.2.2.2.2.1, (h c).2.2.2.2.2.2.2.2.2.2.2.2.2.2.2.2.2.2.2.2.2.2.1, (h c).2.2.2.2.2.2.2.2.2.2.2.2.2.2.2.2.2.2.2.2.2.2.2.1, (h c).2.2.2.2.2.2.2.2.2.2.2.2.2.2.2.2.2.2.2.2.2.2.2.2.1, (h c).2.2.2.2.2.2.2.2.2.2.2.2.2.2.2.2.2.2.2.2.2.2.2.2.2.1, (h c).2.2.2.2.2.2.2.2.2.2.2.2.2.2.2.2.2.2.2.2.2.2.2.2.2.2.1, (h c).2.2.2.2.2.2.2.2.2.2.2.2.2.2.2.2.2.2.2.2.2.2.2.2.2.2.2.1, (h c).2.2.2.2.2.2.2.2.2.2.2.2.2.2.2.2.2.2.2.2.2.2.2.2.2.2.2.2.1, (h c).2.2.2.2.2.2.2.2.2.2.2.2.2.2.2.2.2.2.2.2.2.2.2.2.2.2.2.2.2.1, (h c).2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.1, (h c).2.2.2.2.2.2.2.2.2.2.2.2.2.2.2.2.2.2.2.2.2.2.2.2.2.2.2.2.2.2.2.2⟩) (Value.run m ρ)

end Cert.ReferenceIdeal.StepRunK

end
-- ==== Proof.Ref.Frame.lean ====
/- The reference's frame: every run ends, and leaves the argument arrays as they were. -/
module

public import proofs.«01_k».proof.Proof.Ref.Entry

@[expose] public section

noncomputable section

namespace Cert.ReferenceIdeal.StepRunK

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The states of the loop: the initial one, and from each the next by `step`. -/
def states (m : (ℓ : Loc nD τ sig) → Buf (Elt F) ℓ) (c : Dev nD) : ℕ → State F
  | 0 => initState m c
  | k + 1 => step k (states m c k)

/-- Every run of the reference ends with the arguments unchanged and every semaphore at zero. -/
theorem frame (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29))
      ∧ r.2.sem = fun _ => 0 :=
  (θ_run defs _ _).mono (fun r h => ⟨fun c => (h c).2.2.2, Idealize.ShloMosaic.sem_eq_zero_of_no_sems (by decide) r.2⟩)
    (run_iter m ρ (states m) (fun _ => rfl) (fun _ _ => rfl))

end Cert.ReferenceIdeal.StepRunK

end
-- ==== Proof.Math.Finite.lean ====
/- The precondition: where the largest absolute value of the nodes' states is at most the largest finite number, every state is
   a real number. -/
module

public import proofs.«01_k».proof.Pre_finite
public import Idealize.ShloMosaic.Lib.Pointwise

@[expose] public section

set_option maxRecDepth 16384

noncomputable section

namespace Cert.Pre_finite

open Idealize.ShloMosaic

/-- The predicate's shape relations hold. -/
theorem facts : Facts where
  reducesTo_S2x32x32x8_S_d0_1_2_3 := by decide
  h_S_ := by decide

/-- The largest finite binary32 number is below infinity. -/
theorem largest_lt : Ideal.ofBits .f32 0x7F7FFFFF#32 < ⊤ := by
  have : Ideal.ofBits .f32 0x7F7FFFFF#32 = ((340282346638528859811704183484516925440 : ℝ) : EReal) := by
    simp [Ideal.ofBits, Ideal.ieee, -EReal.coe_mul]; norm_num
  rw [this]
  exact EReal.coe_lt_top _

/-- An extended real whose absolute value is below infinity is a real. -/
theorem real_of_abs (x : EReal) (h : FloatOps.absf (F := Ideal) (φ := .f32) x < (⊤ : EReal)) : ∃ r : ℝ, x = r := by
  induction x with
  | bot => exact absurd h (by show ¬ (max (⊥ : EReal) (-⊥) < ⊤); simp)
  | coe r => exact ⟨r, rfl⟩
  | top => exact absurd h (by show ¬ (max (⊤ : EReal) (-⊤) < ⊤); simp)

/-- A condition's bit is 1 only where it holds. -/
theorem true_of_bit : ∀ b : Bool, BitVec.ofBool b = 1#1 → b = true := by decide

/-- Where the predicate holds, every state is a real. -/
theorem real_of_finite [Facts] (a0 : FVec Ideal S2x32x32x8 .f32) (i : S_.Idx)
    (h : cmpf .ole ((fun x v => Host.reduce FloatOps.maximumf x v Facts.reducesTo_S2x32x32x8_S_d0_1_2_3 Facts.h_S_) (Host.absf a0) (constant S_ .f32 0xFF800000#32)) (constant S_ .f32 0x7F7FFFFF#32) i = 1#1)
    (y : S2x32x32x8.Idx) : ∃ r : ℝ, a0 y = r := by
  revert h
  pointwise
  intro h
  have h' := of_decide_eq_true (true_of_bit _ h)
  rw [Finset.fold_max_le] at h'
  exact real_of_abs _ ((h'.2 y (by
    rw [Finset.mem_filter]
    exact ⟨Finset.mem_univ _, funext fun a => a.elim0⟩)).trans_lt largest_lt)

end Cert.Pre_finite

end
-- ==== Proof.Math.Spec.lean ====
/- The edge network as functions of rows: what one node, one ordered pair of nodes and one step of the two recurrences
   compute. The kernel's blocks and the reference's arrays are both read as these functions. -/
module

public import Idealize.ShloMosaic.Lib.Pointwise

@[expose] public section

noncomputable section

namespace Cert.Spec

open Idealize.ShloMosaic

/-- The exponential linear unit. -/
def elu (x : EReal) : EReal := if 0 < x then x else Ideal.exp x - 1

/-- One output of a dense layer: the row `v` times column `j` of `W`, plus the bias. -/
def dense {K M : ℕ} (v : Fin K → EReal) (W : Fin K → Fin M → EReal) (b : Fin M → EReal) (j : Fin M) : EReal :=
  (∑ k, v k * W k j) + b j

/-- The weights, each matrix with its input axis first. -/
structure Par where
  Wr : Fin 35 → Fin 128 → EReal
  br : Fin 128 → EReal
  W3a : Fin 128 → Fin 128 → EReal
  b3a : Fin 128 → EReal
  W3b : Fin 128 → Fin 128 → EReal
  b3b : Fin 128 → EReal
  W4a : Fin 384 → Fin 128 → EReal
  b4a : Fin 128 → EReal
  W4b : Fin 128 → Fin 128 → EReal
  b4b : Fin 128 → EReal
  Wif : Fin 128 → Fin 384 → EReal
  Whf : Fin 128 → Fin 384 → EReal
  cif : Fin 384 → EReal
  chf : Fin 384 → EReal
  Wir : Fin 128 → Fin 384 → EReal
  Whr : Fin 128 → Fin 384 → EReal
  cir : Fin 384 → EReal
  chr : Fin 384 → EReal
  Wp1 : Fin 128 → Fin 128 → EReal
  bp1 : Fin 128 → EReal
  Wp2 : Fin 128 → Fin 4 → EReal
  bp2 : Fin 4 → EReal
  We1 : Fin 256 → Fin 256 → EReal
  be1 : Fin 256 → EReal
  We2 : Fin 256 → Fin 4 → EReal
  be2 : Fin 4 → EReal

/-- The relative features of a sender with state `s` and a receiver with state `r`. -/
def rel (s r : Fin 8 → EReal) (d : Fin 9) : EReal :=
  if h : d.val < 2 then s ⟨d.val, by omega⟩ - r ⟨d.val, by omega⟩
  else if h₁ : d.val - 2 < 2 then s ⟨2 + (d.val - 2), by omega⟩ - r ⟨2 + (d.val - 2), by omega⟩
  else if h₂ : d.val - 4 < 2 then s ⟨2 + (d.val - 4), by omega⟩
  else if h₃ : d.val - 6 < 2 then r ⟨2 + (d.val - 6), by omega⟩
  else (s 0 - r 0) * (s 3 - r 3) - (s 1 - r 1) * (s 2 - r 2)

/-- The mean over the other nodes `s` of the relative features of `s` and the receiver `n`. -/
def incoming (x : Fin 32 → Fin 8 → EReal) (n : Fin 32) (d : Fin 9) : EReal :=
  Ideal.div (∑ s : Fin 32, if s = n then 0 else rel (x s) (x n) d) ((31 : ℝ) : EReal)

/-- A node's features: its state, the incoming relative features, its position, its charge embedding. -/
def cat (x : Fin 8 → EReal) (inc : Fin 9 → EReal) (ce : Fin 16 → EReal) (k : Fin 35) : EReal :=
  if h : k.val < 8 then x ⟨k.val, h⟩
  else if h' : k.val - 8 < 9 then inc ⟨k.val - 8, h'⟩
  else if h'' : k.val - 17 < 2 then x ⟨k.val - 17, by omega⟩
  else ce ⟨k.val - 19, by omega⟩

/-- A node's embedding: its scaled sum of edges plus the residual layer, through the two layers of the node network. -/
def node (P : Par) (x : Fin 8 → EReal) (inc : Fin 9 → EReal) (ce : Fin 16 → EReal) (ns : Fin 128 → EReal) (j : Fin 128) :
    EReal :=
  elu (dense (fun k => elu (dense (fun l => ns l + dense (cat x inc ce) P.Wr P.br l) P.W3a P.b3a k)) P.W3b P.b3b j)

/-- The first layer of the edge network on a sender's and a receiver's embedding and the edge's own. -/
def mix (P : Par) (s r e : Fin 128 → EReal) (j : Fin 128) : EReal :=
  elu ((((∑ k : Fin 128, s k * P.W4a ⟨k.val, by omega⟩ j) + (∑ k : Fin 128, r k * P.W4a ⟨128 + k.val, by omega⟩ j))
    + (∑ k : Fin 128, e k * P.W4a ⟨256 + k.val, by omega⟩ j)) + P.b4a j)

/-- An edge's embedding at one time step. -/
def edge (P : Par) (s r e : Fin 128 → EReal) (j : Fin 128) : EReal :=
  elu (dense (mix P s r e) P.W4b P.b4b j)

/-- One step of a gated recurrent unit from the two gate rows and the state. -/
def cell (gi gh : Fin 384 → EReal) (h : Fin 128 → EReal) (j : Fin 128) : EReal :=
  Ideal.tanh (gi ⟨256 + j.val, by omega⟩
      + Ideal.logistic (gi ⟨j.val, by omega⟩ + gh ⟨j.val, by omega⟩) * gh ⟨256 + j.val, by omega⟩)
    + Ideal.logistic (gi ⟨128 + j.val, by omega⟩ + gh ⟨128 + j.val, by omega⟩)
      * (h j - Ideal.tanh (gi ⟨256 + j.val, by omega⟩
        + Ideal.logistic (gi ⟨j.val, by omega⟩ + gh ⟨j.val, by omega⟩) * gh ⟨256 + j.val, by omega⟩))

/-- The recurrence from the zero state over the inputs `xs`. -/
def state (xs : ℕ → Fin 128 → EReal) (Wi Wh : Fin 128 → Fin 384 → EReal) (bi bh : Fin 384 → EReal) : ℕ → Fin 128 → EReal
  | 0 => fun _ => 0
  | k + 1 => cell (dense (xs k) Wi bi) (dense (state xs Wi Wh bi bh k) Wh bh) (state xs Wi Wh bi bh k)

/-- Time step `k`, wrapped into the 32 there are. -/
def tm (k : ℕ) : Fin 32 := ⟨k % 32, Nat.mod_lt _ (by decide)⟩

/-- The forward recurrence's state after `k` steps on an edge's embeddings. -/
def fwd (P : Par) (ev : Fin 32 → Fin 128 → EReal) (k : ℕ) : Fin 128 → EReal :=
  state (fun i => ev (tm i)) P.Wif P.Whf P.cif P.chf k

/-- The reverse recurrence's state after `k` steps on an edge's embeddings. -/
def rev (P : Par) (ev : Fin 32 → Fin 128 → EReal) (k : ℕ) : Fin 128 → EReal :=
  state (fun i => ev (tm (31 - i))) P.Wir P.Whr P.cir P.chr k

/-- The prior head on a forward state. -/
def prior (P : Par) (f : Fin 128 → EReal) (c : Fin 4) : EReal :=
  dense (fun j => elu (dense f P.Wp1 P.bp1 j)) P.Wp2 P.bp2 c

/-- The encoder head on a forward and a reverse state. -/
def enc (P : Par) (f r : Fin 128 → EReal) (c : Fin 4) : EReal :=
  dense (fun j => elu (((∑ k : Fin 128, f k * P.We1 ⟨k.val, by omega⟩ j)
    + (∑ k : Fin 128, r k * P.We1 ⟨128 + k.val, by omega⟩ j)) + P.be1 j)) P.We2 P.be2 c

/-- A sum over 384 positions in three parts of 128. -/
theorem sum_three (f : Fin 384 → EReal) :
    ∑ k, f k = ((∑ k : Fin 128, f ⟨k.val, by omega⟩) + (∑ k : Fin 128, f ⟨128 + k.val, by omega⟩))
      + (∑ k : Fin 128, f ⟨256 + k.val, by omega⟩) := by
  rw [show ∑ k, f k = ∑ k : Fin (256 + 128), f k from rfl, Fin.sum_univ_add,
    show ∑ i : Fin 256, f (Fin.castAdd 128 i) = ∑ i : Fin (128 + 128), f (Fin.castAdd 128 i) from rfl, Fin.sum_univ_add]
  rfl

/-- A sum over 256 positions in two parts of 128. -/
theorem sum_two (f : Fin 256 → EReal) :
    ∑ k, f k = (∑ k : Fin 128, f ⟨k.val, by omega⟩) + (∑ k : Fin 128, f ⟨128 + k.val, by omega⟩) := by
  rw [show ∑ k, f k = ∑ k : Fin (128 + 128), f k from rfl, Fin.sum_univ_add]
  rfl

end Cert.Spec

end
-- ==== Proof.Pay.Gru.lean ====
/- The recurrence step of the kernel's loop, at an index. -/
module

public import proofs.«01_k».proof.Proof.Gen.KernelIdeal.Skeleton
public import proofs.«01_k».proof.Proof.Math.Spec
public import Idealize.ShloMosaic.Lib.Pointwise

@[expose] public section

set_option maxRecDepth 16384

noncomputable section

namespace Cert.Pay

open Cert.KernelIdeal Cert.KernelIdeal.Gen
open Idealize.ShloMosaic

/-- One forward step: the gated unit on row `r`, from that row of the input gates. -/
theorem pay2_at (w : FVec Ideal S128x384 .f32) (b : FVec Ideal S1x384 .f32) (h : FVec Ideal S256x128 .f32)
    (g : Vec Ideal S1x256x384 .f32) (r : Fin 256) (j : Fin 128) :
    k0_pay2 w b h g (ix2 r j) = Spec.cell (fun q => g (ix3 0 r q))
      (Spec.dense (fun k => h (ix2 r k)) (fun k q => w (ix2 k q)) (fun q => b (ix2 0 q))) (fun k => h (ix2 r k)) j := by
  pointwise [k0_pay2]
  rfl

/-- The loaded recurrent weights, as they are. -/
theorem pay29_at (w : Vec Ideal S128x384 .f32) (k : Fin 128) (q : Fin 384) : k0_pay29 w (ix2 k q) = w (ix2 k q) := by
  pointwise [k0_pay29]

/-- The loaded recurrent bias, as it is. -/
theorem pay30_at (b : Vec Ideal S1x384 .f32) (k : Fin 1) (q : Fin 384) : k0_pay30 b (ix2 k q) = b (ix2 k q) := by
  pointwise [k0_pay30]

/-- The state before the first step is zero. -/
theorem pay35_at (r : Fin 256) (j : Fin 128) : k0_pay35 (F := Ideal) (ix2 r j) = 0 := by
  pointwise [k0_pay35]

/-- The state's result block is the state. -/
theorem pay38_at (h : FVec Ideal S256x128 .f32) (z : Fin 1) (r : Fin 256) (j : Fin 128) :
    k0_pay38 h (ix3 z r j) = h (ix2 r j) := by
  pointwise [k0_pay38]

/-- The input gates of every step, from the edge embeddings laid out step first. -/
theorem gates_at (e : Vec Ideal S32x256x128 .f32) (w : Vec Ideal S128x384 .f32) (b : Vec Ideal S1x384 .f32)
    (t : Fin 32) (r : Fin 256) (q : Fin 384) :
    k0_pay28 (k0_pay27 e w) b (ix3 t r q)
      = Spec.dense (fun k => e (ix3 t r k)) (fun k q => w (ix2 k q)) (fun q => b (ix2 0 q)) q := by
  pointwise [k0_pay28, k0_pay27]
  rfl

/-- The forward slab stored is the forward state. -/
theorem pay3_at (w : FVec Ideal S128x384 .f32) (b : FVec Ideal S1x384 .f32) (h : FVec Ideal S256x128 .f32)
    (g : Vec Ideal S1x256x384 .f32) (z : Fin 1) (r : Fin 256) (j : Fin 128) :
    k0_pay3 w b h g (ix3 z r j) = k0_pay2 w b h g (ix2 r j) := by
  pointwise [k0_pay3]

/-- The other loaded weights and biases, as they are. -/
theorem pay31_at (w : Vec Ideal S128x384 .f32) (k : Fin 128) (q : Fin 384) : k0_pay31 w (ix2 k q) = w (ix2 k q) := by
  pointwise [k0_pay31]

theorem pay32_at (b : Vec Ideal S1x384 .f32) (k : Fin 1) (q : Fin 384) : k0_pay32 b (ix2 k q) = b (ix2 k q) := by
  pointwise [k0_pay32]

theorem pay33_at (w : Vec Ideal S128x384 .f32) (k : Fin 128) (q : Fin 384) : k0_pay33 w (ix2 k q) = w (ix2 k q) := by
  pointwise [k0_pay33]

theorem pay34_at (b : Vec Ideal S1x384 .f32) (k : Fin 1) (q : Fin 384) : k0_pay34 b (ix2 k q) = b (ix2 k q) := by
  pointwise [k0_pay34]

/-- The reverse step's input gates. -/
theorem pay4_at (w : FVec Ideal S128x384 .f32) (b : FVec Ideal S1x384 .f32) (e : Vec Ideal S1x256x128 .f32) (r : Fin 256)
    (q : Fin 384) : k0_pay4 w b e (ix2 r q)
      = Spec.dense (fun k => e (ix3 0 r k)) (fun k q => w (ix2 k q)) (fun q => b (ix2 0 q)) q := by
  pointwise [k0_pay4]
  rfl

/-- The reverse step's state gates. -/
theorem pay5_at (w : FVec Ideal S128x384 .f32) (b : FVec Ideal S1x384 .f32) (h : FVec Ideal S256x128 .f32) (r : Fin 256)
    (q : Fin 384) : k0_pay5 w b h (ix2 r q)
      = Spec.dense (fun k => h (ix2 r k)) (fun k q => w (ix2 k q)) (fun q => b (ix2 0 q)) q := by
  pointwise [k0_pay5]
  rfl

/-- One reverse step: the gated unit on row `r`, from that row of the edge embeddings. -/
theorem pay36_at (w' : FVec Ideal S128x384 .f32) (b' : FVec Ideal S1x384 .f32) (w : FVec Ideal S128x384 .f32)
    (b : FVec Ideal S1x384 .f32) (h : FVec Ideal S256x128 .f32) (e : Vec Ideal S1x256x128 .f32) (r : Fin 256) (j : Fin 128) :
    k0_pay36 h (k0_pay6 w' b' w b h e) (k0_pay7 w b e) (k0_pay8 w' b' w b h e) (ix2 r j)
      = Spec.cell (Spec.dense (fun k => e (ix3 0 r k)) (fun k q => w (ix2 k q)) (fun q => b (ix2 0 q)))
          (Spec.dense (fun k => h (ix2 r k)) (fun k q => w' (ix2 k q)) (fun q => b' (ix2 0 q))) (fun k => h (ix2 r k)) j := by
  pointwise [k0_pay36, k0_pay6, k0_pay7, k0_pay8, pay4_at, pay5_at]
  rfl

/-- The reverse slab stored is the reverse state. -/
theorem pay37_at (h u v w : FVec Ideal S256x128 .f32) (z : Fin 1) (r : Fin 256) (j : Fin 128) :
    k0_pay37 h u v w (ix3 z r j) = k0_pay36 h u v w (ix2 r j) := by
  pointwise [k0_pay37]

end Cert.Pay

end
-- ==== Proof.Run.Trip.lean ====
/- The kernel's loop over the time steps: what the state is after each trip. -/
module

public import proofs.«01_k».proof.Proof.Gen.KernelIdeal.Loops
public import proofs.«01_k».proof.Proof.Pay.Gru

@[expose] public section

set_option maxRecDepth 16384

noncomputable section

namespace Cert.KernelIdeal.Run

open Cert.KernelIdeal Cert.KernelIdeal.Gen
open Idealize.ShloMosaic

variable (𝒱 : Variants) (c : Dev nD) (bd : Option 𝒱.V) (i : grid0.Coords) (arg2 : Memref sig .tc .vmem S1x256x32x128 .f32) (harg2 : arg2.IsWhole) (arg3 : Memref sig .tc .vmem S1x32x32x128 .f32) (harg3 : arg3.IsWhole) (arg4 : Memref sig .tc .vmem S1x32x32x8 .f32) (harg4 : arg4.IsWhole) (arg5 : Memref sig .tc .vmem S1x32x32x16 .f32) (harg5 : arg5.IsWhole) (arg6 : Memref sig .tc .vmem S35x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S384x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x384 .f32) (harg16 : arg16.IsWhole) (arg17 : Memref sig .tc .vmem S128x384 .f32) (harg17 : arg17.IsWhole) (arg18 : Memref sig .tc .vmem S1x384 .f32) (harg18 : arg18.IsWhole) (arg19 : Memref sig .tc .vmem S1x384 .f32) (harg19 : arg19.IsWhole) (arg20 : Memref sig .tc .vmem S128x384 .f32) (harg20 : arg20.IsWhole) (arg21 : Memref sig .tc .vmem S128x384 .f32) (harg21 : arg21.IsWhole) (arg22 : Memref sig .tc .vmem S1x384 .f32) (harg22 : arg22.IsWhole) (arg23 : Memref sig .tc .vmem S1x384 .f32) (harg23 : arg23.IsWhole) (arg24 : Memref sig .tc .vmem S128x128 .f32) (harg24 : arg24.IsWhole) (arg25 : Memref sig .tc .vmem S1x128 .f32) (harg25 : arg25.IsWhole) (arg26 : Memref sig .tc .vmem S128x4 .f32) (harg26 : arg26.IsWhole) (arg27 : Memref sig .tc .vmem S1x4 .f32) (harg27 : arg27.IsWhole) (arg28 : Memref sig .tc .vmem S256x256 .f32) (harg28 : arg28.IsWhole) (arg29 : Memref sig .tc .vmem S1x256 .f32) (harg29 : arg29.IsWhole) (arg30 : Memref sig .tc .vmem S256x4 .f32) (harg30 : arg30.IsWhole) (arg31 : Memref sig .tc .vmem S1x4 .f32) (harg31 : arg31.IsWhole) (arg32 : Memref sig .tc .vmem S1x32x256x4 .f32) (harg32 : arg32.IsWhole) (arg33 : Memref sig .tc .vmem S1x32x256x4 .f32) (harg33 : arg33.IsWhole) (arg34 : Memref sig .tc .vmem S1x256x128 .f32) (harg34 : arg34.IsWhole) (arg35 : Memref sig .tc .vmem S32x256x128 .f32) (harg35 : arg35.IsWhole) (arg36 : Memref sig .tc .vmem S32x256x384 .f32) (harg36 : arg36.IsWhole) (arg37 : Memref sig .tc .vmem S32x256x128 .f32) (harg37 : arg37.IsWhole) (arg38 : Memref sig .tc .vmem S32x256x128 .f32) (harg38 : arg38.IsWhole) (arg39 : Memref sig .tc .vmem S32x32x128 .f32) (harg39 : arg39.IsWhole) (v159 : FVec Ideal S8192x384 .f32) (v168 : Vec Ideal S128x384 .f32) (v170 : Vec Ideal S1x384 .f32) (v172 : Vec Ideal S128x384 .f32) (v174 : Vec Ideal S1x384 .f32) (v176 : Vec Ideal S128x384 .f32) (v178 : Vec Ideal S1x384 .f32) (X_arg35 : BufTy.Contents (Elt Ideal) arg35.view.ty) (X_arg36 : BufTy.Contents (Elt Ideal) arg36.view.ty)
  (init : FVec Ideal S256x128 .f32 × FVec Ideal S256x128 .f32)

/-- One trip's forward state, from the trip's slab of the input gates. -/
theorem trip_fst (k : Fin k0_t1_loop.trips) (acc : FVec Ideal S256x128 .f32 × FVec Ideal S256x128 .f32) :
    (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 k acc).1
      = k0_pay2 (k0_pay29 v168) (k0_pay30 v170) acc.1
          (arg36.view.readAt (Elt Ideal) (Rect.unit (s := S32x256x384) (k0_off2 k) S1x256x384.size (k0_off2_inb k)).toLoadRect X_arg36) := by
  unfold tripR_k0_t1 trip_k0_t1; rfl

/-- One trip's reverse state, from the trip's slab of the edge embeddings. -/
theorem trip_snd (k : Fin k0_t1_loop.trips) (acc : FVec Ideal S256x128 .f32 × FVec Ideal S256x128 .f32) :
    (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 k acc).2
      = k0_pay36 acc.2
          (k0_pay6 (k0_pay31 v172) (k0_pay32 v174) (k0_pay33 v176) (k0_pay34 v178) acc.2
            (arg35.view.readAt (Elt Ideal) (Rect.unit (s := S32x256x128) (k0_off4 k) S1x256x128.size (k0_off4_inb k)).toLoadRect X_arg35))
          (k0_pay7 (k0_pay33 v176) (k0_pay34 v178)
            (arg35.view.readAt (Elt Ideal) (Rect.unit (s := S32x256x128) (k0_off4 k) S1x256x128.size (k0_off4_inb k)).toLoadRect X_arg35))
          (k0_pay8 (k0_pay31 v172) (k0_pay32 v174) (k0_pay33 v176) (k0_pay34 v178) acc.2
            (arg35.view.readAt (Elt Ideal) (Rect.unit (s := S32x256x128) (k0_off4 k) S1x256x128.size (k0_off4_inb k)).toLoadRect X_arg35)) := by
  unfold tripR_k0_t1 trip_k0_t1; rfl

/-- The forward slab one trip stores. -/
theorem trip_store_fst (k : Fin k0_t1_loop.trips) (acc : FVec Ideal S256x128 .f32 × FVec Ideal S256x128 .f32) :
    (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 k acc).1
      = [⟨Rect.unit (s := S32x256x128) (k0_off3 k) S1x256x128.size (k0_off3_inb k), k0_pay3 (k0_pay29 v168) (k0_pay30 v170) acc.1
          (arg36.view.readAt (Elt Ideal) (Rect.unit (s := S32x256x384) (k0_off2 k) S1x256x384.size (k0_off2_inb k)).toLoadRect X_arg36)⟩] := by
  unfold tripL_k0_t1 trip_k0_t1; rfl

/-- The reverse slab one trip stores. -/
theorem trip_store_snd (k : Fin k0_t1_loop.trips) (acc : FVec Ideal S256x128 .f32 × FVec Ideal S256x128 .f32) :
    (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 k acc).2
      = [⟨Rect.unit (s := S32x256x128) (k0_off4 k) S1x256x128.size (k0_off4_inb k), k0_pay37 acc.2
          (k0_pay6 (k0_pay31 v172) (k0_pay32 v174) (k0_pay33 v176) (k0_pay34 v178) acc.2
            (arg35.view.readAt (Elt Ideal) (Rect.unit (s := S32x256x128) (k0_off4 k) S1x256x128.size (k0_off4_inb k)).toLoadRect X_arg35))
          (k0_pay7 (k0_pay33 v176) (k0_pay34 v178)
            (arg35.view.readAt (Elt Ideal) (Rect.unit (s := S32x256x128) (k0_off4 k) S1x256x128.size (k0_off4_inb k)).toLoadRect X_arg35))
          (k0_pay8 (k0_pay31 v172) (k0_pay32 v174) (k0_pay33 v176) (k0_pay34 v178) acc.2
            (arg35.view.readAt (Elt Ideal) (Rect.unit (s := S32x256x128) (k0_off4 k) S1x256x128.size (k0_off4_inb k)).toLoadRect X_arg35))⟩] := by
  unfold tripL_k0_t1 trip_k0_t1; rfl

end Cert.KernelIdeal.Run

end
-- ==== Proof.Run.Loop.lean ====
/- The kernel's loop over the time steps: the states are the recurrences' and the slabs hold them. -/
module

public import proofs.«01_k».proof.Proof.Run.Trip
public import Idealize.ShloMosaic.Lib.VecWindow
public import Idealize.ShloMosaic.Lib.WritesUnit

@[expose] public section

set_option maxRecDepth 16384

noncomputable section

namespace Cert.KernelIdeal.Run

open Cert.KernelIdeal Cert.KernelIdeal.Gen
open Idealize.ShloMosaic

/-- The loop makes 32 trips. -/
theorem trips_eq : k0_t1_loop.trips = 32 := by decide +kernel

/-- A load of one step's slab of the input gates. -/
theorem slab_gates (v : View sig .tc .vmem S32x256x384 .f32) (X : v.ty.Contents (Elt Ideal)) (k : Fin k0_t1_loop.trips)
    (r : Fin 256) (q : Fin 384) :
    v.readAt (Elt Ideal) (Rect.unit (s := S32x256x384) (k0_off2 k) S1x256x384.size (k0_off2_inb k)).toLoadRect X (ix3 0 r q)
      = v.read (Elt Ideal) X (ix3 ⟨k.val, Nat.lt_of_lt_of_eq k.isLt trips_eq⟩ r q) := by
  refine congrArg (v.read (Elt Ideal) X) (funext fun a => Fin.ext ?_)
  refine (congrArg (fun z => z + 1 * _) (congrFun (k0_off2_eq k) a)).trans ?_
  fin_cases a <;> simp [ix3]

/-- A load of the slab of the edge embeddings as far from the end. -/
theorem slab_edges (v : View sig .tc .vmem S32x256x128 .f32) (X : v.ty.Contents (Elt Ideal)) (k : Fin k0_t1_loop.trips)
    (r : Fin 256) (q : Fin 128) :
    v.readAt (Elt Ideal) (Rect.unit (s := S32x256x128) (k0_off4 k) S1x256x128.size (k0_off4_inb k)).toLoadRect X (ix3 0 r q)
      = v.read (Elt Ideal) X (ix3 ⟨31 - k.val, by omega⟩ r q) := by
  refine congrArg (v.read (Elt Ideal) X) (funext fun a => Fin.ext ?_)
  refine (congrArg (fun z => z + 1 * _) (congrFun (k0_off4_eq k) a)).trans ?_
  fin_cases a <;> simp [ix3]

variable (𝒱 : Variants) (c : Dev nD) (bd : Option 𝒱.V) (i : grid0.Coords) (arg2 : Memref sig .tc .vmem S1x256x32x128 .f32) (harg2 : arg2.IsWhole) (arg3 : Memref sig .tc .vmem S1x32x32x128 .f32) (harg3 : arg3.IsWhole) (arg4 : Memref sig .tc .vmem S1x32x32x8 .f32) (harg4 : arg4.IsWhole) (arg5 : Memref sig .tc .vmem S1x32x32x16 .f32) (harg5 : arg5.IsWhole) (arg6 : Memref sig .tc .vmem S35x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S384x128 .f32) (harg12 : arg12.IsWhole) (arg13 : Memref sig .tc .vmem S1x128 .f32) (harg13 : arg13.IsWhole) (arg14 : Memref sig .tc .vmem S128x128 .f32) (harg14 : arg14.IsWhole) (arg15 : Memref sig .tc .vmem S1x128 .f32) (harg15 : arg15.IsWhole) (arg16 : Memref sig .tc .vmem S128x384 .f32) (harg16 : arg16.IsWhole) (arg17 : Memref sig .tc .vmem S128x384 .f32) (harg17 : arg17.IsWhole) (arg18 : Memref sig .tc .vmem S1x384 .f32) (harg18 : arg18.IsWhole) (arg19 : Memref sig .tc .vmem S1x384 .f32) (harg19 : arg19.IsWhole) (arg20 : Memref sig .tc .vmem S128x384 .f32) (harg20 : arg20.IsWhole) (arg21 : Memref sig .tc .vmem S128x384 .f32) (harg21 : arg21.IsWhole) (arg22 : Memref sig .tc .vmem S1x384 .f32) (harg22 : arg22.IsWhole) (arg23 : Memref sig .tc .vmem S1x384 .f32) (harg23 : arg23.IsWhole) (arg24 : Memref sig .tc .vmem S128x128 .f32) (harg24 : arg24.IsWhole) (arg25 : Memref sig .tc .vmem S1x128 .f32) (harg25 : arg25.IsWhole) (arg26 : Memref sig .tc .vmem S128x4 .f32) (harg26 : arg26.IsWhole) (arg27 : Memref sig .tc .vmem S1x4 .f32) (harg27 : arg27.IsWhole) (arg28 : Memref sig .tc .vmem S256x256 .f32) (harg28 : arg28.IsWhole) (arg29 : Memref sig .tc .vmem S1x256 .f32) (harg29 : arg29.IsWhole) (arg30 : Memref sig .tc .vmem S256x4 .f32) (harg30 : arg30.IsWhole) (arg31 : Memref sig .tc .vmem S1x4 .f32) (harg31 : arg31.IsWhole) (arg32 : Memref sig .tc .vmem S1x32x256x4 .f32) (harg32 : arg32.IsWhole) (arg33 : Memref sig .tc .vmem S1x32x256x4 .f32) (harg33 : arg33.IsWhole) (arg34 : Memref sig .tc .vmem S1x256x128 .f32) (harg34 : arg34.IsWhole) (arg35 : Memref sig .tc .vmem S32x256x128 .f32) (harg35 : arg35.IsWhole) (arg36 : Memref sig .tc .vmem S32x256x384 .f32) (harg36 : arg36.IsWhole) (arg37 : Memref sig .tc .vmem S32x256x128 .f32) (harg37 : arg37.IsWhole) (arg38 : Memref sig .tc .vmem S32x256x128 .f32) (harg38 : arg38.IsWhole) (arg39 : Memref sig .tc .vmem S32x32x128 .f32) (harg39 : arg39.IsWhole) (v159 : FVec Ideal S8192x384 .f32) (v168 : Vec Ideal S128x384 .f32) (v170 : Vec Ideal S1x384 .f32) (v172 : Vec Ideal S128x384 .f32) (v174 : Vec Ideal S1x384 .f32) (v176 : Vec Ideal S128x384 .f32) (v178 : Vec Ideal S1x384 .f32) (X_arg35 : BufTy.Contents (Elt Ideal) arg35.view.ty) (X_arg36 : BufTy.Contents (Elt Ideal) arg36.view.ty)
  (init : FVec Ideal S256x128 .f32 × FVec Ideal S256x128 .f32)

/-- The forward state after `k` trips. -/
theorem loop_fst (P : Spec.Par) (ev : Fin 256 → Fin 32 → Fin 128 → EReal)
    (hw : ∀ k q, v168 (ix2 k q) = P.Whf k q) (hb : ∀ z q, v170 (ix2 z q) = P.chf q)
    (hX : ∀ t r q, arg36.view.read (Elt Ideal) X_arg36 (ix3 t r q) = Spec.dense (ev r t) P.Wif P.cif q)
    (h0 : ∀ r j, init.1 (ix2 r j) = 0) (k : ℕ) (hk : k ≤ 32) (r : Fin 256) (j : Fin 128) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init k).1.1 (ix2 r j) = Spec.fwd P (ev r) k j := by
  induction k generalizing j with
  | zero => exact h0 r j
  | succ k ih =>
    have hk' : k < k0_t1_loop.trips := Nat.lt_of_lt_of_eq hk trips_eq.symm
    have e := st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init ⟨k, hk'⟩
    have e1 := congrArg (fun s => s.1.1 (ix2 r j)) e
    refine e1.trans ?_
    refine (congrFun (trip_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 ⟨k, hk'⟩ _) (ix2 r j)).trans ?_
    refine (Pay.pay2_at _ _ _ _ r j).trans ?_
    have ih' := fun j => ih (Nat.le_of_succ_le hk) j
    have g1 : (fun q => arg36.view.readAt (Elt Ideal) (Rect.unit (s := S32x256x384) (k0_off2 ⟨k, hk'⟩) S1x256x384.size (k0_off2_inb ⟨k, hk'⟩)).toLoadRect X_arg36 (ix3 0 r q))
        = Spec.dense (ev r (Spec.tm k)) P.Wif P.cif := funext fun q => (slab_gates _ _ _ r q).trans ((hX _ r q).trans (by
          rw [show (⟨k, _⟩ : Fin 32) = Spec.tm k from Fin.ext (Nat.mod_eq_of_lt hk).symm]))
    have g2 : (fun k q => k0_pay29 v168 (ix2 k q)) = P.Whf := funext fun k => funext fun q => (Pay.pay29_at v168 k q).trans (hw k q)
    have g3 : (fun q => k0_pay30 v170 (ix2 0 q)) = P.chf := funext fun q => (Pay.pay30_at v170 0 q).trans (hb 0 q)
    have g4 := funext ih'
    rw [g1, g2, g3]
    exact congrArg (fun h => Spec.cell (Spec.dense (ev r (Spec.tm k)) P.Wif P.cif) (Spec.dense h P.Whf P.chf) h j) g4

/-- The reverse state after `k` trips. -/
theorem loop_snd (P : Spec.Par) (ev : Fin 256 → Fin 32 → Fin 128 → EReal)
    (hw : ∀ k q, v172 (ix2 k q) = P.Whr k q) (hb : ∀ z q, v174 (ix2 z q) = P.chr q)
    (hw' : ∀ k q, v176 (ix2 k q) = P.Wir k q) (hb' : ∀ z q, v178 (ix2 z q) = P.cir q)
    (hX : ∀ t r q, arg35.view.read (Elt Ideal) X_arg35 (ix3 t r q) = ev r t q)
    (h0 : ∀ r j, init.2 (ix2 r j) = 0) (k : ℕ) (hk : k ≤ 32) (r : Fin 256) (j : Fin 128) :
    (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init k).1.2 (ix2 r j) = Spec.rev P (ev r) k j := by
  induction k generalizing j with
  | zero => exact h0 r j
  | succ k ih =>
    have hk' : k < k0_t1_loop.trips := Nat.lt_of_lt_of_eq hk trips_eq.symm
    have e := st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init ⟨k, hk'⟩
    have e1 := congrArg (fun s => s.1.2 (ix2 r j)) e
    refine e1.trans ?_
    refine (congrFun (trip_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 ⟨k, hk'⟩ _) (ix2 r j)).trans ?_
    refine (Pay.pay36_at _ _ _ _ _ _ r j).trans ?_
    have ih' := fun j => ih (Nat.le_of_succ_le hk) j
    have g1 : (fun q => arg35.view.readAt (Elt Ideal) (Rect.unit (s := S32x256x128) (k0_off4 ⟨k, hk'⟩) S1x256x128.size (k0_off4_inb ⟨k, hk'⟩)).toLoadRect X_arg35 (ix3 0 r q))
        = ev r (Spec.tm (31 - k)) := funext fun q => (slab_edges _ _ _ r q).trans ((hX _ r q).trans (by
          rw [show (⟨31 - k, _⟩ : Fin 32) = Spec.tm (31 - k) from Fin.ext (Nat.mod_eq_of_lt (by omega)).symm]))
    have g2 : (fun k q => k0_pay31 v172 (ix2 k q)) = P.Whr := funext fun k => funext fun q => (Pay.pay31_at v172 k q).trans (hw k q)
    have g3 : (fun q => k0_pay32 v174 (ix2 0 q)) = P.chr := funext fun q => (Pay.pay32_at v174 0 q).trans (hb 0 q)
    have g5 : (fun k q => k0_pay33 v176 (ix2 k q)) = P.Wir := funext fun k => funext fun q => (Pay.pay33_at v176 k q).trans (hw' k q)
    have g6 : (fun q => k0_pay34 v178 (ix2 0 q)) = P.cir := funext fun q => (Pay.pay34_at v178 0 q).trans (hb' 0 q)
    have g4 := funext ih'
    rw [g1, g2, g3, g5, g6]
    exact congrArg (fun h => Spec.cell (Spec.dense (ev r (Spec.tm (31 - k))) P.Wir P.cir) (Spec.dense h P.Whr P.chr) h j) g4

/-- The forward slabs after `k` trips: the first `k` hold the states. -/
theorem loop_store_fst (P : Spec.Par) (ev : Fin 256 → Fin 32 → Fin 128 → EReal)
    (hw : ∀ k q, v168 (ix2 k q) = P.Whf k q) (hb : ∀ z q, v170 (ix2 z q) = P.chf q)
    (hX : ∀ t r q, arg36.view.read (Elt Ideal) X_arg36 (ix3 t r q) = Spec.dense (ev r t) P.Wif P.cif q)
    (h0 : ∀ r j, init.1 (ix2 r j) = 0)
    (f : arg37.view.ty.Contents (Elt Ideal)) (k : ℕ) (hk : k ≤ 32) (t : Fin 32) (ht : t.val < k) (r : Fin 256) (j : Fin 128) :
    arg37.view.read (Elt Ideal) (arg37.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init k).2.1) (ix3 t r j)
      = Spec.fwd P (ev r) (t.val + 1) j := by
  induction k with
  | zero => exact absurd ht (by omega)
  | succ k ih =>
    have hk' : k < k0_t1_loop.trips := Nat.lt_of_lt_of_eq hk trips_eq.symm
    have e := st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init ⟨k, hk'⟩
    refine (congrArg (fun s => arg37.view.read (Elt Ideal) (arg37.view.writes (Elt Ideal) f s.2.1) (ix3 t r j)) e).trans ?_
    refine (congrArg (fun L => arg37.view.read (Elt Ideal) (arg37.view.writes (Elt Ideal) f (L ++ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init k).2.1)) (ix3 t r j))
      (trip_store_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 ⟨k, hk'⟩ _)).trans ?_
    by_cases h : t.val = k
    · refine (View.read_writes_cons_unit_of_mem _ _ _ _ _ (ix3 t r j) (ix3 0 r j) (k0_off3_eq ⟨k, hk'⟩) fun a => ?_).trans ?_
      · fin_cases a <;> simp [ix3, h]
      refine (Pay.pay3_at _ _ _ _ 0 r j).trans ?_
      refine (congrFun (trip_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 ⟨k, hk'⟩ _) (ix2 r j)).symm.trans ?_
      have e1 := congrArg (fun s => s.1.1 (ix2 r j)) e
      refine e1.symm.trans ?_
      refine (loop_fst 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init P ev hw hb hX h0 (k + 1) hk r j).trans ?_
      rw [show (t.val + 1) = k + 1 by omega]
    · refine (View.read_writes_cons_unit_of_not_mem _ _ _ _ _ (ix3 t r j) (k0_off3_eq ⟨k, hk'⟩) 0 ?_).trans (ih (by omega) (by omega))
      simp [ix3]
      omega

/-- The reverse slabs after `k` trips: the last `k` hold the states. -/
theorem loop_store_snd (P : Spec.Par) (ev : Fin 256 → Fin 32 → Fin 128 → EReal)
    (hw : ∀ k q, v172 (ix2 k q) = P.Whr k q) (hb : ∀ z q, v174 (ix2 z q) = P.chr q)
    (hw' : ∀ k q, v176 (ix2 k q) = P.Wir k q) (hb' : ∀ z q, v178 (ix2 z q) = P.cir q)
    (hX : ∀ t r q, arg35.view.read (Elt Ideal) X_arg35 (ix3 t r q) = ev r t q)
    (h0 : ∀ r j, init.2 (ix2 r j) = 0)
    (f : arg38.view.ty.Contents (Elt Ideal)) (k : ℕ) (hk : k ≤ 32) (t : Fin 32) (ht : 31 - t.val < k) (r : Fin 256) (j : Fin 128) :
    arg38.view.read (Elt Ideal) (arg38.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init k).2.2) (ix3 t r j)
      = Spec.rev P (ev r) (32 - t.val) j := by
  induction k with
  | zero => exact absurd ht (by omega)
  | succ k ih =>
    have hk' : k < k0_t1_loop.trips := Nat.lt_of_lt_of_eq hk trips_eq.symm
    have e := st_k0_t1_succ 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init ⟨k, hk'⟩
    refine (congrArg (fun s => arg38.view.read (Elt Ideal) (arg38.view.writes (Elt Ideal) f s.2.2) (ix3 t r j)) e).trans ?_
    refine (congrArg (fun L => arg38.view.read (Elt Ideal) (arg38.view.writes (Elt Ideal) f (L ++ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init k).2.2)) (ix3 t r j))
      (trip_store_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 ⟨k, hk'⟩ _)).trans ?_
    by_cases h : t.val = 31 - k
    · refine (View.read_writes_cons_unit_of_mem _ _ _ _ _ (ix3 t r j) (ix3 0 r j) (k0_off4_eq ⟨k, hk'⟩) fun a => ?_).trans ?_
      · fin_cases a <;> simp [ix3, h]
      refine (Pay.pay37_at _ _ _ _ 0 r j).trans ?_
      refine (congrFun (trip_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 ⟨k, hk'⟩ _) (ix2 r j)).symm.trans ?_
      have e1 := congrArg (fun s => s.1.2 (ix2 r j)) e
      refine e1.symm.trans ?_
      refine (loop_snd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 v159 v168 v170 v172 v174 v176 v178 X_arg35 X_arg36 init P ev hw hb hw' hb' hX h0 (k + 1) hk r j).trans ?_
      rw [show (32 - t.val) = k + 1 by omega]
    · refine (View.read_writes_cons_unit_of_not_mem _ _ _ _ _ (ix3 t r j) (k0_off4_eq ⟨k, hk'⟩) 0 ?_).trans (ih (by omega) (by omega))
      simp [ix3]
      omega

end Cert.KernelIdeal.Run

end
-- ==== Proof.Pay.Node.lean ====
/- The node embeddings the kernel computes, at an index. -/
module

public import proofs.«01_k».proof.Proof.Gen.KernelIdeal.Skeleton
public import proofs.«01_k».proof.Proof.Math.Spec
public import Idealize.ShloMosaic.Lib.Pointwise

@[expose] public section

set_option maxRecDepth 16384

noncomputable section

namespace Cert.Pay

open Cert.KernelIdeal Cert.KernelIdeal.Gen
open Idealize.ShloMosaic

/-- The incoming relative features of node `n` from totals over all nodes, before the scaling. -/
def totals (x : Fin 32 → Fin 8 → EReal) (n : Fin 32) (d : Fin 9) : EReal :=
  if h : d.val < 2 then (∑ s, x s ⟨d.val, by omega⟩) - ((32 : ℝ) : EReal) * x n ⟨d.val, by omega⟩
  else if h₁ : d.val - 2 < 2 then (∑ s, x s ⟨2 + (d.val - 2), by omega⟩) - ((32 : ℝ) : EReal) * x n ⟨2 + (d.val - 2), by omega⟩
  else if h₂ : d.val - 4 < 2 then (∑ s, x s ⟨2 + (d.val - 4), by omega⟩) - x n ⟨2 + (d.val - 4), by omega⟩
  else if h₃ : d.val - 6 < 2 then ((31 : ℝ) : EReal) * x n ⟨2 + (d.val - 6), by omega⟩
  else (((∑ s, (x s 0 * x s 3 - x s 1 * x s 2)) + ((32 : ℝ) : EReal) * (x n 0 * x n 3 - x n 1 * x n 2))
      - ((∑ s, x s 0) * x n 3 - (∑ s, x s 1) * x n 2)) - (x n 0 * (∑ s, x s 3) - x n 1 * (∑ s, x s 2))

/-- The word of 32. -/
theorem word_32 : Ideal.ofBits .f32 0x42000000#32 = ((32 : ℝ) : EReal) := by
  simp [Ideal.ofBits, Ideal.ieee, -EReal.coe_mul]; norm_num

/-- The word of 31. -/
theorem word_31 : Ideal.ofBits .f32 0x41F80000#32 = ((31 : ℝ) : EReal) := by
  simp [Ideal.ofBits, Ideal.ieee, -EReal.coe_mul]; norm_num

variable (v0 : Vec Ideal S1x32x32x8 .f32)

theorem pay9_at (n t : Fin 32) (k : Fin 8) : k0_pay9 v0 (ix3 n t k) = v0 (ix4 0 n t k) := by
  pointwise [k0_pay9]

theorem pay10_at (v2 : Vec Ideal S1x32x32x16 .f32) (n t : Fin 32) (k : Fin 16) : k0_pay10 v2 (ix3 n t k) = v2 (ix4 0 n t k) := by
  pointwise [k0_pay10]

theorem pay11_at (n t : Fin 32) (k : Fin 2) : k0_pay11 v0 (ix3 n t k) = v0 (ix4 0 n t ⟨k.val, by omega⟩) := by
  pointwise [k0_pay11, k0_pay9]

theorem pay12_at (n t : Fin 32) (k : Fin 2) : k0_pay12 v0 (ix3 n t k) = v0 (ix4 0 n t ⟨2 + k.val, by omega⟩) := by
  pointwise [k0_pay12, k0_pay9]

theorem pay13_at (z : Fin 1) (t : Fin 32) (k : Fin 2) :
    k0_pay13 v0 (ix3 z t k) = ∑ s : Fin 32, v0 (ix4 0 s t ⟨k.val, by omega⟩) := by
  pointwise [k0_pay13, pay11_at]

theorem pay14_at (z : Fin 1) (t : Fin 32) (k : Fin 2) :
    k0_pay14 v0 (ix3 z t k) = ∑ s : Fin 32, v0 (ix4 0 s t ⟨2 + k.val, by omega⟩) := by
  pointwise [k0_pay14, pay12_at]

theorem pay16_at (n t : Fin 32) (k : Fin 2) :
    k0_pay16 v0 (ix3 n t k) = ((32 : ℝ) : EReal) * v0 (ix4 0 n t ⟨k.val, by omega⟩) := by
  pointwise [k0_pay16, pay11_at]
  rw [word_32]

theorem pay15_at (n t : Fin 32) (z : Fin 1) :
    k0_pay15 v0 (ix3 n t z) = totals (fun n k => v0 (ix4 0 n t k)) n 8 := by
  obtain rfl : z = 0 := Subsingleton.elim _ _
  pointwise [k0_pay15, pay9_at, pay13_at, pay14_at]
  rw [word_32]
  rfl

/-- The scaled incoming relative features. -/
def kinc (x : Fin 32 → Fin 8 → EReal) (n : Fin 32) (d : Fin 9) : EReal := totals x n d * (((1 / 31 : ℝ)) : EReal)

/-- The value of the named constant. -/
theorem inv31_value : (Named.named κ "inv31" 0x3D042108#32 : Ideal .f32) = ((1 / 31 : ℝ) : EReal) :=
  IdealRules.named_const.ideal_named_scalar _ _ _ _ rfl

/-- The rows of the loaded node states at time `t`. -/
def xr (t : Fin 32) (n : Fin 32) (k : Fin 8) : EReal := v0 (ix4 0 n t k)

/-- The totals, as the concatenation of the five groups reads. -/
theorem totals_shape (x : Fin 32 → Fin 8 → EReal) (n : Fin 32) (a b : EReal) (ha : a = ((32 : ℝ) : EReal))
    (hb : b = ((31 : ℝ) : EReal)) (d : ℕ) (hd : d < 9) :
    (if h : d < 2 then (∑ s, x s ⟨d, by omega⟩) - ((32 : ℝ) : EReal) * x n ⟨d, by omega⟩
      else if h : d - 2 < 2 then (∑ s, x s ⟨2 + (d - 2), by omega⟩) - a * x n ⟨2 + (d - 2), by omega⟩
      else if h : d - 2 - 2 < 2 then (∑ s, x s ⟨2 + (d - 2 - 2), by omega⟩) - x n ⟨2 + (d - 2 - 2), by omega⟩
      else if h : d - 2 - 2 - 2 < 2 then b * x n ⟨2 + (d - 2 - 2 - 2), by omega⟩
      else totals x n 8) = totals x n ⟨d, hd⟩ := by
  subst ha; subst hb
  interval_cases d <;> rfl

/-- The features' four groups, one by one. -/
theorem cat_state (x : Fin 8 → EReal) (inc : Fin 9 → EReal) (ce : Fin 16 → EReal) (k : Fin 35) (h8 : k.val < 8) :
    Spec.cat x inc ce k = x ⟨k.val, h8⟩ := by
  unfold Spec.cat; simp only [h8, dif_pos]

theorem cat_inc (x : Fin 8 → EReal) (inc : Fin 9 → EReal) (ce : Fin 16 → EReal) (k : Fin 35) (h8 : ¬ k.val < 8)
    (h9 : k.val - 8 < 9) : Spec.cat x inc ce k = inc ⟨k.val - 8, h9⟩ := by
  unfold Spec.cat; simp only [h8, h9, dif_pos, dif_neg, not_false_eq_true]

theorem cat_pos (x : Fin 8 → EReal) (inc : Fin 9 → EReal) (ce : Fin 16 → EReal) (k : Fin 35) (h8 : ¬ k.val < 8)
    (h9 : ¬ k.val - 8 < 9) (h2 : k.val - 8 - 9 < 2) : Spec.cat x inc ce k = x ⟨k.val - 8 - 9, by omega⟩ := by
  have h : k.val - 17 < 2 := by omega
  unfold Spec.cat; simp only [h8, h9, h, dif_pos, dif_neg, not_false_eq_true]
  exact congrArg x (Fin.ext (show k.val - 17 = k.val - 8 - 9 by omega))

theorem cat_ce (x : Fin 8 → EReal) (inc : Fin 9 → EReal) (ce : Fin 16 → EReal) (k : Fin 35) (h8 : ¬ k.val < 8)
    (h9 : ¬ k.val - 8 < 9) (h2 : ¬ k.val - 8 - 9 < 2) : Spec.cat x inc ce k = ce ⟨k.val - 8 - 9 - 2, by omega⟩ := by
  have h : ¬ k.val - 17 < 2 := by omega
  unfold Spec.cat; simp only [h8, h9, h, dif_neg, not_false_eq_true]
  exact congrArg ce (Fin.ext (show k.val - 19 = k.val - 8 - 9 - 2 by omega))

/-- The node network's first layer, before its unit. -/
theorem pay17_at (P : Spec.Par) (v2 : Vec Ideal S1x32x32x16 .f32) (w : Vec Ideal S35x128 .f32) (b : Vec Ideal S1x128 .f32)
    (s : Vec Ideal S1x32x32x128 .f32) (w3 : Vec Ideal S128x128 .f32) (b3 : Vec Ideal S1x128 .f32)
    (hw : ∀ k j, w (ix2 k j) = P.Wr k j) (hb : ∀ z j, b (ix2 z j) = P.br j)
    (hw3 : ∀ k j, w3 (ix2 k j) = P.W3a k j) (hb3 : ∀ z j, b3 (ix2 z j) = P.b3a j) (r : Fin 1024) (j : Fin 128) :
    k0_pay17 (k0_pay9 v0) (k0_pay10 v2) (k0_pay11 v0) (k0_pay12 v0) (k0_pay13 v0) (k0_pay14 v0) (k0_pay15 v0) (k0_pay16 v0)
        w b s w3 b3 (ix2 r j)
      = Spec.dense (fun l => s (ix4 0 ⟨r.val / 32, by omega⟩ ⟨r.val % 32, by omega⟩ l) * ((1 / 31 : ℝ) : EReal)
          + Spec.dense (Spec.cat (xr v0 ⟨r.val % 32, by omega⟩ ⟨r.val / 32, by omega⟩)
              (kinc (xr v0 ⟨r.val % 32, by omega⟩) ⟨r.val / 32, by omega⟩)
              (fun k => v2 (ix4 0 ⟨r.val / 32, by omega⟩ ⟨r.val % 32, by omega⟩ k))) P.Wr P.br l) P.W3a P.b3a j := by
  pointwise [k0_pay17, pay9_at, pay10_at, pay11_at, pay12_at, pay13_at, pay14_at, pay15_at, pay16_at]
  refine congrArg₂ (· + ·) (Finset.sum_congr rfl fun l _ => congrArg₂ (· * ·) (congrArg₂ (· + ·) ?_
    (congrArg₂ (· + ·) (Finset.sum_congr rfl fun k _ => congrArg₂ (· * ·) ?_ (hw _ _)) (hb _ _))) (hw3 _ _)) (hb3 _ _)
  · exact congrArg _ inv31_value
  · by_cases h8 : k.val < 8
    · refine Eq.trans ?_ (cat_state _ _ _ k h8).symm
      exact dif_pos h8
    refine (dif_neg h8).trans ?_
    by_cases h9 : k.val - 8 < 9
    · refine Eq.trans ?_ (cat_inc _ _ _ k h8 h9).symm
      refine (dif_pos h9).trans ?_
      have key := totals_shape (fun n k => v0 (ix4 0 n ⟨r.val % 32, by omega⟩ k)) ⟨r.val / 32, by omega⟩ _ _ word_32 word_31
        (k.val - 8) h9
      refine Eq.trans (congrArg (fun q => q * (Named.named κ "inv31" 0x3D042108#32 : Ideal .f32)) key) ?_
      exact congrArg (fun q => totals (xr v0 ⟨r.val % 32, by omega⟩) ⟨r.val / 32, by omega⟩ ⟨k.val - 8, h9⟩ * q) inv31_value
    refine (dif_neg h9).trans ?_
    by_cases h2 : k.val - 8 - 9 < 2
    · refine Eq.trans ?_ (cat_pos _ _ _ k h8 h9 h2).symm
      exact dif_pos h2
    · refine Eq.trans ?_ (cat_ce _ _ _ k h8 h9 h2).symm
      exact dif_neg h2

/-- The node network's second layer and its unit, on the first layer before its unit. -/
theorem pay20_at (P : Spec.Par) (a : FVec Ideal S1024x128 .f32) (w3 : Vec Ideal S128x128 .f32) (b3 : Vec Ideal S1x128 .f32)
    (hw3 : ∀ k j, w3 (ix2 k j) = P.W3b k j) (hb3 : ∀ z j, b3 (ix2 z j) = P.b3b j) (r : Fin 1024) (j : Fin 128)
    (m : IVec S1024x128 1) (e : FVec Ideal S1024x128 .f32)
    (hm : ∀ k, Scalar.select (m (ix2 r k)) (a (ix2 r k)) (e (ix2 r k)) = Spec.elu (a (ix2 r k))) :
    k0_pay20 a m e w3 b3 (ix2 r j) = Spec.elu (Spec.dense (fun k => Spec.elu (a (ix2 r k))) P.W3b P.b3b j) := by
  pointwise [k0_pay20]
  exact congrArg Spec.elu (congrArg₂ (· + ·)
    (Finset.sum_congr rfl fun k _ => congrArg₂ (· * ·) (hm k) (hw3 k j)) (hb3 0 j))

end Cert.Pay

end
-- ==== Proof.Pay.Edge.lean ====
/- The edge embeddings the kernel computes, at an index. -/
module

public import proofs.«01_k».proof.Proof.Gen.KernelIdeal.Skeleton
public import proofs.«01_k».proof.Proof.Math.Spec
public import Idealize.ShloMosaic.Lib.Pointwise

@[expose] public section

set_option maxRecDepth 16384

noncomputable section

namespace Cert.Pay

open Cert.KernelIdeal Cert.KernelIdeal.Gen
open Idealize.ShloMosaic

/-- The senders' part of the edge network's first layer, for every node. -/
theorem pay22_at (P : Spec.Par) (a : FVec Ideal S1024x128 .f32) (m : IVec S1024x128 1) (e : FVec Ideal S1024x128 .f32)
    (w3 : Vec Ideal S128x128 .f32) (b3 : Vec Ideal S1x128 .f32) (w : Vec Ideal S384x128 .f32)
    (hw : ∀ k j, w (ix2 k j) = P.W4a k j) (n t : Fin 32) (j : Fin 128) :
    k0_pay22 a m e w3 b3 w (ix3 n t j)
      = ∑ k : Fin 128, k0_pay20 a m e w3 b3 (ix2 ⟨n.val * 32 + t.val, by omega⟩ k) * P.W4a ⟨k.val, by omega⟩ j := by
  pointwise [k0_pay22, k0_pay21]
  simp only [hw]

/-- The receivers' part, spread over the block's senders. -/
theorem pay25_at (P : Spec.Par) (a : FVec Ideal S1024x128 .f32) (m : IVec S1024x128 1) (e : FVec Ideal S1024x128 .f32)
    (w3 : Vec Ideal S128x128 .f32) (b3 : Vec Ideal S1x128 .f32) (w : Vec Ideal S384x128 .f32)
    (hw : ∀ k j, w (ix2 k j) = P.W4a k j) (s : Fin 8) (n t : Fin 32) (j : Fin 128) :
    k0_pay25 a m e w3 b3 w (ix4 s n t j)
      = ∑ k : Fin 128, k0_pay20 a m e w3 b3 (ix2 ⟨n.val * 32 + t.val, by omega⟩ k) * P.W4a ⟨128 + k.val, by omega⟩ j := by
  pointwise [k0_pay25, k0_pay21]
  simp only [hw]

/-- The senders' part of the block's senders, spread over the receivers. -/
theorem pay24_at (v : Vec Ideal S8x32x128 .f32) (s : Fin 8) (n t : Fin 32) (j : Fin 128) :
    k0_pay24 v (ix4 s n t j) = v (ix3 s t j) := by
  pointwise [k0_pay24]

/-- The edges' own part. -/
theorem pay23_at (P : Spec.Par) (w : Vec Ideal S384x128 .f32) (hw : ∀ k j, w (ix2 k j) = P.W4a k j)
    (v : Vec Ideal S1x256x32x128 .f32) (s : Fin 8) (n t : Fin 32) (j : Fin 128) :
    k0_pay23 w v (ix4 s n t j)
      = ∑ k : Fin 128, v (ix4 0 ⟨s.val * 32 + n.val, by omega⟩ t k) * P.W4a ⟨256 + k.val, by omega⟩ j := by
  pointwise [k0_pay23, k0_pay21]
  simp only [hw]
  refine Finset.sum_congr rfl fun k _ => congrArg (· * _) (congrArg (fun q => v (ix4 0 q t k)) (Fin.ext ?_))
  show (s.val * 1024 + n.val * 32 + t.val) / 32 = s.val * 32 + n.val
  omega

/-- The edge embeddings, step first, from the three parts. -/
theorem pay26_at (P : Spec.Par) (e s r : FVec Ideal S8x32x32x128 .f32) (b : Vec Ideal S1x128 .f32)
    (w : Vec Ideal S128x128 .f32) (b' : Vec Ideal S1x128 .f32)
    (hb : ∀ z j, b (ix2 z j) = P.b4a j) (hw : ∀ k j, w (ix2 k j) = P.W4b k j) (hb' : ∀ z j, b' (ix2 z j) = P.b4b j)
    (t : Fin 32) (p : Fin 256) (j : Fin 128) :
    k0_pay26 e s r b w b' (ix3 t p j)
      = Spec.elu (Spec.dense (fun k => Spec.elu (((s (ix4 ⟨p.val / 32, by omega⟩ ⟨p.val % 32, by omega⟩ t k)
          + r (ix4 ⟨p.val / 32, by omega⟩ ⟨p.val % 32, by omega⟩ t k))
          + e (ix4 ⟨p.val / 32, by omega⟩ ⟨p.val % 32, by omega⟩ t k)) + P.b4a k)) P.W4b P.b4b j) := by
  pointwise [k0_pay26]
  refine congrArg Spec.elu (congrArg₂ (· + ·) (Finset.sum_congr rfl fun k _ => congrArg₂ (· * ·)
    (congrArg Spec.elu (congrArg₂ (· + ·) ?_ (hb 0 k))) (hw k j)) (hb' 0 j))
  have h1 : (p.val / 32 * 1024 + p.val % 32 * 32 + t.val) / 1024 = p.val / 32 := by omega
  have h2 : (p.val / 32 * 1024 + p.val % 32 * 32 + t.val) / 32 % 32 = p.val % 32 := by omega
  simp only [h1, h2]

end Cert.Pay

end
-- ==== Proof.Pay.Whole.lean ====
/- What one block of the kernel computes from its input blocks: the nodes' embeddings and the edges' embeddings. -/
module

public import proofs.«01_k».proof.Proof.Pay.Node
public import proofs.«01_k».proof.Proof.Pay.Edge

@[expose] public section

set_option maxRecDepth 16384

noncomputable section

namespace Cert.Pay

open Cert.KernelIdeal Cert.KernelIdeal.Gen
open Idealize.ShloMosaic

variable  (x0 : Vec Ideal S1x256x32x128 .f32) (x1 : Vec Ideal S1x32x32x128 .f32) (x2 : Vec Ideal S1x32x32x8 .f32) (x3 : Vec Ideal
  S1x32x32x16 .f32) (x4 : Vec Ideal S35x128 .f32) (x5 : Vec Ideal S1x128 .f32) (x6 : Vec Ideal S128x128 .f32) (x7 : Vec Ideal
  S1x128 .f32) (x8 : Vec Ideal S128x128 .f32) (x9 : Vec Ideal S1x128 .f32) (x10 : Vec Ideal S384x128 .f32) (x11 : Vec Ideal
  S1x128 .f32) (x12 : Vec Ideal S128x128 .f32) (x13 : Vec Ideal S1x128 .f32) (x14 : Vec Ideal S128x384 .f32) (x15 : Vec Ideal
  S128x384 .f32) (x16 : Vec Ideal S1x384 .f32) (x17 : Vec Ideal S1x384 .f32) (x18 : Vec Ideal S128x384 .f32) (x19 : Vec Ideal
  S128x384 .f32) (x20 : Vec Ideal S1x384 .f32) (x21 : Vec Ideal S1x384 .f32) (x22 : Vec Ideal S128x128 .f32) (x23 : Vec Ideal
  S1x128 .f32) (x24 : Vec Ideal S128x4 .f32) (x25 : Vec Ideal S1x4 .f32) (x26 : Vec Ideal S256x256 .f32) (x27 : Vec Ideal
  S1x256 .f32) (x28 : Vec Ideal S256x4 .f32) (x29 : Vec Ideal S1x4 .f32)

/-- The weights of the input blocks. -/
def bpar : Spec.Par where
  Wr := fun k j => x4 (ix2 k j)
  br := fun j => x5 (ix2 0 j)
  W3a := fun k j => x6 (ix2 k j)
  b3a := fun j => x7 (ix2 0 j)
  W3b := fun k j => x8 (ix2 k j)
  b3b := fun j => x9 (ix2 0 j)
  W4a := fun k j => x10 (ix2 k j)
  b4a := fun j => x11 (ix2 0 j)
  W4b := fun k j => x12 (ix2 k j)
  b4b := fun j => x13 (ix2 0 j)
  Wif := fun k j => x14 (ix2 k j)
  Whf := fun k j => x15 (ix2 k j)
  cif := fun j => x16 (ix2 0 j)
  chf := fun j => x17 (ix2 0 j)
  Wir := fun k j => x18 (ix2 k j)
  Whr := fun k j => x19 (ix2 k j)
  cir := fun j => x20 (ix2 0 j)
  chr := fun j => x21 (ix2 0 j)
  Wp1 := fun k j => x22 (ix2 k j)
  bp1 := fun j => x23 (ix2 0 j)
  Wp2 := fun k j => x24 (ix2 k j)
  bp2 := fun j => x25 (ix2 0 j)
  We1 := fun k j => x26 (ix2 k j)
  be1 := fun j => x27 (ix2 0 j)
  We2 := fun k j => x28 (ix2 k j)
  be2 := fun j => x29 (ix2 0 j)

/-- Node `n`'s embedding at time `t` from the input blocks. -/
def bnode (P : Spec.Par) (n t : Fin 32) (j : Fin 128) : EReal :=
  Spec.node P (xr x2 t n) (kinc (xr x2 t) n) (fun k => x3 (ix4 0 n t k)) (fun k => x1 (ix4 0 n t k) * ((1 / 31 : ℝ) : EReal)) j

/-- The embedding at time `t` of the block's edge `p`, when the block is the `q`th of its batch. -/
def bedge (P : Spec.Par) (q : ℕ) (p : Fin 256) (t : Fin 32) (j : Fin 128) : EReal :=
  Spec.edge P (bnode x1 x2 x3 P ⟨(8 * q + p.val / 32) % 32, Nat.mod_lt _ (by decide)⟩ t)
    (bnode x1 x2 x3 P ⟨p.val % 32, Nat.mod_lt _ (by decide)⟩ t) (fun k => x0 (ix4 0 p t k)) j

/-- A bias block has one row. -/
theorem row_one {n : ℕ} (x : Vec Ideal ⟨2, ![1, n]⟩ .f32) (z : Fin 1) (j : Fin n) : x (ix2 z j) = x (ix2 0 j) := by
  rw [Subsingleton.elim z 0]

/-- The first layer's unit, as the kernel selects it. -/
theorem unit_at (a1 : FVec Ideal S32x32x8 .f32) (a2 : FVec Ideal S32x32x16 .f32) (a3 a4 : FVec Ideal S32x32x2 .f32)
    (a5 a6 : FVec Ideal S1x32x2 .f32) (a7 : FVec Ideal S32x32x1 .f32) (a8 : FVec Ideal S32x32x2 .f32) (r : Fin 1024) (k : Fin 128) :
    Scalar.select (k0_pay18 a1 a2 a3 a4 a5 a6 a7 a8 x4 x5 x1 x6 x7 (ix2 r k)) (k0_pay17 a1 a2 a3 a4 a5 a6 a7 a8 x4 x5 x1 x6 x7 (ix2 r k))
        (k0_pay19 a1 a2 a3 a4 a5 a6 a7 a8 x4 x5 x1 x6 x7 (ix2 r k))
      = Spec.elu (k0_pay17 a1 a2 a3 a4 a5 a6 a7 a8 x4 x5 x1 x6 x7 (ix2 r k)) := by
  pointwise [k0_pay18, k0_pay19]
  rfl

/-- A row of the nodes' embeddings is that node's at that time. -/
theorem node_row (n t : Fin 32) (j : Fin 128) :
    k0_pay20 (k0_pay17 (k0_pay9 x2) (k0_pay10 x3) (k0_pay11 x2) (k0_pay12 x2) (k0_pay13 x2) (k0_pay14 x2) (k0_pay15 x2) (k0_pay16 x2) x4 x5 x1 x6 x7)
        (k0_pay18 (k0_pay9 x2) (k0_pay10 x3) (k0_pay11 x2) (k0_pay12 x2) (k0_pay13 x2) (k0_pay14 x2) (k0_pay15 x2) (k0_pay16 x2) x4 x5 x1 x6 x7)
        (k0_pay19 (k0_pay9 x2) (k0_pay10 x3) (k0_pay11 x2) (k0_pay12 x2) (k0_pay13 x2) (k0_pay14 x2) (k0_pay15 x2) (k0_pay16 x2) x4 x5 x1 x6 x7) x8 x9 (ix2 ⟨n.val * 32 + t.val, by omega⟩ j)
      = bnode x1 x2 x3 (bpar x4 x5 x6 x7 x8 x9 x10 x11 x12 x13 x14 x15 x16 x17 x18 x19 x20 x21 x22 x23 x24 x25 x26 x27 x28 x29) n t j := by
  refine (pay20_at (bpar x4 x5 x6 x7 x8 x9 x10 x11 x12 x13 x14 x15 x16 x17 x18 x19 x20 x21 x22 x23 x24 x25 x26 x27 x28 x29) _ x8 x9 (fun k j => rfl) (row_one x9) _ j _ _ (fun k => unit_at x1 x4 x5 x6 x7 _ _ _ _ _ _ _ _ _ k)).trans ?_
  have hn : (⟨(n.val * 32 + t.val) / 32, by omega⟩ : Fin 32) = n := Fin.ext (by show (n.val * 32 + t.val) / 32 = n.val; omega)
  have ht : (⟨(n.val * 32 + t.val) % 32, by omega⟩ : Fin 32) = t := Fin.ext (by show (n.val * 32 + t.val) % 32 = t.val; omega)
  refine congrArg (fun f : Fin 128 → EReal => Spec.elu (Spec.dense f _ _ j)) (funext fun k => congrArg Spec.elu ?_)
  refine (pay17_at x2 (bpar x4 x5 x6 x7 x8 x9 x10 x11 x12 x13 x14 x15 x16 x17 x18 x19 x20 x21 x22 x23 x24 x25 x26 x27 x28 x29) x3 x4 x5 x1 x6 x7 (fun k j => rfl) (row_one x5) (fun k j => rfl) (row_one x7) _ k).trans ?_
  simp only [hn, ht]

/-- The edges' embeddings, step first, when the slab `v` holds the senders' parts of the block's senders. -/
theorem edge_at (q : ℕ) (v : Vec Ideal S8x32x128 .f32)
    (hv : ∀ (s : Fin 8) (t : Fin 32) (j : Fin 128), v (ix3 s t j)
      = k0_pay22 (k0_pay17 (k0_pay9 x2) (k0_pay10 x3) (k0_pay11 x2) (k0_pay12 x2) (k0_pay13 x2) (k0_pay14 x2) (k0_pay15 x2) (k0_pay16 x2) x4 x5 x1 x6 x7)
          (k0_pay18 (k0_pay9 x2) (k0_pay10 x3) (k0_pay11 x2) (k0_pay12 x2) (k0_pay13 x2) (k0_pay14 x2) (k0_pay15 x2) (k0_pay16 x2) x4 x5 x1 x6 x7)
          (k0_pay19 (k0_pay9 x2) (k0_pay10 x3) (k0_pay11 x2) (k0_pay12 x2) (k0_pay13 x2) (k0_pay14 x2) (k0_pay15 x2) (k0_pay16 x2) x4 x5 x1 x6 x7) x8 x9 x10 (ix3 ⟨(8 * q + s.val) % 32, Nat.mod_lt _ (by decide)⟩ t j))
    (t : Fin 32) (p : Fin 256) (j : Fin 128) :
    k0_pay26 (k0_pay23 x10 x0) (k0_pay24 v)
        (k0_pay25 (k0_pay17 (k0_pay9 x2) (k0_pay10 x3) (k0_pay11 x2) (k0_pay12 x2) (k0_pay13 x2) (k0_pay14 x2) (k0_pay15 x2) (k0_pay16 x2) x4 x5 x1 x6 x7)
          (k0_pay18 (k0_pay9 x2) (k0_pay10 x3) (k0_pay11 x2) (k0_pay12 x2) (k0_pay13 x2) (k0_pay14 x2) (k0_pay15 x2) (k0_pay16 x2) x4 x5 x1 x6 x7)
          (k0_pay19 (k0_pay9 x2) (k0_pay10 x3) (k0_pay11 x2) (k0_pay12 x2) (k0_pay13 x2) (k0_pay14 x2) (k0_pay15 x2) (k0_pay16 x2) x4 x5 x1 x6 x7) x8 x9 x10) x11 x12 x13 (ix3 t p j)
      = bedge x0 x1 x2 x3 (bpar x4 x5 x6 x7 x8 x9 x10 x11 x12 x13 x14 x15 x16 x17 x18 x19 x20 x21 x22 x23 x24 x25 x26 x27 x28 x29) q p t j := by
  refine (pay26_at (bpar x4 x5 x6 x7 x8 x9 x10 x11 x12 x13 x14 x15 x16 x17 x18 x19 x20 x21 x22 x23 x24 x25 x26 x27 x28 x29) _ _ _ x11 x12 x13 (row_one x11) (fun k j => rfl) (row_one x13) t p j).trans ?_
  have hp : (⟨p.val / 32 * 32 + p.val % 32, by omega⟩ : Fin 256) = p := Fin.ext (Nat.div_add_mod' _ _)
  refine congrArg (fun f : Fin 128 → EReal => Spec.elu (Spec.dense f _ _ j)) (funext fun k => congrArg (fun z => Spec.elu (z + _)) ?_)
  refine congrArg₂ (· + ·) (congrArg₂ (· + ·) ?_ ?_) ?_
  · refine (pay24_at v _ _ t k).trans ((hv _ t k).trans ((pay22_at (bpar x4 x5 x6 x7 x8 x9 x10 x11 x12 x13 x14 x15 x16 x17 x18 x19 x20 x21 x22 x23 x24 x25 x26 x27 x28 x29) _ _ _ x8 x9 x10 (fun k j => rfl) _ t k).trans ?_))
    exact Finset.sum_congr rfl fun l _ => congrArg (· * _) (node_row x1 x2 x3 x4 x5 x6 x7 x8 x9 x10 x11 x12 x13 x14 x15 x16 x17 x18 x19 x20 x21 x22 x23 x24 x25 x26 x27 x28 x29 _ t l)
  · refine (pay25_at (bpar x4 x5 x6 x7 x8 x9 x10 x11 x12 x13 x14 x15 x16 x17 x18 x19 x20 x21 x22 x23 x24 x25 x26 x27 x28 x29) _ _ _ x8 x9 x10 (fun k j => rfl) _ _ t k).trans ?_
    exact Finset.sum_congr rfl fun l _ => congrArg (· * _) (node_row x1 x2 x3 x4 x5 x6 x7 x8 x9 x10 x11 x12 x13 x14 x15 x16 x17 x18 x19 x20 x21 x22 x23 x24 x25 x26 x27 x28 x29 _ t l)
  · refine (pay23_at (bpar x4 x5 x6 x7 x8 x9 x10 x11 x12 x13 x14 x15 x16 x17 x18 x19 x20 x21 x22 x23 x24 x25 x26 x27 x28 x29) x10 (fun k j => rfl) x0 _ _ t k).trans ?_
    exact Finset.sum_congr rfl fun l _ => congrArg (· * _) (congrArg (fun z => x0 (ix4 0 z t l)) hp)

end Cert.Pay

end
-- ==== Proof.Run.Edge.lean ====
/- What the buffers of the edges' embeddings and of their gates hold when a point's loop begins. -/
module

public import proofs.«01_k».proof.Proof.Run.Body
public import proofs.«01_k».proof.Proof.Pay.Gru
public import proofs.«01_k».proof.Proof.Pay.Whole
public import Idealize.ShloMosaic.Lib.VecWindow
public import Idealize.ShloMosaic.Lib.WritesUnit

@[expose] public section

set_option maxRecDepth 16384

noncomputable section

namespace Cert.KernelIdeal.Run

open Cert.KernelIdeal Cert.KernelIdeal.Gen
open Idealize.ShloMosaic

/-- A load of the whole of a buffer that holds `x` is `x`. -/
theorem load {S : Shape} {e : EltTy} (a : Memref sig .tc .vmem S e) (h : a.IsWhole) (x : Vec Ideal S e) {off : Fin S.rank → ℕ}
    {inb : ∀ d, off d + S.size d ≤ S.size d} :
    View.readAt (Elt Ideal) a.view (Rect.unit off S.size inb).toLoadRect (h.unread x) = x :=
  (View.readAt_full a.view _ inb).trans (h.read_unread x)

variable (c : Dev nD) (i : grid0.Coords) (arg2 : Memref sig .tc .vmem S1x256x32x128 .f32) (harg2 : arg2.IsWhole) (arg3 : Memref sig
  .tc .vmem S1x32x32x128 .f32) (harg3 : arg3.IsWhole) (arg4 : Memref sig .tc .vmem S1x32x32x8 .f32) (harg4 : arg4.IsWhole)
  (arg5 : Memref sig .tc .vmem S1x32x32x16 .f32) (harg5 : arg5.IsWhole) (arg6 : Memref sig .tc .vmem S35x128 .f32) (harg6 :
  arg6.IsWhole) (arg7 : Memref sig .tc .vmem S1x128 .f32) (harg7 : arg7.IsWhole) (arg8 : Memref sig .tc .vmem S128x128 .f32)
  (harg8 : arg8.IsWhole) (arg9 : Memref sig .tc .vmem S1x128 .f32) (harg9 : arg9.IsWhole) (arg10 : Memref sig .tc .vmem
  S128x128 .f32) (harg10 : arg10.IsWhole) (arg11 : Memref sig .tc .vmem S1x128 .f32) (harg11 : arg11.IsWhole) (arg12 : Memref
  sig .tc .vmem S384x128 .f32) (harg12 : arg12.IsWhole) (arg13 : Memref sig .tc .vmem S1x128 .f32) (harg13 : arg13.IsWhole)
  (arg14 : Memref sig .tc .vmem S128x128 .f32) (harg14 : arg14.IsWhole) (arg15 : Memref sig .tc .vmem S1x128 .f32) (harg15 :
  arg15.IsWhole) (arg16 : Memref sig .tc .vmem S128x384 .f32) (harg16 : arg16.IsWhole) (arg17 : Memref sig .tc .vmem S128x384
  .f32) (harg17 : arg17.IsWhole) (arg18 : Memref sig .tc .vmem S1x384 .f32) (harg18 : arg18.IsWhole) (arg19 : Memref sig .tc
  .vmem S1x384 .f32) (harg19 : arg19.IsWhole) (arg20 : Memref sig .tc .vmem S128x384 .f32) (harg20 : arg20.IsWhole) (arg21 :
  Memref sig .tc .vmem S128x384 .f32) (harg21 : arg21.IsWhole) (arg22 : Memref sig .tc .vmem S1x384 .f32) (harg22 :
  arg22.IsWhole) (arg23 : Memref sig .tc .vmem S1x384 .f32) (harg23 : arg23.IsWhole) (arg24 : Memref sig .tc .vmem S128x128
  .f32) (harg24 : arg24.IsWhole) (arg25 : Memref sig .tc .vmem S1x128 .f32) (harg25 : arg25.IsWhole) (arg26 : Memref sig .tc
  .vmem S128x4 .f32) (harg26 : arg26.IsWhole) (arg27 : Memref sig .tc .vmem S1x4 .f32) (harg27 : arg27.IsWhole) (arg28 : Memref
  sig .tc .vmem S256x256 .f32) (harg28 : arg28.IsWhole) (arg29 : Memref sig .tc .vmem S1x256 .f32) (harg29 : arg29.IsWhole)
  (arg30 : Memref sig .tc .vmem S256x4 .f32) (harg30 : arg30.IsWhole) (arg31 : Memref sig .tc .vmem S1x4 .f32) (harg31 :
  arg31.IsWhole) (arg32 : Memref sig .tc .vmem S1x32x256x4 .f32) (harg32 : arg32.IsWhole) (arg33 : Memref sig .tc .vmem
  S1x32x256x4 .f32) (harg33 : arg33.IsWhole) (arg34 : Memref sig .tc .vmem S1x256x128 .f32) (harg34 : arg34.IsWhole) (arg35 :
  Memref sig .tc .vmem S32x256x128 .f32) (harg35 : arg35.IsWhole) (arg36 : Memref sig .tc .vmem S32x256x384 .f32) (harg36 :
  arg36.IsWhole) (arg37 : Memref sig .tc .vmem S32x256x128 .f32) (harg37 : arg37.IsWhole) (arg38 : Memref sig .tc .vmem
  S32x256x128 .f32) (harg38 : arg38.IsWhole) (arg39 : Memref sig .tc .vmem S32x32x128 .f32) (harg39 : arg39.IsWhole)
variable (x0 : Vec Ideal S1x256x32x128 .f32) (x1 : Vec Ideal S1x32x32x128 .f32) (x2 : Vec Ideal S1x32x32x8 .f32) (x3 : Vec Ideal
  S1x32x32x16 .f32) (x4 : Vec Ideal S35x128 .f32) (x5 : Vec Ideal S1x128 .f32) (x6 : Vec Ideal S128x128 .f32) (x7 : Vec Ideal
  S1x128 .f32) (x8 : Vec Ideal S128x128 .f32) (x9 : Vec Ideal S1x128 .f32) (x10 : Vec Ideal S384x128 .f32) (x11 : Vec Ideal
  S1x128 .f32) (x12 : Vec Ideal S128x128 .f32) (x13 : Vec Ideal S1x128 .f32) (x14 : Vec Ideal S128x384 .f32) (x15 : Vec Ideal
  S128x384 .f32) (x16 : Vec Ideal S1x384 .f32) (x17 : Vec Ideal S1x384 .f32) (x18 : Vec Ideal S128x384 .f32) (x19 : Vec Ideal
  S128x384 .f32) (x20 : Vec Ideal S1x384 .f32) (x21 : Vec Ideal S1x384 .f32) (x22 : Vec Ideal S128x128 .f32) (x23 : Vec Ideal
  S1x128 .f32) (x24 : Vec Ideal S128x4 .f32) (x25 : Vec Ideal S1x4 .f32) (x26 : Vec Ideal S256x256 .f32) (x27 : Vec Ideal
  S1x256 .f32) (x28 : Vec Ideal S256x4 .f32) (x29 : Vec Ideal S1x4 .f32)

/-- The first layer's value before the unit from the loads is that of the blocks. -/
theorem first8_eq : (kernelRun0_A.sl.r_8 c arg3 harg3 arg4 harg4 arg5 harg5 arg6 harg6 arg7 harg7 arg8 harg8 arg9 harg9 x1 x2 x3 x4 x5 x6 x7)
    = (k0_pay17 (k0_pay9 x2) (k0_pay10 x3) (k0_pay11 x2) (k0_pay12 x2) (k0_pay13 x2) (k0_pay14 x2) (k0_pay15 x2) (k0_pay16 x2) x4 x5 x1 x6 x7) := by
  unfold kernelRun0_A.sl.r_8
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [load arg4 harg4 x2, load arg5 harg5 x3, load arg6 harg6 x4, load arg7 harg7 x5, load arg3 harg3 x1, load arg8 harg8 x6, load arg9 harg9 x7]

/-- The first layer's comparison from the loads is that of the blocks. -/
theorem first9_eq : (kernelRun0_A.sl.r_9 c arg3 harg3 arg4 harg4 arg5 harg5 arg6 harg6 arg7 harg7 arg8 harg8 arg9 harg9 x1 x2 x3 x4 x5 x6 x7)
    = (k0_pay18 (k0_pay9 x2) (k0_pay10 x3) (k0_pay11 x2) (k0_pay12 x2) (k0_pay13 x2) (k0_pay14 x2) (k0_pay15 x2) (k0_pay16 x2) x4 x5 x1 x6 x7) := by
  unfold kernelRun0_A.sl.r_9
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [load arg4 harg4 x2, load arg5 harg5 x3, load arg6 harg6 x4, load arg7 harg7 x5, load arg3 harg3 x1, load arg8 harg8 x6, load arg9 harg9 x7]

/-- The first layer's exponential branch from the loads is that of the blocks. -/
theorem first10_eq : (kernelRun0_A.sl.r_10 c arg3 harg3 arg4 harg4 arg5 harg5 arg6 harg6 arg7 harg7 arg8 harg8 arg9 harg9 x1 x2 x3 x4 x5 x6 x7)
    = (k0_pay19 (k0_pay9 x2) (k0_pay10 x3) (k0_pay11 x2) (k0_pay12 x2) (k0_pay13 x2) (k0_pay14 x2) (k0_pay15 x2) (k0_pay16 x2) x4 x5 x1 x6 x7) := by
  unfold kernelRun0_A.sl.r_10
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7
  rw [load arg4 harg4 x2, load arg5 harg5 x3, load arg6 harg6 x4, load arg7 harg7 x5, load arg3 harg3 x1, load arg8 harg8 x6, load arg9 harg9 x7]

/-- The senders' slab of the block is that of its eight senders. -/
theorem senders_at (s : Fin 8) (t : Fin 32) (j : Fin 128) :
    (kernelRun0_A.sl.v109 c i arg3 harg3 arg4 harg4 arg5 harg5 arg6 harg6 arg7 harg7 arg8 harg8 arg9 harg9 arg10 harg10 arg11
      harg11 arg12 harg12 arg39 x1 x2 x3 x4 x5 x6 x7 x8 x9 x10) (ix3 s t j)
      = k0_pay22 (k0_pay17 (k0_pay9 x2) (k0_pay10 x3) (k0_pay11 x2) (k0_pay12 x2) (k0_pay13 x2) (k0_pay14 x2) (k0_pay15 x2) (k0_pay16 x2) x4 x5 x1 x6 x7)
          (k0_pay18 (k0_pay9 x2) (k0_pay10 x3) (k0_pay11 x2) (k0_pay12 x2) (k0_pay13 x2) (k0_pay14 x2) (k0_pay15 x2) (k0_pay16 x2) x4 x5 x1 x6 x7)
          (k0_pay19 (k0_pay9 x2) (k0_pay10 x3) (k0_pay11 x2) (k0_pay12 x2) (k0_pay13 x2) (k0_pay14 x2) (k0_pay15 x2) (k0_pay16 x2) x4 x5 x1 x6 x7) x8 x9 x10 (ix3 ⟨(8 * (i 1).val + s.val) % 32, Nat.mod_lt _ (by decide)⟩ t j) := by
  have hi : (i 1).val < 4 := (i 1).isLt
  unfold kernelRun0_A.sl.v109
  refine Eq.trans (b := arg39.view.read (Elt Ideal) (arg39.view.writes (Elt Ideal) arg39.view.junk (kernelRun0_A.sl.HS4_1 c arg3 harg3 arg4 harg4 arg5 harg5 arg6 harg6 arg7 harg7 arg8 harg8 arg9 harg9 arg10 harg10 arg11 harg11 arg12 harg12 x1 x2 x3 x4 x5 x6 x7 x8 x9 x10)) (ix3 ⟨(8 * (i 1).val + s.val) % 32, Nat.mod_lt _ (by decide)⟩ t j)) ?_ ?_
  · refine congrArg (arg39.view.read (Elt Ideal) _) (funext fun a => Fin.ext ?_)
    refine (congrArg (fun z => z + 1 * _) (congrFun (k0_off1_eq i) a)).trans ?_
    fin_cases a <;> simp [ix3]
    omega
  · unfold kernelRun0_A.sl.HS4_1
    refine (congrFun (View.read_writes_full arg39.view _ _ _ _) _).trans ?_
    rw [first8_eq, first9_eq, first10_eq, load arg10 harg10 x8, load arg11 harg11 x9, load arg12 harg12 x10]

/-- The edges' embeddings the loop reads. -/
theorem edges_at (t : Fin 32) (p : Fin 256) (j : Fin 128) :
    arg35.view.read (Elt Ideal) (arg35.view.writes (Elt Ideal) arg35.view.junk (kernelRun0_A.sl.HS0_1 c i arg2 harg2 arg3 harg3 arg4 harg4 arg5 harg5 arg6
        harg6 arg7 harg7 arg8 harg8 arg9 harg9 arg10 harg10 arg11 harg11 arg12 harg12 arg13 harg13 arg14 harg14 arg15 harg15 arg39 x0
        x1 x2 x3 x4 x5 x6 x7 x8 x9 x10 x11 x12 x13)) (ix3 t p j)
      = Pay.bedge x0 x1 x2 x3 (Pay.bpar x4 x5 x6 x7 x8 x9 x10 x11 x12 x13 x14 x15 x16 x17 x18 x19 x20 x21 x22 x23 x24 x25 x26 x27 x28 x29) (i 1).val p t j := by
  have hv := senders_at c i arg3 harg3 arg4 harg4 arg5 harg5 arg6 harg6 arg7 harg7 arg8 harg8 arg9 harg9 arg10 harg10 arg11 harg11 arg12 harg12 arg39 x1 x2 x3 x4 x5 x6 x7 x8 x9 x10
  unfold kernelRun0_A.sl.HS0_1 kernelRun0_A.sl.r_11 kernelRun0_A.sl.r_12 kernelRun0_A.sl.r_13
  refine (congrFun (View.read_writes_full arg35.view _ _ _ _) _).trans ?_
  rw [first8_eq, first9_eq, first10_eq, load arg10 harg10 x8, load arg11 harg11 x9, load arg12 harg12 x10, load arg2 harg2 x0, load arg13 harg13 x11, load arg14 harg14 x12, load arg15 harg15 x13]
  exact Pay.edge_at x0 x1 x2 x3 x4 x5 x6 x7 x8 x9 x10 x11 x12 x13 x14 x15 x16 x17 x18 x19 x20 x21 x22 x23 x24 x25 x26 x27 x28 x29 (i 1).val _ hv t p j

/-- The input gates the loop reads. -/
theorem igates_at (t : Fin 32) (p : Fin 256) (q : Fin 384) :
    arg36.view.read (Elt Ideal) (arg36.view.writes (Elt Ideal) arg36.view.junk (kernelRun0_A.sl.HS1_1 c i arg2 harg2 arg3 harg3 arg4 harg4 arg5 harg5 arg6
        harg6 arg7 harg7 arg8 harg8 arg9 harg9 arg10 harg10 arg11 harg11 arg12 harg12 arg13 harg13 arg14 harg14 arg15 harg15 arg16
        harg16 arg18 harg18 arg35 arg39 x0 x1 x2 x3 x4 x5 x6 x7 x8 x9 x10 x11 x12 x13 x14 x16)) (ix3 t p q)
      = Spec.dense (Pay.bedge x0 x1 x2 x3 (Pay.bpar x4 x5 x6 x7 x8 x9 x10 x11 x12 x13 x14 x15 x16 x17 x18 x19 x20 x21 x22 x23 x24 x25 x26 x27 x28 x29) (i 1).val p t)
          (Pay.bpar x4 x5 x6 x7 x8 x9 x10 x11 x12 x13 x14 x15 x16 x17 x18 x19 x20 x21 x22 x23 x24 x25 x26 x27 x28 x29).Wif (Pay.bpar x4 x5 x6 x7 x8 x9 x10 x11 x12 x13 x14 x15 x16 x17 x18 x19 x20 x21 x22 x23 x24 x25 x26 x27 x28 x29).cif q := by
  unfold kernelRun0_A.sl.HS1_1 kernelRun0_A.sl.r_14
  refine (congrFun (View.read_writes_full arg36.view _ _ _ _) _).trans ?_
  rw [load arg16 harg16 x14, load arg18 harg18 x16]
  refine (Pay.gates_at _ x14 x16 t p q).trans ?_
  refine congrArg (fun f : Fin 128 → EReal => Spec.dense f _ _ q) (funext fun k => ?_)
  unfold kernelRun0_A.sl.v155
  exact (congrFun (View.readAt_full arg35.view _ _) _).trans (edges_at c i arg2 harg2 arg3 harg3 arg4 harg4 arg5 harg5 arg6 harg6 arg7 harg7 arg8 harg8 arg9 harg9 arg10 harg10 arg11 harg11 arg12 harg12 arg13 harg13 arg14 harg14 arg15 harg15 arg35 arg39 x0 x1 x2 x3 x4 x5 x6 x7 x8 x9 x10 x11 x12 x13 x14 x15 x16 x17 x18 x19 x20 x21 x22 x23 x24 x25 x26 x27 x28 x29 t p k)

end Cert.KernelIdeal.Run

end
-- ==== Proof.Pay.Head.lean ====
/- The two heads the kernel computes on eight time steps at once, at an index. -/
module

public import proofs.«01_k».proof.Proof.Gen.KernelIdeal.Skeleton
public import proofs.«01_k».proof.Proof.Math.Spec
public import Idealize.ShloMosaic.Lib.Pointwise

@[expose] public section

set_option maxRecDepth 16384

noncomputable section

namespace Cert.Pay

open Cert.KernelIdeal Cert.KernelIdeal.Gen
open Idealize.ShloMosaic

/-- The prior head from the loaded states `v` and weights. -/
def priorOf (v : Vec Ideal S8x256x128 .f32) (w1 : Vec Ideal S128x128 .f32) (b1 : Vec Ideal S1x128 .f32)
    (w2 : Vec Ideal S128x4 .f32) (b2 : Vec Ideal S1x4 .f32) (s : Fin 8) (p : Fin 256) (q : Fin 4) : EReal :=
  Spec.dense (fun j => Spec.elu (Spec.dense (fun k => v (ix3 s p k)) (fun k j => w1 (ix2 k j)) (fun j => b1 (ix2 0 j)) j))
    (fun j q => w2 (ix2 j q)) (fun q => b2 (ix2 0 q)) q

/-- The encoder head from the loaded forward states `v`, reverse states `u` and weights. -/
def encOf (v u : Vec Ideal S8x256x128 .f32) (w1 : Vec Ideal S256x256 .f32) (b1 : Vec Ideal S1x256 .f32)
    (w2 : Vec Ideal S256x4 .f32) (b2 : Vec Ideal S1x4 .f32) (s : Fin 8) (p : Fin 256) (q : Fin 4) : EReal :=
  Spec.dense (fun j => Spec.elu (((∑ k : Fin 128, v (ix3 s p k) * w1 (ix2 ⟨k.val, by omega⟩ j))
      + (∑ k : Fin 128, u (ix3 s p k) * w1 (ix2 ⟨128 + k.val, by omega⟩ j))) + b1 (ix2 0 j)))
    (fun j q => w2 (ix2 j q)) (fun q => b2 (ix2 0 q)) q

variable (v u : Vec Ideal S8x256x128 .f32) (s : Fin 8) (p : Fin 256) (q : Fin 4) (z : Fin 1)

section
variable (w1 : Vec Ideal S128x128 .f32) (b1 : Vec Ideal S1x128 .f32) (w2 : Vec Ideal S128x4 .f32) (b2 : Vec Ideal S1x4 .f32)

/-- The prior head's block of the first eight steps; the other three follow. -/
theorem pay40_at : k0_pay40 (k0_pay39 v) w1 b1 w2 b2 (ix4 z s p q) = priorOf v w1 b1 w2 b2 s p q := by
  pointwise [k0_pay40, k0_pay39]
  rfl

theorem pay48_at : k0_pay48 (k0_pay46 v w1 b1 w2) (k0_pay47 b2) (ix4 z s p q) = priorOf v w1 b1 w2 b2 s p q := by
  pointwise [k0_pay48, k0_pay46, k0_pay47, k0_pay45]
  rfl

theorem pay51_at : k0_pay51 v w1 b1 w2 b2 (ix4 z s p q) = priorOf v w1 b1 w2 b2 s p q := by
  pointwise [k0_pay51, k0_pay50]
  rfl

theorem pay58_at : k0_pay58 (k0_pay56 v w1 b1) (k0_pay57 w2) b2 (ix4 z s p q) = priorOf v w1 b1 w2 b2 s p q := by
  pointwise [k0_pay58, k0_pay56, k0_pay57, k0_pay55]
  rfl
end

variable (w1 : Vec Ideal S256x256 .f32) (b1 : Vec Ideal S1x256 .f32) (w2 : Vec Ideal S256x4 .f32) (b2 : Vec Ideal S1x4 .f32)

/-- The encoder head's block of the first eight steps; the other three follow. -/
theorem pay44_at : k0_pay44 (k0_pay41 (k0_pay39 v) u w1 b1) (k0_pay42 (k0_pay39 v) u w1 b1) (k0_pay43 (k0_pay39 v) u w1 b1) w2 b2
    (ix4 z s p q) = encOf v u w1 b1 w2 b2 s p q := by
  pointwise [k0_pay44, k0_pay42, k0_pay43, k0_pay41, k0_pay39]
  rfl

theorem pay49_at : k0_pay49 (k0_pay45 v) u w1 b1 w2 b2 (ix4 z s p q) = encOf v u w1 b1 w2 b2 s p q := by
  pointwise [k0_pay49, k0_pay45]
  rfl

theorem pay54_at : k0_pay54 (k0_pay52 v u w1) (k0_pay53 b1) w2 b2 (ix4 z s p q) = encOf v u w1 b1 w2 b2 s p q := by
  pointwise [k0_pay54, k0_pay52, k0_pay53, k0_pay50]
  rfl

theorem pay1_at : k0_pay1 (k0_pay59 (k0_pay55 v) u w1 b1 w2 b2) (ix4 z s p q) = encOf v u w1 b1 w2 b2 s p q := by
  pointwise [k0_pay1, k0_pay59, k0_pay55]
  rfl

end Cert.Pay

end
-- ==== Proof.Run.Block.lean ====
/- What a point's body leaves in the three result blocks. -/
module

public import proofs.«01_k».proof.Proof.Run.Loop
public import proofs.«01_k».proof.Proof.Run.Edge
public import proofs.«01_k».proof.Proof.Pay.Head
public import Idealize.ShloMosaic.Lib.VecWindow
public import Idealize.ShloMosaic.Lib.WritesUnit

@[expose] public section

set_option maxRecDepth 16384

noncomputable section

namespace Cert.KernelIdeal.Run

open Cert.KernelIdeal Cert.KernelIdeal.Gen
open Idealize.ShloMosaic

/-- The loop's bounds make 32 trips. -/
theorem trips32 : Scf.trips k0_t1_loop.lb k0_t1_loop.ub k0_t1_loop.st = 32 := trips_eq

/-- A load of eight steps' slabs. -/
theorem slab8 (v : View sig .tc .vmem S32x256x128 .f32) (X : v.ty.Contents (Elt Ideal)) (o : ℕ) (ho : o + 8 ≤ 32)
    (inb : ∀ a, (![o, 0, 0] : Fin 3 → ℕ) a + S8x256x128.size a ≤ S32x256x128.size a) (s : Fin 8) (p : Fin 256) (j : Fin 128) :
    v.readAt (Elt Ideal) (Rect.unit (s := S32x256x128) ![o, 0, 0] S8x256x128.size inb).toLoadRect X (ix3 s p j)
      = v.read (Elt Ideal) X (ix3 ⟨o + s.val, by omega⟩ p j) := by
  refine congrArg (v.read (Elt Ideal) X) (funext fun a => Fin.ext ?_)
  fin_cases a <;> simp [ix3]

/-- A result block stored in four parts of eight steps each. -/
theorem quarters (v : View sig .tc .vmem S1x32x256x4 .f32) (f : v.ty.Contents (Elt Ideal)) (w3 w2 w1 w0 : Vec Ideal S1x8x256x4 .f32)
    (i3 : ∀ a, (![0, 24, 0, 0] : Fin 4 → ℕ) a + S1x8x256x4.size a ≤ S1x32x256x4.size a)
    (i2 : ∀ a, (![0, 16, 0, 0] : Fin 4 → ℕ) a + S1x8x256x4.size a ≤ S1x32x256x4.size a)
    (i1 : ∀ a, (![0, 8, 0, 0] : Fin 4 → ℕ) a + S1x8x256x4.size a ≤ S1x32x256x4.size a)
    (i0 : ∀ a, (![0, 0, 0, 0] : Fin 4 → ℕ) a + S1x8x256x4.size a ≤ S1x32x256x4.size a)
    (G : ℕ → Fin 256 → Fin 4 → EReal)
    (h3 : ∀ s p q, w3 (ix4 0 s p q) = G (24 + s.val) p q) (h2 : ∀ s p q, w2 (ix4 0 s p q) = G (16 + s.val) p q)
    (h1 : ∀ s p q, w1 (ix4 0 s p q) = G (8 + s.val) p q) (h0 : ∀ s p q, w0 (ix4 0 s p q) = G (0 + s.val) p q)
    (t : Fin 32) (p : Fin 256) (q : Fin 4) :
    v.read (Elt Ideal) (v.writes (Elt Ideal) f [⟨Rect.unit (s := S1x32x256x4) ![0, 24, 0, 0] S1x8x256x4.size i3, w3⟩,
      ⟨Rect.unit (s := S1x32x256x4) ![0, 16, 0, 0] S1x8x256x4.size i2, w2⟩, ⟨Rect.unit (s := S1x32x256x4) ![0, 8, 0, 0] S1x8x256x4.size i1, w1⟩,
      ⟨Rect.unit (s := S1x32x256x4) ![0, 0, 0, 0] S1x8x256x4.size i0, w0⟩]) (ix4 0 t p q) = G t.val p q := by
  by_cases t3 : 24 ≤ t.val
  · refine (View.read_writes_cons_unit_of_mem _ _ _ _ _ (ix4 0 t p q) (ix4 0 ⟨t.val - 24, by omega⟩ p q) rfl fun a => ?_).trans ?_
    · fin_cases a <;> simp [ix4]
      omega
    · exact (h3 _ p q).trans (congrArg (fun k => G k p q) (by show 24 + (t.val - 24) = t.val; omega))
  refine (View.read_writes_cons_unit_of_not_mem _ _ _ _ _ (ix4 0 t p q) rfl 1 (by simp [ix4]; omega)).trans ?_
  by_cases t2 : 16 ≤ t.val
  · refine (View.read_writes_cons_unit_of_mem _ _ _ _ _ (ix4 0 t p q) (ix4 0 ⟨t.val - 16, by omega⟩ p q) rfl fun a => ?_).trans ?_
    · fin_cases a <;> simp [ix4]
      omega
    · exact (h2 _ p q).trans (congrArg (fun k => G k p q) (by show 16 + (t.val - 16) = t.val; omega))
  refine (View.read_writes_cons_unit_of_not_mem _ _ _ _ _ (ix4 0 t p q) rfl 1 (by simp [ix4]; omega)).trans ?_
  by_cases t1 : 8 ≤ t.val
  · refine (View.read_writes_cons_unit_of_mem _ _ _ _ _ (ix4 0 t p q) (ix4 0 ⟨t.val - 8, by omega⟩ p q) rfl fun a => ?_).trans ?_
    · fin_cases a <;> simp [ix4]
      omega
    · exact (h1 _ p q).trans (congrArg (fun k => G k p q) (by show 8 + (t.val - 8) = t.val; omega))
  refine (View.read_writes_cons_unit_of_not_mem _ _ _ _ _ (ix4 0 t p q) rfl 1 (by simp [ix4]; omega)).trans ?_
  refine (View.read_writes_cons_unit_of_mem _ _ _ _ _ (ix4 0 t p q) (ix4 0 ⟨t.val, by omega⟩ p q) rfl fun a => ?_).trans ?_
  · fin_cases a <;> simp [ix4]
  · exact (h0 _ p q).trans (congrArg (fun k => G k p q) (by show 0 + t.val = t.val; omega))

variable (c : Dev nD) (i : grid0.Coords) (arg2 : Memref sig .tc .vmem S1x256x32x128 .f32) (harg2 : arg2.IsWhole) (arg3 : Memref sig
  .tc .vmem S1x32x32x128 .f32) (harg3 : arg3.IsWhole) (arg4 : Memref sig .tc .vmem S1x32x32x8 .f32) (harg4 : arg4.IsWhole)
  (arg5 : Memref sig .tc .vmem S1x32x32x16 .f32) (harg5 : arg5.IsWhole) (arg6 : Memref sig .tc .vmem S35x128 .f32) (harg6 :
  arg6.IsWhole) (arg7 : Memref sig .tc .vmem S1x128 .f32) (harg7 : arg7.IsWhole) (arg8 : Memref sig .tc .vmem S128x128 .f32)
  (harg8 : arg8.IsWhole) (arg9 : Memref sig .tc .vmem S1x128 .f32) (harg9 : arg9.IsWhole) (arg10 : Memref sig .tc .vmem
  S128x128 .f32) (harg10 : arg10.IsWhole) (arg11 : Memref sig .tc .vmem S1x128 .f32) (harg11 : arg11.IsWhole) (arg12 : Memref
  sig .tc .vmem S384x128 .f32) (harg12 : arg12.IsWhole) (arg13 : Memref sig .tc .vmem S1x128 .f32) (harg13 : arg13.IsWhole)
  (arg14 : Memref sig .tc .vmem S128x128 .f32) (harg14 : arg14.IsWhole) (arg15 : Memref sig .tc .vmem S1x128 .f32) (harg15 :
  arg15.IsWhole) (arg16 : Memref sig .tc .vmem S128x384 .f32) (harg16 : arg16.IsWhole) (arg17 : Memref sig .tc .vmem S128x384
  .f32) (harg17 : arg17.IsWhole) (arg18 : Memref sig .tc .vmem S1x384 .f32) (harg18 : arg18.IsWhole) (arg19 : Memref sig .tc
  .vmem S1x384 .f32) (harg19 : arg19.IsWhole) (arg20 : Memref sig .tc .vmem S128x384 .f32) (harg20 : arg20.IsWhole) (arg21 :
  Memref sig .tc .vmem S128x384 .f32) (harg21 : arg21.IsWhole) (arg22 : Memref sig .tc .vmem S1x384 .f32) (harg22 :
  arg22.IsWhole) (arg23 : Memref sig .tc .vmem S1x384 .f32) (harg23 : arg23.IsWhole) (arg24 : Memref sig .tc .vmem S128x128
  .f32) (harg24 : arg24.IsWhole) (arg25 : Memref sig .tc .vmem S1x128 .f32) (harg25 : arg25.IsWhole) (arg26 : Memref sig .tc
  .vmem S128x4 .f32) (harg26 : arg26.IsWhole) (arg27 : Memref sig .tc .vmem S1x4 .f32) (harg27 : arg27.IsWhole) (arg28 : Memref
  sig .tc .vmem S256x256 .f32) (harg28 : arg28.IsWhole) (arg29 : Memref sig .tc .vmem S1x256 .f32) (harg29 : arg29.IsWhole)
  (arg30 : Memref sig .tc .vmem S256x4 .f32) (harg30 : arg30.IsWhole) (arg31 : Memref sig .tc .vmem S1x4 .f32) (harg31 :
  arg31.IsWhole) (arg32 : Memref sig .tc .vmem S1x32x256x4 .f32) (harg32 : arg32.IsWhole) (arg33 : Memref sig .tc .vmem
  S1x32x256x4 .f32) (harg33 : arg33.IsWhole) (arg34 : Memref sig .tc .vmem S1x256x128 .f32) (harg34 : arg34.IsWhole) (arg35 :
  Memref sig .tc .vmem S32x256x128 .f32) (harg35 : arg35.IsWhole) (arg36 : Memref sig .tc .vmem S32x256x384 .f32) (harg36 :
  arg36.IsWhole) (arg37 : Memref sig .tc .vmem S32x256x128 .f32) (harg37 : arg37.IsWhole) (arg38 : Memref sig .tc .vmem
  S32x256x128 .f32) (harg38 : arg38.IsWhole) (arg39 : Memref sig .tc .vmem S32x32x128 .f32) (harg39 : arg39.IsWhole)
variable (x0 : Vec Ideal S1x256x32x128 .f32) (x1 : Vec Ideal S1x32x32x128 .f32) (x2 : Vec Ideal S1x32x32x8 .f32) (x3 : Vec Ideal
  S1x32x32x16 .f32) (x4 : Vec Ideal S35x128 .f32) (x5 : Vec Ideal S1x128 .f32) (x6 : Vec Ideal S128x128 .f32) (x7 : Vec Ideal
  S1x128 .f32) (x8 : Vec Ideal S128x128 .f32) (x9 : Vec Ideal S1x128 .f32) (x10 : Vec Ideal S384x128 .f32) (x11 : Vec Ideal
  S1x128 .f32) (x12 : Vec Ideal S128x128 .f32) (x13 : Vec Ideal S1x128 .f32) (x14 : Vec Ideal S128x384 .f32) (x15 : Vec Ideal
  S128x384 .f32) (x16 : Vec Ideal S1x384 .f32) (x17 : Vec Ideal S1x384 .f32) (x18 : Vec Ideal S128x384 .f32) (x19 : Vec Ideal
  S128x384 .f32) (x20 : Vec Ideal S1x384 .f32) (x21 : Vec Ideal S1x384 .f32) (x22 : Vec Ideal S128x128 .f32) (x23 : Vec Ideal
  S1x128 .f32) (x24 : Vec Ideal S128x4 .f32) (x25 : Vec Ideal S1x4 .f32) (x26 : Vec Ideal S256x256 .f32) (x27 : Vec Ideal
  S1x256 .f32) (x28 : Vec Ideal S256x4 .f32) (x29 : Vec Ideal S1x4 .f32)

/-- The forward state after the last step. -/
theorem fwd_last (p : Fin 256) (j : Fin 128) :
    (st_k0_t1 Variants.none c none i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19 harg19
      arg20 harg20 arg21 harg21 arg22 harg22 arg23 harg23 arg24 harg24 arg25 harg25 arg26 harg26 arg27 harg27 arg28 harg28 arg29
      harg29 arg30 harg30 arg31 harg31 arg32 harg32 arg33 harg33 arg34 harg34 arg35 harg35 arg36 harg36 arg37 harg37 arg38 harg38
      arg39 harg39 (kernelRun0_A.sl.r_14 c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg35 arg39 x0 x1 x2 x3 x4
      x5 x6 x7 x8 x9 x10 x11 x12 x13 x14) (View.readAt (Elt Ideal) arg17.view (Rect.unit ![0, 0] S128x384.size
      inb_S128x384_S128x384_0_0).toLoadRect (harg17.unread x15)) (View.readAt (Elt Ideal) arg19.view (Rect.unit ![0, 0] S1x384.size
      inb_S1x384_S1x384_0_0).toLoadRect (harg19.unread x17)) (View.readAt (Elt Ideal) arg21.view (Rect.unit ![0, 0] S128x384.size
      inb_S128x384_S128x384_0_0).toLoadRect (harg21.unread x19)) (View.readAt (Elt Ideal) arg23.view (Rect.unit ![0, 0] S1x384.size
      inb_S1x384_S1x384_0_0).toLoadRect (harg23.unread x21)) (View.readAt (Elt Ideal) arg20.view (Rect.unit ![0, 0] S128x384.size
      inb_S128x384_S128x384_0_0).toLoadRect (harg20.unread x18)) (View.readAt (Elt Ideal) arg22.view (Rect.unit ![0, 0] S1x384.size
      inb_S1x384_S1x384_0_0).toLoadRect (harg22.unread x20)) (arg35.view.writes (Elt Ideal) arg35.view.junk (kernelRun0_A.sl.HS0_1
      c i arg2 harg2 arg3 harg3 arg4 harg4 arg5 harg5 arg6 harg6 arg7 harg7 arg8 harg8 arg9 harg9 arg10 harg10 arg11 harg11 arg12
      harg12 arg13 harg13 arg14 harg14 arg15 harg15 arg39 x0 x1 x2 x3 x4 x5 x6 x7 x8 x9 x10 x11 x12 x13)) (arg36.view.writes (Elt
      Ideal) arg36.view.junk (kernelRun0_A.sl.HS1_1 c i arg2 harg2 arg3 harg3 arg4 harg4 arg5 harg5 arg6 harg6 arg7 harg7 arg8
      harg8 arg9 harg9 arg10 harg10 arg11 harg11 arg12 harg12 arg13 harg13 arg14 harg14 arg15 harg15 arg16 harg16 arg18 harg18
      arg35 arg39 x0 x1 x2 x3 x4 x5 x6 x7 x8 x9 x10 x11 x12 x13 x14 x16)) (k0_pay35, k0_pay35) (Scf.trips k0_t1_loop.lb
      k0_t1_loop.ub k0_t1_loop.st)).1.1 (ix2 p j)
      = Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) 32 j := by
  rw [trips32]
  exact loop_fst Variants.none c none i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29
    arg30 harg30 arg31 harg31 arg32 harg32 arg33 harg33 arg34 harg34 arg35 harg35 arg36 harg36 arg37 harg37 arg38 harg38 arg39
    harg39 (kernelRun0_A.sl.r_14 c i arg2 harg2 arg3 harg3 arg4 harg4 arg5 harg5 arg6 harg6 arg7 harg7 arg8 harg8 arg9 harg9
    arg10 harg10 arg11 harg11 arg12 harg12 arg13 harg13 arg14 harg14 arg15 harg15 arg16 harg16 arg35 arg39 x0 x1 x2 x3 x4 x5 x6
    x7 x8 x9 x10 x11 x12 x13 x14) (View.readAt (Elt Ideal) arg17.view (Rect.unit ![0, 0] S128x384.size
    inb_S128x384_S128x384_0_0).toLoadRect (harg17.unread x15)) (View.readAt (Elt Ideal) arg19.view (Rect.unit ![0, 0] S1x384.size
    inb_S1x384_S1x384_0_0).toLoadRect (harg19.unread x17)) (View.readAt (Elt Ideal) arg21.view (Rect.unit ![0, 0] S128x384.size
    inb_S128x384_S128x384_0_0).toLoadRect (harg21.unread x19)) (View.readAt (Elt Ideal) arg23.view (Rect.unit ![0, 0] S1x384.size
    inb_S1x384_S1x384_0_0).toLoadRect (harg23.unread x21)) (View.readAt (Elt Ideal) arg20.view (Rect.unit ![0, 0] S128x384.size
    inb_S128x384_S128x384_0_0).toLoadRect (harg20.unread x18)) (View.readAt (Elt Ideal) arg22.view (Rect.unit ![0, 0] S1x384.size
    inb_S1x384_S1x384_0_0).toLoadRect (harg22.unread x20)) (arg35.view.writes (Elt Ideal) arg35.view.junk (kernelRun0_A.sl.HS0_1
    c i arg2 harg2 arg3 harg3 arg4 harg4 arg5 harg5 arg6 harg6 arg7 harg7 arg8 harg8 arg9 harg9 arg10 harg10 arg11 harg11 arg12
    harg12 arg13 harg13 arg14 harg14 arg15 harg15 arg39 x0 x1 x2 x3 x4 x5 x6 x7 x8 x9 x10 x11 x12 x13)) (arg36.view.writes (Elt
    Ideal) arg36.view.junk (kernelRun0_A.sl.HS1_1 c i arg2 harg2 arg3 harg3 arg4 harg4 arg5 harg5 arg6 harg6 arg7 harg7 arg8
    harg8 arg9 harg9 arg10 harg10 arg11 harg11 arg12 harg12 arg13 harg13 arg14 harg14 arg15 harg15 arg16 harg16 arg18 harg18
    arg35 arg39 x0 x1 x2 x3 x4 x5 x6 x7 x8 x9 x10 x11 x12 x13 x14 x16)) (k0_pay35, k0_pay35)
    (Pay.bpar x4 x5 x6 x7 x8 x9 x10 x11 x12 x13 x14 x15 x16 x17 x18 x19 x20 x21 x22 x23 x24 x25 x26 x27 x28 x29) (Pay.bedge x0 x1
    x2 x3 (Pay.bpar x4 x5 x6 x7 x8 x9 x10 x11 x12 x13 x14 x15 x16 x17 x18 x19 x20 x21 x22 x23 x24 x25 x26 x27 x28 x29) (i 1).val)
    (fun k q => congrFun (load arg17 harg17 x15) (ix2 k q)) (fun z q => (congrFun (load arg19 harg19 x17) (ix2 z q)).trans
    (Pay.row_one x17 z q)) (fun t r q => igates_at c i arg2 harg2 arg3 harg3 arg4 harg4 arg5 harg5 arg6 harg6 arg7 harg7 arg8
    harg8 arg9 harg9 arg10 harg10 arg11 harg11 arg12 harg12 arg13 harg13 arg14 harg14 arg15 harg15 arg16 harg16 arg18 harg18
    arg35 arg36 arg39 x0 x1 x2 x3 x4 x5 x6 x7 x8 x9 x10 x11 x12 x13 x14 x15 x16 x17 x18 x19 x20 x21 x22 x23 x24 x25 x26 x27 x28
    x29 t r q) (fun r j => Pay.pay35_at r j) 32 (le_refl 32) p j

/-- The forward slabs after the last step. -/
theorem fwd_slab (f : arg37.view.ty.Contents (Elt Ideal)) (t : Fin 32) (p : Fin 256) (j : Fin 128) :
    arg37.view.read (Elt Ideal) (arg37.view.writes (Elt Ideal) f
      (st_k0_t1 Variants.none c none i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19 harg19
      arg20 harg20 arg21 harg21 arg22 harg22 arg23 harg23 arg24 harg24 arg25 harg25 arg26 harg26 arg27 harg27 arg28 harg28 arg29
      harg29 arg30 harg30 arg31 harg31 arg32 harg32 arg33 harg33 arg34 harg34 arg35 harg35 arg36 harg36 arg37 harg37 arg38 harg38
      arg39 harg39 (kernelRun0_A.sl.r_14 c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg35 arg39 x0 x1 x2 x3 x4
      x5 x6 x7 x8 x9 x10 x11 x12 x13 x14) (View.readAt (Elt Ideal) arg17.view (Rect.unit ![0, 0] S128x384.size
      inb_S128x384_S128x384_0_0).toLoadRect (harg17.unread x15)) (View.readAt (Elt Ideal) arg19.view (Rect.unit ![0, 0] S1x384.size
      inb_S1x384_S1x384_0_0).toLoadRect (harg19.unread x17)) (View.readAt (Elt Ideal) arg21.view (Rect.unit ![0, 0] S128x384.size
      inb_S128x384_S128x384_0_0).toLoadRect (harg21.unread x19)) (View.readAt (Elt Ideal) arg23.view (Rect.unit ![0, 0] S1x384.size
      inb_S1x384_S1x384_0_0).toLoadRect (harg23.unread x21)) (View.readAt (Elt Ideal) arg20.view (Rect.unit ![0, 0] S128x384.size
      inb_S128x384_S128x384_0_0).toLoadRect (harg20.unread x18)) (View.readAt (Elt Ideal) arg22.view (Rect.unit ![0, 0] S1x384.size
      inb_S1x384_S1x384_0_0).toLoadRect (harg22.unread x20)) (arg35.view.writes (Elt Ideal) arg35.view.junk (kernelRun0_A.sl.HS0_1
      c i arg2 harg2 arg3 harg3 arg4 harg4 arg5 harg5 arg6 harg6 arg7 harg7 arg8 harg8 arg9 harg9 arg10 harg10 arg11 harg11 arg12
      harg12 arg13 harg13 arg14 harg14 arg15 harg15 arg39 x0 x1 x2 x3 x4 x5 x6 x7 x8 x9 x10 x11 x12 x13)) (arg36.view.writes (Elt
      Ideal) arg36.view.junk (kernelRun0_A.sl.HS1_1 c i arg2 harg2 arg3 harg3 arg4 harg4 arg5 harg5 arg6 harg6 arg7 harg7 arg8
      harg8 arg9 harg9 arg10 harg10 arg11 harg11 arg12 harg12 arg13 harg13 arg14 harg14 arg15 harg15 arg16 harg16 arg18 harg18
      arg35 arg39 x0 x1 x2 x3 x4 x5 x6 x7 x8 x9 x10 x11 x12 x13 x14 x16)) (k0_pay35, k0_pay35) (Scf.trips k0_t1_loop.lb
      k0_t1_loop.ub k0_t1_loop.st)).2.1) (ix3 t p j)
      = Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (t.val + 1) j := by
  rw [trips32]
  exact loop_store_fst Variants.none c none i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29
    arg30 harg30 arg31 harg31 arg32 harg32 arg33 harg33 arg34 harg34 arg35 harg35 arg36 harg36 arg37 harg37 arg38 harg38 arg39
    harg39 (kernelRun0_A.sl.r_14 c i arg2 harg2 arg3 harg3 arg4 harg4 arg5 harg5 arg6 harg6 arg7 harg7 arg8 harg8 arg9 harg9
    arg10 harg10 arg11 harg11 arg12 harg12 arg13 harg13 arg14 harg14 arg15 harg15 arg16 harg16 arg35 arg39 x0 x1 x2 x3 x4 x5 x6
    x7 x8 x9 x10 x11 x12 x13 x14) (View.readAt (Elt Ideal) arg17.view (Rect.unit ![0, 0] S128x384.size
    inb_S128x384_S128x384_0_0).toLoadRect (harg17.unread x15)) (View.readAt (Elt Ideal) arg19.view (Rect.unit ![0, 0] S1x384.size
    inb_S1x384_S1x384_0_0).toLoadRect (harg19.unread x17)) (View.readAt (Elt Ideal) arg21.view (Rect.unit ![0, 0] S128x384.size
    inb_S128x384_S128x384_0_0).toLoadRect (harg21.unread x19)) (View.readAt (Elt Ideal) arg23.view (Rect.unit ![0, 0] S1x384.size
    inb_S1x384_S1x384_0_0).toLoadRect (harg23.unread x21)) (View.readAt (Elt Ideal) arg20.view (Rect.unit ![0, 0] S128x384.size
    inb_S128x384_S128x384_0_0).toLoadRect (harg20.unread x18)) (View.readAt (Elt Ideal) arg22.view (Rect.unit ![0, 0] S1x384.size
    inb_S1x384_S1x384_0_0).toLoadRect (harg22.unread x20)) (arg35.view.writes (Elt Ideal) arg35.view.junk (kernelRun0_A.sl.HS0_1
    c i arg2 harg2 arg3 harg3 arg4 harg4 arg5 harg5 arg6 harg6 arg7 harg7 arg8 harg8 arg9 harg9 arg10 harg10 arg11 harg11 arg12
    harg12 arg13 harg13 arg14 harg14 arg15 harg15 arg39 x0 x1 x2 x3 x4 x5 x6 x7 x8 x9 x10 x11 x12 x13)) (arg36.view.writes (Elt
    Ideal) arg36.view.junk (kernelRun0_A.sl.HS1_1 c i arg2 harg2 arg3 harg3 arg4 harg4 arg5 harg5 arg6 harg6 arg7 harg7 arg8
    harg8 arg9 harg9 arg10 harg10 arg11 harg11 arg12 harg12 arg13 harg13 arg14 harg14 arg15 harg15 arg16 harg16 arg18 harg18
    arg35 arg39 x0 x1 x2 x3 x4 x5 x6 x7 x8 x9 x10 x11 x12 x13 x14 x16)) (k0_pay35, k0_pay35)
    (Pay.bpar x4 x5 x6 x7 x8 x9 x10 x11 x12 x13 x14 x15 x16 x17 x18 x19 x20 x21 x22 x23 x24 x25 x26 x27 x28 x29) (Pay.bedge x0 x1
    x2 x3 (Pay.bpar x4 x5 x6 x7 x8 x9 x10 x11 x12 x13 x14 x15 x16 x17 x18 x19 x20 x21 x22 x23 x24 x25 x26 x27 x28 x29) (i 1).val)
    (fun k q => congrFun (load arg17 harg17 x15) (ix2 k q)) (fun z q => (congrFun (load arg19 harg19 x17) (ix2 z q)).trans
    (Pay.row_one x17 z q)) (fun t r q => igates_at c i arg2 harg2 arg3 harg3 arg4 harg4 arg5 harg5 arg6 harg6 arg7 harg7 arg8
    harg8 arg9 harg9 arg10 harg10 arg11 harg11 arg12 harg12 arg13 harg13 arg14 harg14 arg15 harg15 arg16 harg16 arg18 harg18
    arg35 arg36 arg39 x0 x1 x2 x3 x4 x5 x6 x7 x8 x9 x10 x11 x12 x13 x14 x15 x16 x17 x18 x19 x20 x21 x22 x23 x24 x25 x26 x27 x28
    x29 t r q) (fun r j => Pay.pay35_at r j) f 32 (le_refl 32) t t.isLt p j

/-- The reverse slabs after the last step. -/
theorem rev_slab (f : arg38.view.ty.Contents (Elt Ideal)) (t : Fin 32) (p : Fin 256) (j : Fin 128) :
    arg38.view.read (Elt Ideal) (arg38.view.writes (Elt Ideal) f
      (st_k0_t1 Variants.none c none i arg2 harg2 arg3 harg3 arg4 harg4 arg5 harg5 arg6 harg6 arg7 harg7 arg8 harg8 arg9 harg9 arg10
      harg10 arg11 harg11 arg12 harg12 arg13 harg13 arg14 harg14 arg15 harg15 arg16 harg16 arg17 harg17 arg18 harg18 arg19 harg19
      arg20 harg20 arg21 harg21 arg22 harg22 arg23 harg23 arg24 harg24 arg25 harg25 arg26 harg26 arg27 harg27 arg28 harg28 arg29
      harg29 arg30 harg30 arg31 harg31 arg32 harg32 arg33 harg33 arg34 harg34 arg35 harg35 arg36 harg36 arg37 harg37 arg38 harg38
      arg39 harg39 (kernelRun0_A.sl.r_14 c i arg2 harg2 arg3 harg3 arg4 harg4 arg5 harg5 arg6 harg6 arg7 harg7 arg8 harg8 arg9
      harg9 arg10 harg10 arg11 harg11 arg12 harg12 arg13 harg13 arg14 harg14 arg15 harg15 arg16 harg16 arg35 arg39 x0 x1 x2 x3 x4
      x5 x6 x7 x8 x9 x10 x11 x12 x13 x14) (View.readAt (Elt Ideal) arg17.view (Rect.unit ![0, 0] S128x384.size
      inb_S128x384_S128x384_0_0).toLoadRect (harg17.unread x15)) (View.readAt (Elt Ideal) arg19.view (Rect.unit ![0, 0] S1x384.size
      inb_S1x384_S1x384_0_0).toLoadRect (harg19.unread x17)) (View.readAt (Elt Ideal) arg21.view (Rect.unit ![0, 0] S128x384.size
      inb_S128x384_S128x384_0_0).toLoadRect (harg21.unread x19)) (View.readAt (Elt Ideal) arg23.view (Rect.unit ![0, 0] S1x384.size
      inb_S1x384_S1x384_0_0).toLoadRect (harg23.unread x21)) (View.readAt (Elt Ideal) arg20.view (Rect.unit ![0, 0] S128x384.size
      inb_S128x384_S128x384_0_0).toLoadRect (harg20.unread x18)) (View.readAt (Elt Ideal) arg22.view (Rect.unit ![0, 0] S1x384.size
      inb_S1x384_S1x384_0_0).toLoadRect (harg22.unread x20)) (arg35.view.writes (Elt Ideal) arg35.view.junk (kernelRun0_A.sl.HS0_1
      c i arg2 harg2 arg3 harg3 arg4 harg4 arg5 harg5 arg6 harg6 arg7 harg7 arg8 harg8 arg9 harg9 arg10 harg10 arg11 harg11 arg12
      harg12 arg13 harg13 arg14 harg14 arg15 harg15 arg39 x0 x1 x2 x3 x4 x5 x6 x7 x8 x9 x10 x11 x12 x13)) (arg36.view.writes (Elt
      Ideal) arg36.view.junk (kernelRun0_A.sl.HS1_1 c i arg2 harg2 arg3 harg3 arg4 harg4 arg5 harg5 arg6 harg6 arg7 harg7 arg8
      harg8 arg9 harg9 arg10 harg10 arg11 harg11 arg12 harg12 arg13 harg13 arg14 harg14 arg15 harg15 arg16 harg16 arg18 harg18
      arg35 arg39 x0 x1 x2 x3 x4 x5 x6 x7 x8 x9 x10 x11 x12 x13 x14 x16)) (k0_pay35, k0_pay35) (Scf.trips k0_t1_loop.lb
      k0_t1_loop.ub k0_t1_loop.st)).2.2) (ix3 t p j)
      = Spec.rev (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (32 - t.val) j := by
  rw [trips32]
  exact loop_store_snd Variants.none c none i arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 arg18 harg18 arg19 harg19 arg20
    harg20 arg21 harg21 arg22 harg22 arg23 harg23 arg24 harg24 arg25 harg25 arg26 harg26 arg27 harg27 arg28 harg28 arg29 harg29
    arg30 harg30 arg31 harg31 arg32 harg32 arg33 harg33 arg34 harg34 arg35 harg35 arg36 harg36 arg37 harg37 arg38 harg38 arg39
    harg39 (kernelRun0_A.sl.r_14 c i arg2 harg2 arg3 harg3 arg4 harg4 arg5 harg5 arg6 harg6 arg7 harg7 arg8 harg8 arg9 harg9
    arg10 harg10 arg11 harg11 arg12 harg12 arg13 harg13 arg14 harg14 arg15 harg15 arg16 harg16 arg35 arg39 x0 x1 x2 x3 x4 x5 x6
    x7 x8 x9 x10 x11 x12 x13 x14) (View.readAt (Elt Ideal) arg17.view (Rect.unit ![0, 0] S128x384.size
    inb_S128x384_S128x384_0_0).toLoadRect (harg17.unread x15)) (View.readAt (Elt Ideal) arg19.view (Rect.unit ![0, 0] S1x384.size
    inb_S1x384_S1x384_0_0).toLoadRect (harg19.unread x17)) (View.readAt (Elt Ideal) arg21.view (Rect.unit ![0, 0] S128x384.size
    inb_S128x384_S128x384_0_0).toLoadRect (harg21.unread x19)) (View.readAt (Elt Ideal) arg23.view (Rect.unit ![0, 0] S1x384.size
    inb_S1x384_S1x384_0_0).toLoadRect (harg23.unread x21)) (View.readAt (Elt Ideal) arg20.view (Rect.unit ![0, 0] S128x384.size
    inb_S128x384_S128x384_0_0).toLoadRect (harg20.unread x18)) (View.readAt (Elt Ideal) arg22.view (Rect.unit ![0, 0] S1x384.size
    inb_S1x384_S1x384_0_0).toLoadRect (harg22.unread x20)) (arg35.view.writes (Elt Ideal) arg35.view.junk (kernelRun0_A.sl.HS0_1
    c i arg2 harg2 arg3 harg3 arg4 harg4 arg5 harg5 arg6 harg6 arg7 harg7 arg8 harg8 arg9 harg9 arg10 harg10 arg11 harg11 arg12
    harg12 arg13 harg13 arg14 harg14 arg15 harg15 arg39 x0 x1 x2 x3 x4 x5 x6 x7 x8 x9 x10 x11 x12 x13)) (arg36.view.writes (Elt
    Ideal) arg36.view.junk (kernelRun0_A.sl.HS1_1 c i arg2 harg2 arg3 harg3 arg4 harg4 arg5 harg5 arg6 harg6 arg7 harg7 arg8
    harg8 arg9 harg9 arg10 harg10 arg11 harg11 arg12 harg12 arg13 harg13 arg14 harg14 arg15 harg15 arg16 harg16 arg18 harg18
    arg35 arg39 x0 x1 x2 x3 x4 x5 x6 x7 x8 x9 x10 x11 x12 x13 x14 x16)) (k0_pay35, k0_pay35)
    (Pay.bpar x4 x5 x6 x7 x8 x9 x10 x11 x12 x13 x14 x15 x16 x17 x18 x19 x20 x21 x22 x23 x24 x25 x26 x27 x28 x29) (Pay.bedge x0 x1
    x2 x3 (Pay.bpar x4 x5 x6 x7 x8 x9 x10 x11 x12 x13 x14 x15 x16 x17 x18 x19 x20 x21 x22 x23 x24 x25 x26 x27 x28 x29) (i 1).val)
    (fun k q => congrFun (load arg21 harg21 x19) (ix2 k q)) (fun z q => (congrFun (load arg23 harg23 x21) (ix2 z q)).trans
    (Pay.row_one x21 z q)) (fun k q => congrFun (load arg20 harg20 x18) (ix2 k q)) (fun z q => (congrFun (load arg22 harg22 x20)
    (ix2 z q)).trans (Pay.row_one x20 z q)) (fun t r q => edges_at c i arg2 harg2 arg3 harg3 arg4 harg4 arg5 harg5 arg6 harg6
    arg7 harg7 arg8 harg8 arg9 harg9 arg10 harg10 arg11 harg11 arg12 harg12 arg13 harg13 arg14 harg14 arg15 harg15 arg35 arg39 x0
    x1 x2 x3 x4 x5 x6 x7 x8 x9 x10 x11 x12 x13 x14 x15 x16 x17 x18 x19 x20 x21 x22 x23 x24 x25 x26 x27 x28 x29 t r q) (fun r j =>
    Pay.pay35_at r j) f 32 (le_refl 32) t (by omega) p j

variable (fs2 : BufTy.Contents (Elt Ideal) arg37.view.ty) (fs3 : BufTy.Contents (Elt Ideal) arg38.view.ty)

/-- The forward states of the eight steps from 0. -/
theorem v186_at (s : Fin 8) (p : Fin 256) (j : Fin 128) :
    (kernelRun0_A.sl.v186 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 fs2) (ix3 s p j)
      = Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (0 + s.val + 1) j := by
  unfold kernelRun0_A.sl.v186
  exact (slab8 arg37.view _ 0 (by decide) _ s p j).trans (fwd_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 ⟨0 + s.val, by omega⟩ p j)

/-- The forward states of the eight steps from 8. -/
theorem v239_at (s : Fin 8) (p : Fin 256) (j : Fin 128) :
    (kernelRun0_A.sl.v239 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 fs2) (ix3 s p j)
      = Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (8 + s.val + 1) j := by
  unfold kernelRun0_A.sl.v239
  exact (slab8 arg37.view _ 8 (by decide) _ s p j).trans (fwd_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 ⟨8 + s.val, by omega⟩ p j)

/-- The forward states of the eight steps from 16. -/
theorem v292_at (s : Fin 8) (p : Fin 256) (j : Fin 128) :
    (kernelRun0_A.sl.v292 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 fs2) (ix3 s p j)
      = Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (16 + s.val + 1) j := by
  unfold kernelRun0_A.sl.v292
  exact (slab8 arg37.view _ 16 (by decide) _ s p j).trans (fwd_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 ⟨16 + s.val, by omega⟩ p j)

/-- The forward states of the eight steps from 24. -/
theorem v345_at (s : Fin 8) (p : Fin 256) (j : Fin 128) :
    (kernelRun0_A.sl.v345 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 fs2) (ix3 s p j)
      = Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (24 + s.val + 1) j := by
  unfold kernelRun0_A.sl.v345
  exact (slab8 arg37.view _ 24 (by decide) _ s p j).trans (fwd_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 ⟨24 + s.val, by omega⟩ p j)

/-- The reverse states of the eight steps from 0. -/
theorem v212_at (s : Fin 8) (p : Fin 256) (j : Fin 128) :
    (kernelRun0_A.sl.v212 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 fs3) (ix3 s p j)
      = Spec.rev (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (32 - (0 + s.val)) j := by
  unfold kernelRun0_A.sl.v212
  exact (slab8 arg38.view _ 0 (by decide) _ s p j).trans (rev_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs3 ⟨0 + s.val, by omega⟩ p j)

/-- The reverse states of the eight steps from 8. -/
theorem v265_at (s : Fin 8) (p : Fin 256) (j : Fin 128) :
    (kernelRun0_A.sl.v265 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 fs3) (ix3 s p j)
      = Spec.rev (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (32 - (8 + s.val)) j := by
  unfold kernelRun0_A.sl.v265
  exact (slab8 arg38.view _ 8 (by decide) _ s p j).trans (rev_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs3 ⟨8 + s.val, by omega⟩ p j)

/-- The reverse states of the eight steps from 16. -/
theorem v318_at (s : Fin 8) (p : Fin 256) (j : Fin 128) :
    (kernelRun0_A.sl.v318 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 fs3) (ix3 s p j)
      = Spec.rev (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (32 - (16 + s.val)) j := by
  unfold kernelRun0_A.sl.v318
  exact (slab8 arg38.view _ 16 (by decide) _ s p j).trans (rev_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs3 ⟨16 + s.val, by omega⟩ p j)

/-- The reverse states of the eight steps from 24. -/
theorem v371_at (s : Fin 8) (p : Fin 256) (j : Fin 128) :
    (kernelRun0_A.sl.v371 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 fs3) (ix3 s p j)
      = Spec.rev (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (32 - (24 + s.val)) j := by
  unfold kernelRun0_A.sl.v371
  exact (slab8 arg38.view _ 24 (by decide) _ s p j).trans (rev_slab c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs3 ⟨24 + s.val, by omega⟩ p j)

/-- The block of the forward head. -/
theorem block30 (f : arg32.view.ty.Contents (Elt Ideal)) (t : Fin 32) (p : Fin 256) (q : Fin 4) :
    arg32.view.read (Elt Ideal) (arg32.view.writes (Elt Ideal) f (kernelRun0_A c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28 arg29 harg29 arg30 harg30 arg31
      harg31 arg32 harg32 arg33 harg33 arg34 harg34 arg35 harg35 arg36 harg36 arg37 harg37 arg38 harg38 arg39 harg39 x0 x1 x2 x3 x4
      x5 x6 x7 x8 x9 x10 x11 x12 x13 x14 x15 x16 x17 x18 x19 x20 x21 x22 x23 x24 x25 x26 x27 x28 x29 fs2 fs3).1) (ix4 0 t p q)
      = Spec.prior (Pay.bpar x4 x5 x6 x7 x8 x9 x10 x11 x12 x13 x14 x15 x16 x17 x18 x19 x20 x21 x22 x23 x24 x25 x26 x27 x28 x29) (Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (t.val + 1)) q := by
  refine quarters arg32.view f _ _ _ _ _ _ _ _ (fun t p q => Spec.prior (Pay.bpar x4 x5 x6 x7 x8 x9 x10 x11 x12 x13 x14 x15 x16 x17 x18 x19 x20 x21 x22 x23 x24 x25 x26 x27 x28 x29) (Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (t + 1)) q) ?_ ?_ ?_ ?_ t p q
  · intro s p q
    unfold kernelRun0_A.sl.r_26 kernelRun0_A.sl.r_27
    rw [load arg24 harg24 x22, load arg25 harg25 x23, load arg26 harg26 x24, load arg27 harg27 x25]
    exact (Pay.pay58_at _ s p q 0 x22 x23 x24 x25).trans (congrArg (fun h => Spec.prior (Pay.bpar x4 x5 x6 x7 x8 x9 x10 x11 x12 x13 x14 x15 x16 x17 x18 x19 x20 x21 x22 x23 x24 x25 x26 x27 x28 x29) h q) (funext fun j => v345_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 s p j))
  · intro s p q
    rw [load arg24 harg24 x22, load arg25 harg25 x23, load arg26 harg26 x24, load arg27 harg27 x25]
    exact (Pay.pay51_at _ s p q 0 x22 x23 x24 x25).trans (congrArg (fun h => Spec.prior (Pay.bpar x4 x5 x6 x7 x8 x9 x10 x11 x12 x13 x14 x15 x16 x17 x18 x19 x20 x21 x22 x23 x24 x25 x26 x27 x28 x29) h q) (funext fun j => v292_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 s p j))
  · intro s p q
    unfold kernelRun0_A.sl.r_21 kernelRun0_A.sl.r_22
    rw [load arg24 harg24 x22, load arg25 harg25 x23, load arg26 harg26 x24, load arg27 harg27 x25]
    exact (Pay.pay48_at _ s p q 0 x22 x23 x24 x25).trans (congrArg (fun h => Spec.prior (Pay.bpar x4 x5 x6 x7 x8 x9 x10 x11 x12 x13 x14 x15 x16 x17 x18 x19 x20 x21 x22 x23 x24 x25 x26 x27 x28 x29) h q) (funext fun j => v239_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 s p j))
  · intro s p q
    unfold kernelRun0_A.sl.r_15 kernelRun0_A.sl.r_16
    rw [load arg24 harg24 x22, load arg25 harg25 x23, load arg26 harg26 x24, load arg27 harg27 x25]
    exact (Pay.pay40_at _ s p q 0 x22 x23 x24 x25).trans (congrArg (fun h => Spec.prior (Pay.bpar x4 x5 x6 x7 x8 x9 x10 x11 x12 x13 x14 x15 x16 x17 x18 x19 x20 x21 x22 x23 x24 x25 x26 x27 x28 x29) h q) (funext fun j => v186_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 s p j))

/-- The block of the head on both directions. -/
theorem block31 (f : arg33.view.ty.Contents (Elt Ideal)) (t : Fin 32) (p : Fin 256) (q : Fin 4) :
    arg33.view.read (Elt Ideal) (arg33.view.writes (Elt Ideal) f (kernelRun0_A c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28 arg29 harg29 arg30 harg30 arg31
      harg31 arg32 harg32 arg33 harg33 arg34 harg34 arg35 harg35 arg36 harg36 arg37 harg37 arg38 harg38 arg39 harg39 x0 x1 x2 x3 x4
      x5 x6 x7 x8 x9 x10 x11 x12 x13 x14 x15 x16 x17 x18 x19 x20 x21 x22 x23 x24 x25 x26 x27 x28 x29 fs2 fs3).2.1) (ix4 0 t p q)
      = Spec.enc (Pay.bpar x4 x5 x6 x7 x8 x9 x10 x11 x12 x13 x14 x15 x16 x17 x18 x19 x20 x21 x22 x23 x24 x25 x26 x27 x28 x29) (Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (t.val + 1)) (Spec.rev (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (32 - t.val)) q := by
  refine quarters arg33.view f _ _ _ _ _ _ _ _ (fun t p q => Spec.enc (Pay.bpar x4 x5 x6 x7 x8 x9 x10 x11 x12 x13 x14 x15 x16 x17 x18 x19 x20 x21 x22 x23 x24 x25 x26 x27 x28 x29) (Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (t + 1)) (Spec.rev (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) (32 - t)) q) ?_ ?_ ?_ ?_ t p q
  · intro s p q
    unfold kernelRun0_A.sl.r_28 kernelRun0_A.sl.r_25
    rw [load arg28 harg28 x26, load arg29 harg29 x27, load arg30 harg30 x28, load arg31 harg31 x29]
    exact (Pay.pay1_at _ _ s p q 0 x26 x27 x28 x29).trans (congrArg₂ (fun h r => Spec.enc (Pay.bpar x4 x5 x6 x7 x8 x9 x10 x11 x12 x13 x14 x15 x16 x17 x18 x19 x20 x21 x22 x23 x24 x25 x26 x27 x28 x29) h r q)
      (funext fun j => v345_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 s p j) (funext fun j => v371_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs3 s p j))
  · intro s p q
    unfold kernelRun0_A.sl.r_23 kernelRun0_A.sl.r_24
    rw [load arg28 harg28 x26, load arg29 harg29 x27, load arg30 harg30 x28, load arg31 harg31 x29]
    exact (Pay.pay54_at _ _ s p q 0 x26 x27 x28 x29).trans (congrArg₂ (fun h r => Spec.enc (Pay.bpar x4 x5 x6 x7 x8 x9 x10 x11 x12 x13 x14 x15 x16 x17 x18 x19 x20 x21 x22 x23 x24 x25 x26 x27 x28 x29) h r q)
      (funext fun j => v292_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 s p j) (funext fun j => v318_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs3 s p j))
  · intro s p q
    unfold kernelRun0_A.sl.r_20
    rw [load arg28 harg28 x26, load arg29 harg29 x27, load arg30 harg30 x28, load arg31 harg31 x29]
    exact (Pay.pay49_at _ _ s p q 0 x26 x27 x28 x29).trans (congrArg₂ (fun h r => Spec.enc (Pay.bpar x4 x5 x6 x7 x8 x9 x10 x11 x12 x13 x14 x15 x16 x17 x18 x19 x20 x21 x22 x23 x24 x25 x26 x27 x28 x29) h r q)
      (funext fun j => v239_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 s p j) (funext fun j => v265_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs3 s p j))
  · intro s p q
    unfold kernelRun0_A.sl.r_17 kernelRun0_A.sl.r_18 kernelRun0_A.sl.r_19 kernelRun0_A.sl.r_15
    rw [load arg28 harg28 x26, load arg29 harg29 x27, load arg30 harg30 x28, load arg31 harg31 x29]
    exact (Pay.pay44_at _ _ s p q 0 x26 x27 x28 x29).trans (congrArg₂ (fun h r => Spec.enc (Pay.bpar x4 x5 x6 x7 x8 x9 x10 x11 x12 x13 x14 x15 x16 x17 x18 x19 x20 x21 x22 x23 x24 x25 x26 x27 x28 x29) h r q)
      (funext fun j => v186_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 s p j) (funext fun j => v212_at c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs3 s p j))

/-- The block of the last forward state. -/
theorem block32 (f : arg34.view.ty.Contents (Elt Ideal)) (p : Fin 256) (j : Fin 128) :
    arg34.view.read (Elt Ideal) (arg34.view.writes (Elt Ideal) f (kernelRun0_A c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28 arg29 harg29 arg30 harg30 arg31
      harg31 arg32 harg32 arg33 harg33 arg34 harg34 arg35 harg35 arg36 harg36 arg37 harg37 arg38 harg38 arg39 harg39 x0 x1 x2 x3 x4
      x5 x6 x7 x8 x9 x10 x11 x12 x13 x14 x15 x16 x17 x18 x19 x20 x21 x22 x23 x24 x25 x26 x27 x28 x29 fs2 fs3).2.2.1) (ix3 0 p j)
      = Spec.fwd (Pay.bpar x4 x5 x6 x7 x8 x9 x10 x11 x12 x13 x14 x15 x16 x17 x18 x19 x20 x21 x22 x23 x24 x25 x26 x27 x28 x29) ((Pay.bedge x0 x1 x2 x3 (Pay.bpar x4 x5 x6 x7 x8 x9 x10 x11 x12 x13 x14 x15 x16 x17 x18 x19 x20 x21 x22 x23 x24 x25 x26 x27 x28 x29) (i 1).val) p) 32 j :=
  ((congrFun (View.read_writes_full arg34.view f _ _ _) (ix3 0 p j)).trans (Pay.pay38_at _ 0 p j)).trans
    (fwd_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 p j)

/-- The forward head's block of point `n` of a batch, from the input blocks. -/
def out30 (n : ℕ) : Vec Ideal S1x32x256x4 .f32 := fun y =>
  Spec.prior (Pay.bpar x4 x5 x6 x7 x8 x9 x10 x11 x12 x13 x14 x15 x16 x17 x18 x19 x20 x21 x22 x23 x24 x25 x26 x27 x28 x29) (Spec.fwd (Pay.bpar x4 x5 x6 x7 x8 x9 x10 x11 x12 x13 x14 x15 x16 x17 x18 x19 x20 x21 x22 x23 x24 x25 x26 x27 x28 x29)
    (Pay.bedge x0 x1 x2 x3 (Pay.bpar x4 x5 x6 x7 x8 x9 x10 x11 x12 x13 x14 x15 x16 x17 x18 x19 x20 x21 x22 x23 x24 x25 x26 x27 x28 x29) n (y 2)) ((y 1).val + 1)) (y 3)

/-- The block of the head on both directions. -/
def out31 (n : ℕ) : Vec Ideal S1x32x256x4 .f32 := fun y =>
  Spec.enc (Pay.bpar x4 x5 x6 x7 x8 x9 x10 x11 x12 x13 x14 x15 x16 x17 x18 x19 x20 x21 x22 x23 x24 x25 x26 x27 x28 x29) (Spec.fwd (Pay.bpar x4 x5 x6 x7 x8 x9 x10 x11 x12 x13 x14 x15 x16 x17 x18 x19 x20 x21 x22 x23 x24 x25 x26 x27 x28 x29)
    (Pay.bedge x0 x1 x2 x3 (Pay.bpar x4 x5 x6 x7 x8 x9 x10 x11 x12 x13 x14 x15 x16 x17 x18 x19 x20 x21 x22 x23 x24 x25 x26 x27 x28 x29) n (y 2)) ((y 1).val + 1))
    (Spec.rev (Pay.bpar x4 x5 x6 x7 x8 x9 x10 x11 x12 x13 x14 x15 x16 x17 x18 x19 x20 x21 x22 x23 x24 x25 x26 x27 x28 x29) (Pay.bedge x0 x1 x2 x3 (Pay.bpar x4 x5 x6 x7 x8 x9 x10 x11 x12 x13 x14 x15 x16 x17 x18 x19 x20 x21 x22 x23 x24 x25 x26 x27 x28 x29) n (y 2)) (32 - (y 1).val)) (y 3)

/-- The block of the last forward state. -/
def out32 (n : ℕ) : Vec Ideal S1x256x128 .f32 := fun y =>
  Spec.fwd (Pay.bpar x4 x5 x6 x7 x8 x9 x10 x11 x12 x13 x14 x15 x16 x17 x18 x19 x20 x21 x22 x23 x24 x25 x26 x27 x28 x29) (Pay.bedge x0 x1 x2 x3 (Pay.bpar x4 x5 x6 x7 x8 x9 x10 x11 x12 x13 x14 x15 x16 x17 x18 x19 x20 x21 x22 x23 x24 x25 x26 x27 x28 x29) n (y 1)) 32 (y 2)

/-- What the body leaves in the forward head's block. -/
theorem out30_eq (f : arg32.view.ty.Contents (Elt Ideal)) :
    arg32.view.read (Elt Ideal) (arg32.view.writes (Elt Ideal) f (kernelRun0_A c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28 arg29 harg29 arg30 harg30 arg31
      harg31 arg32 harg32 arg33 harg33 arg34 harg34 arg35 harg35 arg36 harg36 arg37 harg37 arg38 harg38 arg39 harg39 x0 x1 x2 x3 x4
      x5 x6 x7 x8 x9 x10 x11 x12 x13 x14 x15 x16 x17 x18 x19 x20 x21 x22 x23 x24 x25 x26 x27 x28 x29 fs2 fs3).1)
      = out30 x0 x1 x2 x3 x4 x5 x6 x7 x8 x9 x10 x11 x12 x13 x14 x15 x16 x17 x18 x19 x20 x21 x22 x23 x24 x25 x26 x27 x28 x29 (i 1).val := by
  funext y
  have hy : y = ix4 0 (y 1) (y 2) (y 3) := funext fun a => by fin_cases a <;> first | exact Subsingleton.elim (α := Fin 1) _ _ | rfl
  refine (congrArg (arg32.view.read (Elt Ideal) _) hy).trans ?_
  exact block30 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 fs3 f (y 1) (y 2) (y 3)

/-- What the body leaves in the block of the head on both directions. -/
theorem out31_eq (f : arg33.view.ty.Contents (Elt Ideal)) :
    arg33.view.read (Elt Ideal) (arg33.view.writes (Elt Ideal) f (kernelRun0_A c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28 arg29 harg29 arg30 harg30 arg31
      harg31 arg32 harg32 arg33 harg33 arg34 harg34 arg35 harg35 arg36 harg36 arg37 harg37 arg38 harg38 arg39 harg39 x0 x1 x2 x3 x4
      x5 x6 x7 x8 x9 x10 x11 x12 x13 x14 x15 x16 x17 x18 x19 x20 x21 x22 x23 x24 x25 x26 x27 x28 x29 fs2 fs3).2.1)
      = out31 x0 x1 x2 x3 x4 x5 x6 x7 x8 x9 x10 x11 x12 x13 x14 x15 x16 x17 x18 x19 x20 x21 x22 x23 x24 x25 x26 x27 x28 x29 (i 1).val := by
  funext y
  have hy : y = ix4 0 (y 1) (y 2) (y 3) := funext fun a => by fin_cases a <;> first | exact Subsingleton.elim (α := Fin 1) _ _ | rfl
  refine (congrArg (arg33.view.read (Elt Ideal) _) hy).trans ?_
  exact block31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 fs3 f (y 1) (y 2) (y 3)

/-- What the body leaves in the state's block. -/
theorem out32_eq (f : arg34.view.ty.Contents (Elt Ideal)) :
    arg34.view.read (Elt Ideal) (arg34.view.writes (Elt Ideal) f (kernelRun0_A c i arg2 harg2 arg3 harg3 arg4 harg4 arg5 harg5 arg6 harg6 arg7 harg7 arg8 harg8 arg9 harg9 arg10 harg10 arg11 harg11 arg12
      harg12 arg13 harg13 arg14 harg14 arg15 harg15 arg16 harg16 arg17 harg17 arg18 harg18 arg19 harg19 arg20 harg20 arg21 harg21
      arg22 harg22 arg23 harg23 arg24 harg24 arg25 harg25 arg26 harg26 arg27 harg27 arg28 harg28 arg29 harg29 arg30 harg30 arg31
      harg31 arg32 harg32 arg33 harg33 arg34 harg34 arg35 harg35 arg36 harg36 arg37 harg37 arg38 harg38 arg39 harg39 x0 x1 x2 x3 x4
      x5 x6 x7 x8 x9 x10 x11 x12 x13 x14 x15 x16 x17 x18 x19 x20 x21 x22 x23 x24 x25 x26 x27 x28 x29 fs2 fs3).2.2.1)
      = out32 x0 x1 x2 x3 x4 x5 x6 x7 x8 x9 x10 x11 x12 x13 x14 x15 x16 x17 x18 x19 x20 x21 x22 x23 x24 x25 x26 x27 x28 x29 (i 1).val := by
  funext y
  have hy : y = ix3 0 (y 1) (y 2) := funext fun a => by fin_cases a <;> first | exact Subsingleton.elim (α := Fin 1) _ _ | rfl
  refine (congrArg (arg34.view.read (Elt Ideal) _) hy).trans ?_
  exact block32 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 fs2 fs3 f (y 1) (y 2)

end Cert.KernelIdeal.Run

end
-- ==== Proof.Run.Data.lean ====
/- The kernel's run with its three result arrays named: every block is what the recurrences say of the input blocks. -/
module

public import proofs.«01_k».proof.Proof.Run.Block
public import proofs.«01_k».proof.Proof.Run.Frame
public import Idealize.ShloMosaic.Lib.Claim

@[expose] public section

-- the arrays have long axes
set_option maxRecDepth 16384

noncomputable section

namespace Cert.KernelIdeal.Out

open Cert.KernelIdeal Cert.KernelIdeal.Gen
open Cert.KernelIdeal.Run hiding frame
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data of the one pipeline on core `c`: the arrays as the region finds them (`V`); after the body at
    point `t` each input's buffer at its block and the outputs' at what the recurrences say (`Run.out30`, `Run.out31`, `Run.out32`); the invariant the class's
    (Lib/Pipeline/Frame.lean `ΦA`: the scoped rest and the generator register); nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => Run.out30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val
    | ⟨31, _⟩ => Run.out31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val
    | ⟨32, _⟩ => Run.out32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val
    | ⟨_ + 33, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = Run.out30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val := by dsimp only [dats]
theorem after0_31 (c : Dev nD) (t : Fin cfg0.N) : (dats m 0 c).after 31 t = Run.out31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val := by dsimp only [dats]
theorem after0_32 (c : Dev nD) (t : Fin cfg0.N) : (dats m 0 c).after 32 t = Run.out32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t))

/-- The cells of a window's buffer at contents that read `d`, handed back as the buffer at `d`. -/
theorem owns_of {S : Shape} {e : EltTy} (c : Dev nD) (M : Memref sig .tc .vmem S e) (f : BufTy.Contents (Elt Ideal) M.view.ty)
    (d : Vec Ideal S e) (h : M.view.read (Elt Ideal) f = d) :
    (iprop(M.view.loc (c : Thread nD τ) ↦[M.view.set]{fullShare} f) : sProp 𝕄) ⊢ owns (c : Thread nD τ) M fullShare d := by
  unfold owns
  iintro H
  iexists f
  isplitr
  swap
  · iexact H
  ipureintro
  exact h

set_option maxHeartbeats 3600000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32]
  rw [show (dats m 0 c).Φ t.castSucc = Pipeline.ΦA spec0 c from rfl, PhiA0_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩⟩
  ihave HS2' := (Run.scratch2_open c) $$ HS2
  icases HS2' with ⟨%fs2, HS2⟩
  ihave HS3' := (Run.scratch3_open c) $$ HS3
  icases HS3' with ⟨%fs3, HS3⟩
  iapply ((Run.kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) fs2 fs3).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  isplitl [H31]; · iexists _; iexact H31
  isplitl [H32]; · iexists _; iexact H32
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, H18, H19, H20, H21, H22, H23, H24, H25, H26, H27, H28, H29, ⟨%e30, H30⟩, ⟨%e31, H31⟩, ⟨%e32, H32⟩, HS0, HS1, HS2, HS3, HS4⟩
  isplitl [HS0 HS1 HS2 HS3 HS4 Hg]
  · isplitl [HS0 HS1 HS2 HS3 HS4]
    · isplitl [HS0]
      · iexact HS0
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]
  · iapply (owns_of c (ms0_30 t) _ _ (Run.out30_eq c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) fs2 fs3 _)) $$ H30
  isplitl [H31]
  · iapply (owns_of c (ms0_31 t) _ _ (Run.out31_eq c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) fs2 fs3 _)) $$ H31
  iapply (owns_of c (ms0_32 t) _ _ (Run.out32_eq c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) fs2 fs3 _)) $$ H32

set_option maxHeartbeats 4000000 in
/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, Run.defs₀_row]
  exact triple_restated (sound_body m c t) rfl .rfl fun _ => .rfl

/-! ## The run and the frame -/

set_option maxHeartbeats 4000000 in
set_option backward.isDefEq.respectTransparency.types false in
/-- THE LAUNCH: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

end Cert.KernelIdeal.Out

end
-- ==== Proof.Run.Input.lean ====
/- The kernel's input blocks as the launch's arguments: a batch's rows, and every weight whole. -/
module

public import proofs.«01_k».proof.Proof.Gen.KernelIdeal.Frame
public import Idealize.ShloMosaic.Lib.Claim
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Out

open Cert.KernelIdeal Cert.KernelIdeal.Gen
open Idealize.ShloMosaic Idealize.ShloMosaic.TcCoe

variable (m : (ℓ : Loc nD τ sig) → Buf (Elt Ideal) ℓ) (c : Dev nD) (t : Fin cfg0.N)

/-- The grid point's batch. -/
def bat : Fin 2 := (grid0.coords t) 0

/-- The grid point's number within its batch. -/
def pt : Fin 4 := (grid0.coords t) 1

/-- The edges' window takes a batch's block of edges. -/
theorem idx0 : ∀ t : Fin cfg0.N, win0_0.index t = ![(bat t).val, (pt t).val, 0, 0] :=
  (by decide +kernel : ∀ t : Fin grid0.N, win0_0.index t = ![((grid0.coords t) 0).val, ((grid0.coords t) 1).val, 0, 0])

/-- Window 1 takes a batch whole. -/
theorem idx1 : ∀ t : Fin cfg0.N, win0_1.index t = ![(bat t).val, 0, 0, 0] :=
  (by decide +kernel : ∀ t : Fin grid0.N, win0_1.index t = ![((grid0.coords t) 0).val, 0, 0, 0])

/-- Window 2 takes a batch whole. -/
theorem idx2 : ∀ t : Fin cfg0.N, win0_2.index t = ![(bat t).val, 0, 0, 0] :=
  (by decide +kernel : ∀ t : Fin grid0.N, win0_2.index t = ![((grid0.coords t) 0).val, 0, 0, 0])

/-- Window 3 takes a batch whole. -/
theorem idx3 : ∀ t : Fin cfg0.N, win0_3.index t = ![(bat t).val, 0, 0, 0] :=
  (by decide +kernel : ∀ t : Fin grid0.N, win0_3.index t = ![((grid0.coords t) 0).val, 0, 0, 0])

/-- An edge's row of its block. -/
theorem in0 (p : Fin 256) (s : Fin 32) (k : Fin 128) :
    iblk m c 0 t (ix4 0 p s k) = m ((c : Thread nD τ).loc main_arg2) (ix4 (bat t) ⟨(pt t).val * 256 + p.val, by have := (pt t).isLt; omega⟩ s k) := by
  have hb := (bat t).isLt
  have hp := (pt t).isLt
  blk_ext! [iblk, V, idx0 t]

/-- A node's scaled sum of edges. -/
theorem in1 (n s : Fin 32) (k : Fin 128) :
    iblk m c 1 t (ix4 0 n s k) = m ((c : Thread nD τ).loc main_arg3) (ix4 (bat t) n s k) := by
  have hb := (bat t).isLt
  blk_ext! [iblk, V, idx1 t]

/-- A node's state: the window's array is the argument with the time axis and the node axis exchanged. -/
theorem in2 (n s : Fin 32) (k : Fin 8) :
    iblk m c 2 t (ix4 0 n s k) = m ((c : Thread nD τ).loc main_arg0) (ix4 (bat t) s n k) := by
  have hb := (bat t).isLt
  blk_ext! [iblk, V, idx2 t]

/-- A node's charge embedding. -/
theorem in3 (n s : Fin 32) (k : Fin 16) :
    iblk m c 3 t (ix4 0 n s k) = m ((c : Thread nD τ).loc main_arg1) (ix4 (bat t) n s k) := by
  have hb := (bat t).isLt
  blk_ext! [iblk, V, idx3 t]

theorem idx4 : ∀ t : Fin cfg0.N, win0_4.index t = ![0, 0] :=
  (by decide +kernel : ∀ t : Fin grid0.N, win0_4.index t = ![0, 0])

/-- Window 4 holds the matrix with its input axis first. -/
theorem in4 (k : Fin 35) (j : Fin 128) : iblk m c 4 t (ix2 k j) = m ((c : Thread nD τ).loc main_arg4) (ix2 j k) := by
  blk_ext! [iblk, V, idx4 t]

theorem idx5 : ∀ t : Fin cfg0.N, win0_5.index t = ![0, 0] :=
  (by decide +kernel : ∀ t : Fin grid0.N, win0_5.index t = ![0, 0])

/-- Window 5 holds the bias as a row. -/
theorem in5 (j : Fin 128) : iblk m c 5 t (ix2 0 j) = m ((c : Thread nD τ).loc main_arg5) (ix1 j) := by
  blk_ext! [iblk, V, idx5 t]

theorem idx6 : ∀ t : Fin cfg0.N, win0_6.index t = ![0, 0] :=
  (by decide +kernel : ∀ t : Fin grid0.N, win0_6.index t = ![0, 0])

/-- Window 6 holds the matrix with its input axis first. -/
theorem in6 (k : Fin 128) (j : Fin 128) : iblk m c 6 t (ix2 k j) = m ((c : Thread nD τ).loc main_arg6) (ix2 j k) := by
  blk_ext! [iblk, V, idx6 t]

theorem idx7 : ∀ t : Fin cfg0.N, win0_7.index t = ![0, 0] :=
  (by decide +kernel : ∀ t : Fin grid0.N, win0_7.index t = ![0, 0])

/-- Window 7 holds the bias as a row. -/
theorem in7 (j : Fin 128) : iblk m c 7 t (ix2 0 j) = m ((c : Thread nD τ).loc main_arg7) (ix1 j) := by
  blk_ext! [iblk, V, idx7 t]

theorem idx8 : ∀ t : Fin cfg0.N, win0_8.index t = ![0, 0] :=
  (by decide +kernel : ∀ t : Fin grid0.N, win0_8.index t = ![0, 0])

/-- Window 8 holds the matrix with its input axis first. -/
theorem in8 (k : Fin 128) (j : Fin 128) : iblk m c 8 t (ix2 k j) = m ((c : Thread nD τ).loc main_arg8) (ix2 j k) := by
  blk_ext! [iblk, V, idx8 t]

theorem idx9 : ∀ t : Fin cfg0.N, win0_9.index t = ![0, 0] :=
  (by decide +kernel : ∀ t : Fin grid0.N, win0_9.index t = ![0, 0])

/-- Window 9 holds the bias as a row. -/
theorem in9 (j : Fin 128) : iblk m c 9 t (ix2 0 j) = m ((c : Thread nD τ).loc main_arg9) (ix1 j) := by
  blk_ext! [iblk, V, idx9 t]

theorem idx10 : ∀ t : Fin cfg0.N, win0_10.index t = ![0, 0] :=
  (by decide +kernel : ∀ t : Fin grid0.N, win0_10.index t = ![0, 0])

/-- Window 10 holds the matrix with its input axis first. -/
theorem in10 (k : Fin 384) (j : Fin 128) : iblk m c 10 t (ix2 k j) = m ((c : Thread nD τ).loc main_arg10) (ix2 j k) := by
  blk_ext! [iblk, V, idx10 t]

theorem idx11 : ∀ t : Fin cfg0.N, win0_11.index t = ![0, 0] :=
  (by decide +kernel : ∀ t : Fin grid0.N, win0_11.index t = ![0, 0])

/-- Window 11 holds the bias as a row. -/
theorem in11 (j : Fin 128) : iblk m c 11 t (ix2 0 j) = m ((c : Thread nD τ).loc main_arg11) (ix1 j) := by
  blk_ext! [iblk, V, idx11 t]

theorem idx12 : ∀ t : Fin cfg0.N, win0_12.index t = ![0, 0] :=
  (by decide +kernel : ∀ t : Fin grid0.N, win0_12.index t = ![0, 0])

/-- Window 12 holds the matrix with its input axis first. -/
theorem in12 (k : Fin 128) (j : Fin 128) : iblk m c 12 t (ix2 k j) = m ((c : Thread nD τ).loc main_arg12) (ix2 j k) := by
  blk_ext! [iblk, V, idx12 t]

theorem idx13 : ∀ t : Fin cfg0.N, win0_13.index t = ![0, 0] :=
  (by decide +kernel : ∀ t : Fin grid0.N, win0_13.index t = ![0, 0])

/-- Window 13 holds the bias as a row. -/
theorem in13 (j : Fin 128) : iblk m c 13 t (ix2 0 j) = m ((c : Thread nD τ).loc main_arg13) (ix1 j) := by
  blk_ext! [iblk, V, idx13 t]

theorem idx14 : ∀ t : Fin cfg0.N, win0_14.index t = ![0, 0] :=
  (by decide +kernel : ∀ t : Fin grid0.N, win0_14.index t = ![0, 0])

/-- Window 14 holds the matrix with its input axis first. -/
theorem in14 (k : Fin 128) (j : Fin 384) : iblk m c 14 t (ix2 k j) = m ((c : Thread nD τ).loc main_arg14) (ix2 j k) := by
  blk_ext! [iblk, V, idx14 t]

theorem idx15 : ∀ t : Fin cfg0.N, win0_15.index t = ![0, 0] :=
  (by decide +kernel : ∀ t : Fin grid0.N, win0_15.index t = ![0, 0])

/-- Window 15 holds the matrix with its input axis first. -/
theorem in15 (k : Fin 128) (j : Fin 384) : iblk m c 15 t (ix2 k j) = m ((c : Thread nD τ).loc main_arg15) (ix2 j k) := by
  blk_ext! [iblk, V, idx15 t]

theorem idx16 : ∀ t : Fin cfg0.N, win0_16.index t = ![0, 0] :=
  (by decide +kernel : ∀ t : Fin grid0.N, win0_16.index t = ![0, 0])

/-- Window 16 holds the bias as a row. -/
theorem in16 (j : Fin 384) : iblk m c 16 t (ix2 0 j) = m ((c : Thread nD τ).loc main_arg16) (ix1 j) := by
  blk_ext! [iblk, V, idx16 t]

theorem idx17 : ∀ t : Fin cfg0.N, win0_17.index t = ![0, 0] :=
  (by decide +kernel : ∀ t : Fin grid0.N, win0_17.index t = ![0, 0])

/-- Window 17 holds the bias as a row. -/
theorem in17 (j : Fin 384) : iblk m c 17 t (ix2 0 j) = m ((c : Thread nD τ).loc main_arg17) (ix1 j) := by
  blk_ext! [iblk, V, idx17 t]

theorem idx18 : ∀ t : Fin cfg0.N, win0_18.index t = ![0, 0] :=
  (by decide +kernel : ∀ t : Fin grid0.N, win0_18.index t = ![0, 0])

/-- Window 18 holds the matrix with its input axis first. -/
theorem in18 (k : Fin 128) (j : Fin 384) : iblk m c 18 t (ix2 k j) = m ((c : Thread nD τ).loc main_arg18) (ix2 j k) := by
  blk_ext! [iblk, V, idx18 t]

theorem idx19 : ∀ t : Fin cfg0.N, win0_19.index t = ![0, 0] :=
  (by decide +kernel : ∀ t : Fin grid0.N, win0_19.index t = ![0, 0])

/-- Window 19 holds the matrix with its input axis first. -/
theorem in19 (k : Fin 128) (j : Fin 384) : iblk m c 19 t (ix2 k j) = m ((c : Thread nD τ).loc main_arg19) (ix2 j k) := by
  blk_ext! [iblk, V, idx19 t]

theorem idx20 : ∀ t : Fin cfg0.N, win0_20.index t = ![0, 0] :=
  (by decide +kernel : ∀ t : Fin grid0.N, win0_20.index t = ![0, 0])

/-- Window 20 holds the bias as a row. -/
theorem in20 (j : Fin 384) : iblk m c 20 t (ix2 0 j) = m ((c : Thread nD τ).loc main_arg20) (ix1 j) := by
  blk_ext! [iblk, V, idx20 t]

theorem idx21 : ∀ t : Fin cfg0.N, win0_21.index t = ![0, 0] :=
  (by decide +kernel : ∀ t : Fin grid0.N, win0_21.index t = ![0, 0])

/-- Window 21 holds the bias as a row. -/
theorem in21 (j : Fin 384) : iblk m c 21 t (ix2 0 j) = m ((c : Thread nD τ).loc main_arg21) (ix1 j) := by
  blk_ext! [iblk, V, idx21 t]

theorem idx22 : ∀ t : Fin cfg0.N, win0_22.index t = ![0, 0] :=
  (by decide +kernel : ∀ t : Fin grid0.N, win0_22.index t = ![0, 0])

/-- Window 22 holds the matrix with its input axis first. -/
theorem in22 (k : Fin 128) (j : Fin 128) : iblk m c 22 t (ix2 k j) = m ((c : Thread nD τ).loc main_arg22) (ix2 j k) := by
  blk_ext! [iblk, V, idx22 t]

theorem idx23 : ∀ t : Fin cfg0.N, win0_23.index t = ![0, 0] :=
  (by decide +kernel : ∀ t : Fin grid0.N, win0_23.index t = ![0, 0])

/-- Window 23 holds the bias as a row. -/
theorem in23 (j : Fin 128) : iblk m c 23 t (ix2 0 j) = m ((c : Thread nD τ).loc main_arg23) (ix1 j) := by
  blk_ext! [iblk, V, idx23 t]

theorem idx24 : ∀ t : Fin cfg0.N, win0_24.index t = ![0, 0] :=
  (by decide +kernel : ∀ t : Fin grid0.N, win0_24.index t = ![0, 0])

/-- Window 24 holds the matrix with its input axis first. -/
theorem in24 (k : Fin 128) (j : Fin 4) : iblk m c 24 t (ix2 k j) = m ((c : Thread nD τ).loc main_arg24) (ix2 j k) := by
  blk_ext! [iblk, V, idx24 t]

theorem idx25 : ∀ t : Fin cfg0.N, win0_25.index t = ![0, 0] :=
  (by decide +kernel : ∀ t : Fin grid0.N, win0_25.index t = ![0, 0])

/-- Window 25 holds the bias as a row. -/
theorem in25 (j : Fin 4) : iblk m c 25 t (ix2 0 j) = m ((c : Thread nD τ).loc main_arg25) (ix1 j) := by
  blk_ext! [iblk, V, idx25 t]

theorem idx26 : ∀ t : Fin cfg0.N, win0_26.index t = ![0, 0] :=
  (by decide +kernel : ∀ t : Fin grid0.N, win0_26.index t = ![0, 0])

/-- Window 26 holds the matrix with its input axis first. -/
theorem in26 (k : Fin 256) (j : Fin 256) : iblk m c 26 t (ix2 k j) = m ((c : Thread nD τ).loc main_arg26) (ix2 j k) := by
  blk_ext! [iblk, V, idx26 t]

theorem idx27 : ∀ t : Fin cfg0.N, win0_27.index t = ![0, 0] :=
  (by decide +kernel : ∀ t : Fin grid0.N, win0_27.index t = ![0, 0])

/-- Window 27 holds the bias as a row. -/
theorem in27 (j : Fin 256) : iblk m c 27 t (ix2 0 j) = m ((c : Thread nD τ).loc main_arg27) (ix1 j) := by
  blk_ext! [iblk, V, idx27 t]

theorem idx28 : ∀ t : Fin cfg0.N, win0_28.index t = ![0, 0] :=
  (by decide +kernel : ∀ t : Fin grid0.N, win0_28.index t = ![0, 0])

/-- Window 28 holds the matrix with its input axis first. -/
theorem in28 (k : Fin 256) (j : Fin 4) : iblk m c 28 t (ix2 k j) = m ((c : Thread nD τ).loc main_arg28) (ix2 j k) := by
  blk_ext! [iblk, V, idx28 t]

theorem idx29 : ∀ t : Fin cfg0.N, win0_29.index t = ![0, 0] :=
  (by decide +kernel : ∀ t : Fin grid0.N, win0_29.index t = ![0, 0])

/-- Window 29 holds the bias as a row. -/
theorem in29 (j : Fin 4) : iblk m c 29 t (ix2 0 j) = m ((c : Thread nD τ).loc main_arg29) (ix1 j) := by
  blk_ext! [iblk, V, idx29 t]

end Cert.KernelIdeal.Out

end
-- ==== Proof.Ref.Rows.lean ====
/- The rows and weights of the argument arrays. -/
module

public import proofs.«01_k».proof.Proof.Gen.ReferenceIdeal
public import proofs.«01_k».proof.Proof.Math.Spec

@[expose] public section

set_option maxRecDepth 16384

noncomputable section

namespace Cert.Ref

open Cert.ReferenceIdeal
open Idealize.ShloMosaic

variable (a0 : (⟨S2x32x32x8, .f32⟩ : BufTy).Contents (Elt Ideal))
  (a1 : (⟨S2x32x32x16, .f32⟩ : BufTy).Contents (Elt Ideal))
  (a2 : (⟨S2x1024x32x128, .f32⟩ : BufTy).Contents (Elt Ideal))
  (a3 : (⟨S2x32x32x128, .f32⟩ : BufTy).Contents (Elt Ideal))
  (a4 : (⟨S128x35, .f32⟩ : BufTy).Contents (Elt Ideal))
  (a5 : (⟨S128, .f32⟩ : BufTy).Contents (Elt Ideal))
  (a6 : (⟨S128x128, .f32⟩ : BufTy).Contents (Elt Ideal))
  (a7 : (⟨S128, .f32⟩ : BufTy).Contents (Elt Ideal))
  (a8 : (⟨S128x128, .f32⟩ : BufTy).Contents (Elt Ideal))
  (a9 : (⟨S128, .f32⟩ : BufTy).Contents (Elt Ideal))
  (a10 : (⟨S128x384, .f32⟩ : BufTy).Contents (Elt Ideal))
  (a11 : (⟨S128, .f32⟩ : BufTy).Contents (Elt Ideal))
  (a12 : (⟨S128x128, .f32⟩ : BufTy).Contents (Elt Ideal))
  (a13 : (⟨S128, .f32⟩ : BufTy).Contents (Elt Ideal))
  (a14 : (⟨S384x128, .f32⟩ : BufTy).Contents (Elt Ideal))
  (a15 : (⟨S384x128, .f32⟩ : BufTy).Contents (Elt Ideal))
  (a16 : (⟨S384, .f32⟩ : BufTy).Contents (Elt Ideal))
  (a17 : (⟨S384, .f32⟩ : BufTy).Contents (Elt Ideal))
  (a18 : (⟨S384x128, .f32⟩ : BufTy).Contents (Elt Ideal))
  (a19 : (⟨S384x128, .f32⟩ : BufTy).Contents (Elt Ideal))
  (a20 : (⟨S384, .f32⟩ : BufTy).Contents (Elt Ideal))
  (a21 : (⟨S384, .f32⟩ : BufTy).Contents (Elt Ideal))
  (a22 : (⟨S128x128, .f32⟩ : BufTy).Contents (Elt Ideal))
  (a23 : (⟨S128, .f32⟩ : BufTy).Contents (Elt Ideal))
  (a24 : (⟨S4x128, .f32⟩ : BufTy).Contents (Elt Ideal))
  (a25 : (⟨S4, .f32⟩ : BufTy).Contents (Elt Ideal))
  (a26 : (⟨S256x256, .f32⟩ : BufTy).Contents (Elt Ideal))
  (a27 : (⟨S256, .f32⟩ : BufTy).Contents (Elt Ideal))
  (a28 : (⟨S4x256, .f32⟩ : BufTy).Contents (Elt Ideal))
  (a29 : (⟨S4, .f32⟩ : BufTy).Contents (Elt Ideal))

/-- The weights of the argument arrays, which hold each matrix with its output axis first. -/
def par : Spec.Par where
  Wr := fun k j => a4 (ix2 j k)
  br := fun j => a5 (ix1 j)
  W3a := fun k j => a6 (ix2 j k)
  b3a := fun j => a7 (ix1 j)
  W3b := fun k j => a8 (ix2 j k)
  b3b := fun j => a9 (ix1 j)
  W4a := fun k j => a10 (ix2 j k)
  b4a := fun j => a11 (ix1 j)
  W4b := fun k j => a12 (ix2 j k)
  b4b := fun j => a13 (ix1 j)
  Wif := fun k j => a14 (ix2 j k)
  Whf := fun k j => a15 (ix2 j k)
  cif := fun j => a16 (ix1 j)
  chf := fun j => a17 (ix1 j)
  Wir := fun k j => a18 (ix2 j k)
  Whr := fun k j => a19 (ix2 j k)
  cir := fun j => a20 (ix1 j)
  chr := fun j => a21 (ix1 j)
  Wp1 := fun k j => a22 (ix2 j k)
  bp1 := fun j => a23 (ix1 j)
  Wp2 := fun k j => a24 (ix2 j k)
  bp2 := fun j => a25 (ix1 j)
  We1 := fun k j => a26 (ix2 j k)
  be1 := fun j => a27 (ix1 j)
  We2 := fun k j => a28 (ix2 j k)
  be2 := fun j => a29 (ix1 j)

/-- The nodes' states at time `t` in batch `b`. -/
def xrow (b : Fin 2) (t n : Fin 32) (k : Fin 8) : EReal := a0 (ix4 b t n k)

/-- Node `n`'s embedding at time `t` in batch `b`, from the incoming relative features `inc`. -/
def nodeOf (inc : Fin 9 → EReal) (b : Fin 2) (n t : Fin 32) (j : Fin 128) : EReal :=
  Spec.node (par a4 a5 a6 a7 a8 a9 a10 a11 a12 a13 a14 a15 a16 a17 a18 a19 a20 a21 a22 a23 a24 a25 a26 a27 a28 a29) (xrow a0 b t n) inc (fun k => a1 (ix4 b n t k))
    (fun k => Ideal.div (a3 (ix4 b n t k)) ((31 : ℝ) : EReal)) j

/-- The embedding at time `t` of the edge from node `s` to node `r` of batch `b`, for the nodes' incoming features
    `inc`. -/
def edgeOf (inc : Fin 2 → Fin 32 → Fin 32 → Fin 9 → EReal) (b : Fin 2) (e : Fin 1024) (t : Fin 32) (j : Fin 128) : EReal :=
  Spec.edge (par a4 a5 a6 a7 a8 a9 a10 a11 a12 a13 a14 a15 a16 a17 a18 a19 a20 a21 a22 a23 a24 a25 a26 a27 a28 a29)
    (nodeOf a0 a1 a3 a4 a5 a6 a7 a8 a9 a10 a11 a12 a13 a14 a15 a16 a17 a18 a19 a20 a21 a22 a23 a24 a25 a26 a27 a28 a29 (inc b t ⟨e.val / 32, by omega⟩) b ⟨e.val / 32, by omega⟩ t)
    (nodeOf a0 a1 a3 a4 a5 a6 a7 a8 a9 a10 a11 a12 a13 a14 a15 a16 a17 a18 a19 a20 a21 a22 a23 a24 a25 a26 a27 a28 a29 (inc b t ⟨e.val % 32, by omega⟩) b ⟨e.val % 32, by omega⟩ t)
    (fun k => a2 (ix4 b e t k)) j

end Cert.Ref

end
-- ==== Proof.Math.Incoming.lean ====
/- On finite node states the incoming features from totals over all nodes are the mean over the other nodes. -/
module

public import proofs.«01_k».proof.Proof.Pay.Node
public import Mathlib.Tactic.Ring
public import Mathlib.Tactic.Linarith

@[expose] public section

noncomputable section

namespace Cert.Pay

open Idealize.ShloMosaic

/-- A sum of reals, read among the extended reals. -/
theorem coe_sum (f : Fin 32 → ℝ) : (∑ s, (f s : EReal)) = ((∑ s, f s : ℝ) : EReal) := by
  induction (Finset.univ : Finset (Fin 32)) using Finset.induction_on with
  | empty => simp
  | insert a s ha ih => rw [Finset.sum_insert ha, Finset.sum_insert ha, ih, EReal.coe_add]

/-- A sum over all nodes but one. -/
theorem sum_others (f : Fin 32 → ℝ) (n : Fin 32) : (∑ s, if s = n then 0 else f s) = (∑ s, f s) - f n := by
  have h : ∀ s, (if s = n then 0 else f s) = f s - if s = n then f n else 0 := by
    intro s
    by_cases e : s = n
    · subst e; simp
    · simp [e]
  rw [Finset.sum_congr rfl fun s _ => h s, Finset.sum_sub_distrib, Finset.sum_ite_eq' Finset.univ n]
  simp

/-- The same among the extended reals. -/
theorem sum_others_coe (g : Fin 32 → EReal) (f : Fin 32 → ℝ) (hg : ∀ s, g s = f s) (n : Fin 32) :
    (∑ s, if s = n then 0 else g s) = (((∑ s, f s) - f n : ℝ) : EReal) := by
  rw [← sum_others, ← coe_sum]
  refine Finset.sum_congr rfl fun s _ => ?_
  by_cases e : s = n <;> simp [e, hg]

/-- The totals are the sums over the other nodes. -/
theorem totals_eq (y : Fin 32 → Fin 8 → ℝ) (n : Fin 32) (d : Fin 9) :
    totals (fun s k => (y s k : EReal)) n d
      = ∑ s : Fin 32, if s = n then 0 else Spec.rel (fun k => (y s k : EReal)) (fun k => (y n k : EReal)) d := by
  have diff : ∀ k : Fin 8, (∑ s, (y s k : EReal)) - ((32 : ℝ) : EReal) * (y n k : EReal)
      = ∑ s : Fin 32, if s = n then 0 else ((y s k : EReal) - (y n k : EReal)) := fun k => by
    rw [sum_others_coe _ (fun s => y s k - y n k) (fun s => (EReal.coe_sub _ _).symm) n, coe_sum, ← EReal.coe_mul, ← EReal.coe_sub,
      Finset.sum_sub_distrib]
    congr 1
    simp
  have own : ∀ k : Fin 8, (∑ s, (y s k : EReal)) - (y n k : EReal) = ∑ s : Fin 32, if s = n then 0 else (y s k : EReal) := fun k => by
    rw [sum_others_coe _ (fun s => y s k) (fun s => rfl) n, coe_sum, ← EReal.coe_sub]
  have self : ∀ k : Fin 8, ((31 : ℝ) : EReal) * (y n k : EReal) = ∑ s : Fin 32, if s = n then 0 else (y n k : EReal) := fun k => by
    rw [sum_others_coe _ (fun s => y n k) (fun s => rfl) n, ← EReal.coe_mul]
    congr 1
    simp
    ring
  have cross : (((∑ s, ((y s 0 : EReal) * (y s 3 : EReal) - (y s 1 : EReal) * (y s 2 : EReal)))
          + ((32 : ℝ) : EReal) * ((y n 0 : EReal) * (y n 3 : EReal) - (y n 1 : EReal) * (y n 2 : EReal)))
        - ((∑ s, (y s 0 : EReal)) * (y n 3 : EReal) - (∑ s, (y s 1 : EReal)) * (y n 2 : EReal)))
        - ((y n 0 : EReal) * (∑ s, (y s 3 : EReal)) - (y n 1 : EReal) * (∑ s, (y s 2 : EReal)))
      = ∑ s : Fin 32, if s = n then 0 else (((y s 0 : EReal) - (y n 0 : EReal)) * ((y s 3 : EReal) - (y n 3 : EReal))
          - ((y s 1 : EReal) - (y n 1 : EReal)) * ((y s 2 : EReal) - (y n 2 : EReal))) := by
    rw [sum_others_coe _ (fun s => (y s 0 - y n 0) * (y s 3 - y n 3) - (y s 1 - y n 1) * (y s 2 - y n 2)) (fun s => by push_cast; rfl) n]
    have p : (∑ s, ((y s 0 : EReal) * (y s 3 : EReal) - (y s 1 : EReal) * (y s 2 : EReal)))
        = ((∑ s, (y s 0 * y s 3 - y s 1 * y s 2) : ℝ) : EReal) := by
      rw [← coe_sum]; exact Finset.sum_congr rfl fun s _ => by push_cast; rfl
    rw [p, coe_sum, coe_sum, coe_sum, coe_sum]
    have e : (∑ s, ((y s 0 - y n 0) * (y s 3 - y n 3) - (y s 1 - y n 1) * (y s 2 - y n 2)))
        = (((∑ s, (y s 0 * y s 3 - y s 1 * y s 2)) + 32 * (y n 0 * y n 3 - y n 1 * y n 2))
          - ((∑ s, y s 0) * y n 3 - (∑ s, y s 1) * y n 2)) - (y n 0 * (∑ s, y s 3) - y n 1 * (∑ s, y s 2)) := by
      have c : (32 : ℝ) * (y n 0 * y n 3 - y n 1 * y n 2) = ∑ s : Fin 32, (y n 0 * y n 3 - y n 1 * y n 2) := by
        simp
        ring
      rw [c, Finset.sum_mul, Finset.sum_mul, Finset.mul_sum, Finset.mul_sum, ← Finset.sum_add_distrib, ← Finset.sum_sub_distrib,
        ← Finset.sum_sub_distrib, ← Finset.sum_sub_distrib, ← Finset.sum_sub_distrib]
      exact Finset.sum_congr rfl fun s _ => by ring
    have z : (y n 0 - y n 0) * (y n 3 - y n 3) - (y n 1 - y n 1) * (y n 2 - y n 2) = 0 := by ring
    rw [z, sub_zero, e]
    push_cast
    rfl
  fin_cases d
  · exact diff 0
  · exact diff 1
  · exact diff 2
  · exact diff 3
  · exact own 2
  · exact own 3
  · exact self 2
  · exact self 3
  · exact cross

/-- The scaled totals are the mean over the other nodes. -/
theorem kinc_eq (x : Fin 32 → Fin 8 → EReal) (hx : ∀ s k, ∃ r : ℝ, x s k = r) (n : Fin 32) : kinc x n = Spec.incoming x n := by
  choose y hy using hx
  obtain rfl : x = fun s k => (y s k : EReal) := funext fun s => funext fun k => hy s k
  funext d
  unfold kinc Spec.incoming
  rw [totals_eq, Ideal.div_coe (by norm_num : (31 : ℝ) ≠ 0)]

end Cert.Pay

end
-- ==== Proof.Run.Value.lean ====
/- The kernel's three result arrays after the run: the recurrences' and the heads' values on the edges' embeddings. -/
module

public import proofs.«01_k».proof.Proof.Run.Data
public import proofs.«01_k».proof.Proof.Run.Input
public import proofs.«01_k».proof.Proof.Ref.Rows
public import proofs.«01_k».proof.Proof.Math.Incoming

@[expose] public section

set_option maxRecDepth 16384

noncomputable section

namespace Cert.KernelIdeal.Out

open Cert.KernelIdeal Cert.KernelIdeal.Gen
open Cert.KernelIdeal.Run hiding frame
open Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- The weights the launch gives. -/
abbrev parM : Spec.Par := Cert.Ref.par (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29))

/-- The edges' embeddings from the launch's arguments. -/
abbrev edgeM (b : Fin 2) (e : Fin 1024) (s : Fin 32) (j : Fin 128) : EReal :=
  Cert.Ref.edgeOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (fun b t n => Spec.incoming (Cert.Ref.xrow (m ((c : Thread nD τ).loc main_arg0)) b t) n) b e s j

/-- The first result: the forward head at every step. -/
def res0 : S2x32x1024x4.Idx → EReal := fun y =>
  Spec.prior (parM m c) (Spec.fwd (parM m c) (edgeM m c (y 0) (y 2)) ((y 1).val + 1)) (y 3)

/-- The second result: the head on both directions at every step. -/
def res1 : S2x32x1024x4.Idx → EReal := fun y =>
  Spec.enc (parM m c) (Spec.fwd (parM m c) (edgeM m c (y 0) (y 2)) ((y 1).val + 1))
    (Spec.rev (parM m c) (edgeM m c (y 0) (y 2)) (32 - (y 1).val)) (y 3)

/-- The third result: the forward state after the last step. -/
def res2 : S2x1024x128.Idx → EReal := fun y =>
  Spec.fwd (parM m c) (edgeM m c (y 0) (y 1)) 32 (y 2)

/-- A point's weights are the launch's. -/
theorem bpar_eq : Pay.bpar (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) = parM m c := by
  simp only [Pay.bpar, in4, in5, in6, in7, in8, in9, in10, in11, in12, in13, in14, in15, in16, in17, in18, in19, in20, in21, in22, in23, in24, in25, in26, in27, in28, in29]
  rfl

/-- A node of a block is the launch's, where the block's rows are the launch's and its states are reals: the incoming features
    are the mean over the other nodes. -/
theorem bnode_of (x1 : Vec Ideal S1x32x32x128 .f32) (x2 : Vec Ideal S1x32x32x8 .f32) (x3 : Vec Ideal S1x32x32x16 .f32) (b : Fin 2)
    (h1 : ∀ n s k, x1 (ix4 0 n s k) = m ((c : Thread nD τ).loc main_arg3) (ix4 b n s k))
    (h2 : ∀ n s k, x2 (ix4 0 n s k) = m ((c : Thread nD τ).loc main_arg0) (ix4 b s n k))
    (h3 : ∀ n s k, x3 (ix4 0 n s k) = m ((c : Thread nD τ).loc main_arg1) (ix4 b n s k))
    (hx : ∀ y : S2x32x32x8.Idx, ∃ r : ℝ, m ((c : Thread nD τ).loc main_arg0) y = (r : EReal)) (n s : Fin 32) :
    Pay.bnode x1 x2 x3 (parM m c) n s
      = Cert.Ref.nodeOf (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (Spec.incoming (Cert.Ref.xrow (m ((c : Thread nD τ).loc main_arg0)) b s) n) b n s := by
  have e2 : Pay.xr x2 s = Cert.Ref.xrow (m ((c : Thread nD τ).loc main_arg0)) b s := funext fun n => funext fun k => h2 n s k
  have e3 : (fun k => x3 (ix4 0 n s k)) = fun k => m ((c : Thread nD τ).loc main_arg1) (ix4 b n s k) := funext fun k => h3 n s k
  have e1 : (fun k => x1 (ix4 0 n s k) * ((1 / 31 : ℝ) : EReal))
      = fun k => Ideal.div (m ((c : Thread nD τ).loc main_arg3) (ix4 b n s k)) ((31 : ℝ) : EReal) := funext fun k => by
    rw [h1 n s k, Ideal.div_coe (by norm_num : (31 : ℝ) ≠ 0)]
  funext j
  unfold Pay.bnode Cert.Ref.nodeOf
  rw [e3, e1, e2, Pay.kinc_eq (Cert.Ref.xrow (m ((c : Thread nD τ).loc main_arg0)) b s) (fun n k => hx (ix4 b s n k)) n]

/-- An edge of a block is the launch's. -/
theorem bedge_of (x0 : Vec Ideal S1x256x32x128 .f32) (x1 : Vec Ideal S1x32x32x128 .f32) (x2 : Vec Ideal S1x32x32x8 .f32) (x3 : Vec Ideal S1x32x32x16 .f32)
    (b : Fin 2) (q : Fin 4)
    (h0 : ∀ (p : Fin 256) s k, x0 (ix4 0 p s k) = m ((c : Thread nD τ).loc main_arg2) (ix4 b ⟨q.val * 256 + p.val, by omega⟩ s k))
    (h1 : ∀ n s k, x1 (ix4 0 n s k) = m ((c : Thread nD τ).loc main_arg3) (ix4 b n s k))
    (h2 : ∀ n s k, x2 (ix4 0 n s k) = m ((c : Thread nD τ).loc main_arg0) (ix4 b s n k))
    (h3 : ∀ n s k, x3 (ix4 0 n s k) = m ((c : Thread nD τ).loc main_arg1) (ix4 b n s k))
    (hx : ∀ y : S2x32x32x8.Idx, ∃ r : ℝ, m ((c : Thread nD τ).loc main_arg0) y = (r : EReal)) (p : Fin 256) (e : Fin 1024) (he : e.val = q.val * 256 + p.val) :
    Pay.bedge x0 x1 x2 x3 (parM m c) q.val p = edgeM m c b e := by
  funext s j
  have hq := q.isLt
  have hs : (⟨(8 * q.val + p.val / 32) % 32, Nat.mod_lt _ (by decide)⟩ : Fin 32) = ⟨e.val / 32, by omega⟩ :=
    Fin.ext (by show (8 * q.val + p.val / 32) % 32 = e.val / 32; omega)
  have hr : (⟨p.val % 32, Nat.mod_lt _ (by decide)⟩ : Fin 32) = ⟨e.val % 32, by omega⟩ :=
    Fin.ext (by show p.val % 32 = e.val % 32; omega)
  have h0' : (fun k => x0 (ix4 0 p s k)) = fun k => m ((c : Thread nD τ).loc main_arg2) (ix4 b e s k) := funext fun k =>
    (h0 p s k).trans (congrArg (fun z => m ((c : Thread nD τ).loc main_arg2) (ix4 b z s k)) (Fin.ext he.symm))
  unfold Pay.bedge edgeM Cert.Ref.edgeOf
  rw [hs, hr, h0', bnode_of m c x1 x2 x3 b h1 h2 h3 hx, bnode_of m c x1 x2 x3 b h1 h2 h3 hx]

variable (hx : ∀ y : S2x32x32x8.Idx, ∃ r : ℝ, m ((c : Thread nD τ).loc main_arg0) y = (r : EReal))
include hx

/-- A point's edge is the launch's. -/
theorem bedge_eq (p : Fin 256) (e : Fin 1024) (he : e.val = (pt t).val * 256 + p.val) :
    Pay.bedge (iblk m c 0 t) (iblk m c 1 t) (iblk m c 2 t) (iblk m c 3 t) (parM m c) (pt t).val p = edgeM m c (bat t) e :=
  bedge_of m c (iblk m c 0 t) (iblk m c 1 t) (iblk m c 2 t) (iblk m c 3 t) (bat t) (pt t) (in0 m c t) (in1 m c t) (in2 m c t) (in3 m c t) hx p e he

omit hx in
theorem idx30 : ∀ t : Fin cfg0.N, win0_30.index t = ![(bat t).val, 0, (pt t).val, 0] :=
  (by decide +kernel : ∀ t : Fin grid0.N, win0_30.index t = ![((grid0.coords t) 0).val, 0, ((grid0.coords t) 1).val, 0])

omit hx in
theorem idx31 : ∀ t : Fin cfg0.N, win0_31.index t = ![(bat t).val, 0, (pt t).val, 0] :=
  (by decide +kernel : ∀ t : Fin grid0.N, win0_31.index t = ![((grid0.coords t) 0).val, 0, ((grid0.coords t) 1).val, 0])

omit hx in
theorem idx32 : ∀ t : Fin cfg0.N, win0_32.index t = ![(bat t).val, (pt t).val, 0] :=
  (by decide +kernel : ∀ t : Fin grid0.N, win0_32.index t = ![((grid0.coords t) 0).val, ((grid0.coords t) 1).val, 0])

omit hx in
/-- Where a point's block of the first result lies in the array. -/
theorem emb30 (s : Fin 32) (p : Fin 256) (k : Fin 4) :
    ((cfg0.win 30).blk t).view.emb (ix4 0 s p k) = ix4 (bat t) s ⟨(pt t).val * 256 + p.val, by have := (pt t).isLt; omega⟩ k := by
  have hb := (bat t).isLt
  have hp := (pt t).isLt
  blk_ext! [idx30 t]

omit hx in
/-- Where a point's block of the second result lies in the array. -/
theorem emb31 (s : Fin 32) (p : Fin 256) (k : Fin 4) :
    ((cfg0.win 31).blk t).view.emb (ix4 0 s p k) = ix4 (bat t) s ⟨(pt t).val * 256 + p.val, by have := (pt t).isLt; omega⟩ k := by
  have hb := (bat t).isLt
  have hp := (pt t).isLt
  blk_ext! [idx31 t]

omit hx in
/-- Where a point's block of the third result lies in the array. -/
theorem emb32 (p : Fin 256) (k : Fin 128) :
    ((cfg0.win 32).blk t).view.emb (ix3 0 p k) = ix3 (bat t) ⟨(pt t).val * 256 + p.val, by have := (pt t).isLt; omega⟩ k := by
  have hb := (bat t).isLt
  have hp := (pt t).isLt
  blk_ext! [idx32 t]

/-- What a point leaves in the block of the first result. -/
theorem point30 (s : Fin 32) (p : Fin 256) (k : Fin 4) :
    Run.out30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val (ix4 0 s p k)
      = res0 m c (ix4 (bat t) s ⟨(pt t).val * 256 + p.val, by have := (pt t).isLt; omega⟩ k) := by
  unfold Run.out30
  rw [bpar_eq m c t]
  exact congrArg (fun e => Spec.prior (parM m c) (Spec.fwd (parM m c) e (s.val + 1)) k)
    (bedge_eq m c t hx p ⟨(pt t).val * 256 + p.val, by have := (pt t).isLt; omega⟩ rfl)

/-- The first result's array after the run. -/
theorem final30 : (dats m 0 c).arrAt 30 cfg0.N = res0 m c := by
  refine (dats m 0 c).arrAt_eq_of_covers 30 _ (by decide +kernel) fun t hf y => ?_
  have hy : y = ix4 0 (y 1) (y 2) (y 3) := funext fun a => by fin_cases a <;> first | exact Subsingleton.elim (α := Fin 1) _ _ | rfl
  refine (congrFun (after0_30 m c t) y).trans ((congrArg _ hy).trans ((point30 m c t hx (y 1) (y 2) (y 3)).trans ?_))
  exact congrArg (res0 m c) ((emb30 t (y 1) (y 2) (y 3)).symm.trans (congrArg _ hy.symm))

/-- What a point leaves in the block of the second result. -/
theorem point31 (s : Fin 32) (p : Fin 256) (k : Fin 4) :
    Run.out31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val (ix4 0 s p k)
      = res1 m c (ix4 (bat t) s ⟨(pt t).val * 256 + p.val, by have := (pt t).isLt; omega⟩ k) := by
  unfold Run.out31
  rw [bpar_eq m c t]
  exact congrArg (fun e => Spec.enc (parM m c) (Spec.fwd (parM m c) e (s.val + 1)) (Spec.rev (parM m c) e (32 - s.val)) k)
    (bedge_eq m c t hx p ⟨(pt t).val * 256 + p.val, by have := (pt t).isLt; omega⟩ rfl)

/-- The second result's array after the run. -/
theorem final31 : (dats m 0 c).arrAt 31 cfg0.N = res1 m c := by
  refine (dats m 0 c).arrAt_eq_of_covers 31 _ (by decide +kernel) fun t hf y => ?_
  have hy : y = ix4 0 (y 1) (y 2) (y 3) := funext fun a => by fin_cases a <;> first | exact Subsingleton.elim (α := Fin 1) _ _ | rfl
  refine (congrFun (after0_31 m c t) y).trans ((congrArg _ hy).trans ((point31 m c t hx (y 1) (y 2) (y 3)).trans ?_))
  exact congrArg (res1 m c) ((emb31 t (y 1) (y 2) (y 3)).symm.trans (congrArg _ hy.symm))

/-- What a point leaves in the block of the third result. -/
theorem point32 (p : Fin 256) (k : Fin 128) :
    Run.out32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) ((grid0.coords t) 1).val (ix3 0 p k)
      = res2 m c (ix3 (bat t) ⟨(pt t).val * 256 + p.val, by have := (pt t).isLt; omega⟩ k) := by
  unfold Run.out32
  rw [bpar_eq m c t]
  exact congrArg (fun e => Spec.fwd (parM m c) e 32 k)
    (bedge_eq m c t hx p ⟨(pt t).val * 256 + p.val, by have := (pt t).isLt; omega⟩ rfl)

/-- The third result's array after the run. -/
theorem final32 : (dats m 0 c).arrAt 32 cfg0.N = res2 m c := by
  refine (dats m 0 c).arrAt_eq_of_covers 32 _ (by decide +kernel) fun t hf y => ?_
  have hy : y = ix3 0 (y 1) (y 2) := funext fun a => by fin_cases a <;> first | exact Subsingleton.elim (α := Fin 1) _ _ | rfl
  refine (congrFun (after0_32 m c t) y).trans ((congrArg _ hy).trans ((point32 m c t hx (y 1) (y 2)).trans ?_))
  exact congrArg (res2 m c) ((emb32 t (y 1) (y 2)).symm.trans (congrArg _ hy.symm))

end Cert.KernelIdeal.Out

end
-- ==== Proof.Run.Post.lean ====
/- The kernel's run: its three results named, its arguments unchanged. -/
module

public import proofs.«01_k».proof.Proof.Run.Value

@[expose] public section

noncomputable section

namespace Cert.KernelIdeal.Out

open Cert.KernelIdeal Cert.KernelIdeal.Gen
open Idealize.ShloMosaic Idealize.ShloMosaic.TcCoe Idealize.SL.Sem

/-- Where the states are reals, every run of the kernel ends with the three results at the recurrences' and the heads' values and
    every argument unchanged. -/
theorem run (m : (ℓ : Loc nD τ sig) → Buf (Elt Ideal) ℓ) (ρ : Dev nD → PrngReg)
    (hx : ∀ (c : Dev nD) (y : S2x32x32x8.Idx), ∃ r : ℝ, m ((c : Thread nD τ).loc main_arg0) y = (r : EReal)) :
    θ_run (defs (F := Ideal)) (onTc (τ := τ) (main (F := Ideal))) ⟨m, fun _ => 0, ρ⟩ fun r => ∀ c : Dev nD,
      r.2.mem ((c.tc : Thread nD τ).loc main_v27_0) = res0 m c
      ∧ r.2.mem ((c.tc : Thread nD τ).loc main_v27_1) = res1 m c
      ∧ r.2.mem ((c.tc : Thread nD τ).loc main_v27_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29) :=
  (θ_run defs _ _).mono (fun r h c =>
    ⟨((h c).1 30).trans (final30 m c (hx c)), ((h c).1 31).trans (final31 m c (hx c)), ((h c).1 32).trans (final32 m c (hx c)),
      ((h c).2 main_arg0 (Pipeline.mem_restRefs_of main_arg0 (by decide) (by decide))).trans (V_main_arg0 m c),
      ((h c).1 3).trans (((dats m 0 c).arrAt_in 3 rfl _).trans ((A_eq m c 3).trans (V_main_arg1 m c))),
      ((h c).1 0).trans (((dats m 0 c).arrAt_in 0 rfl _).trans ((A_eq m c 0).trans (V_main_arg2 m c))),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c),
      ((h c).2 main_arg27 (Pipeline.mem_restRefs_of main_arg27 (by decide) (by decide))).trans (V_main_arg27 m c),
      ((h c).2 main_arg28 (Pipeline.mem_restRefs_of main_arg28 (by decide) (by decide))).trans (V_main_arg28 m c),
      ((h c).2 main_arg29 (Pipeline.mem_restRefs_of main_arg29 (by decide) (by decide))).trans (V_main_arg29 m c)⟩)
    (run_main m ρ)

end Cert.KernelIdeal.Out

end
-- ==== Proof.Math.Cell.lean ====
/- The two ways of writing a gated unit agree on finite states, and the recurrences stay finite. -/
module

public import proofs.«01_k».proof.Proof.Math.Spec
public import Mathlib.Tactic.Ring

@[expose] public section

noncomputable section

namespace Cert.Spec

open Idealize.ShloMosaic

/-- The logistic function takes real values. -/
theorem logistic_real (x : EReal) : ∃ r : ℝ, Ideal.logistic x = r := by
  induction x with
  | bot => exact ⟨0, by simp⟩
  | top => exact ⟨1, by simp⟩
  | coe r => exact ⟨_, Ideal.logistic_coe r⟩

/-- The hyperbolic tangent takes real values. -/
theorem tanh_real (x : EReal) : ∃ r : ℝ, Ideal.tanh x = r := by
  induction x with
  | bot => exact ⟨-1, rfl⟩
  | top => exact ⟨1, rfl⟩
  | coe r => exact ⟨Real.tanh r, rfl⟩

/-- The gated unit with the state and the candidate weighted apart. -/
def cellApart (gi gh : Fin 384 → EReal) (h : Fin 128 → EReal) (j : Fin 128) : EReal :=
  (1 - Ideal.logistic (gi ⟨128 + j.val, by omega⟩ + gh ⟨128 + j.val, by omega⟩))
      * Ideal.tanh (gi ⟨256 + j.val, by omega⟩
        + Ideal.logistic (gi ⟨j.val, by omega⟩ + gh ⟨j.val, by omega⟩) * gh ⟨256 + j.val, by omega⟩)
    + Ideal.logistic (gi ⟨128 + j.val, by omega⟩ + gh ⟨128 + j.val, by omega⟩) * h j

/-- On a finite state the two are one. -/
theorem cellApart_eq (gi gh : Fin 384 → EReal) (h : Fin 128 → EReal) (j : Fin 128) (hh : ∃ r : ℝ, h j = r) :
    cellApart gi gh h j = cell gi gh h j := by
  obtain ⟨r, hr⟩ := hh
  obtain ⟨z, hz⟩ := logistic_real (gi ⟨128 + j.val, by omega⟩ + gh ⟨128 + j.val, by omega⟩)
  obtain ⟨n, hn⟩ := tanh_real (gi ⟨256 + j.val, by omega⟩
    + Ideal.logistic (gi ⟨j.val, by omega⟩ + gh ⟨j.val, by omega⟩) * gh ⟨256 + j.val, by omega⟩)
  unfold cellApart cell
  rw [hr, hz, hn]
  have e : (1 - z) * n + z * r = n + z * (r - n) := by ring
  exact_mod_cast congrArg (fun x : ℝ => (x : EReal)) e

/-- A step from a finite state gives a finite state. -/
theorem cell_real (gi gh : Fin 384 → EReal) (h : Fin 128 → EReal) (j : Fin 128) (hh : ∃ r : ℝ, h j = r) :
    ∃ r : ℝ, cell gi gh h j = r := by
  obtain ⟨r, hr⟩ := hh
  obtain ⟨z, hz⟩ := logistic_real (gi ⟨128 + j.val, by omega⟩ + gh ⟨128 + j.val, by omega⟩)
  obtain ⟨n, hn⟩ := tanh_real (gi ⟨256 + j.val, by omega⟩
    + Ideal.logistic (gi ⟨j.val, by omega⟩ + gh ⟨j.val, by omega⟩) * gh ⟨256 + j.val, by omega⟩)
  refine ⟨n + z * (r - n), ?_⟩
  unfold cell
  rw [hr, hz, hn]
  norm_cast

/-- The recurrence's states are finite, whatever its inputs. -/
theorem state_real (xs : ℕ → Fin 128 → EReal) (Wi Wh : Fin 128 → Fin 384 → EReal) (bi bh : Fin 384 → EReal) (k : ℕ) (j : Fin 128) :
    ∃ r : ℝ, state xs Wi Wh bi bh k j = r := by
  induction k generalizing j with
  | zero => exact ⟨0, rfl⟩
  | succ k ih => exact cell_real _ _ _ j (ih j)

end Cert.Spec

end
-- ==== Proof.Ref.Trip.lean ====
/- One trip of the reference's loop, row by row. -/
module

public import proofs.«01_k».proof.Proof.Gen.ReferenceIdeal.Step
public import proofs.«01_k».proof.Proof.Math.Cell
public import Idealize.ShloMosaic.Lib.Pointwise
public import Idealize.ShloMosaic.Lib.DynamicIndex
public import Idealize.ShloMosaic.Lib.Pipeline.Value
public import Idealize.ShloMosaic.Lib.WordCmp

@[expose] public section

set_option maxRecDepth 16384

noncomputable section

namespace Cert.Ref

open Cert.ReferenceIdeal Cert.ReferenceIdeal.Gen Cert.ReferenceIdeal.Step
open Idealize.ShloMosaic

/-- The step number as a slice's start. -/
theorem starts (j : ℕ) (hj : j < 32) (z : (⟨S_, .i32⟩ : BufTy).Contents (Elt Ideal)) (hz : z = constantI S_ 32 0#32) (a : Fin 3) :
    ((![(constantI S_ 32 (BitVec.ofNat 32 j) : (⟨S_, .i32⟩ : BufTy).Contents (Elt Ideal)), z, z]
      : Fin 3 → (⟨S_, .i32⟩ : BufTy).Contents (Elt Ideal)) a (Shape.Idx.first h_S_)).toInt = (((![j, 0, 0] : Fin 3 → ℕ) a : ℕ) : ℤ) := by
  subst hz
  fin_cases a
  · exact toInt_ofNat_of_lt (by omega)
  · rfl
  · rfl

theorem fits (j : ℕ) (hj : j < 32) : S32x2048x128.Slices (![j, 0, 0] : Fin 3 → ℕ) S1x2048x128 := by
  refine ⟨rfl, fun a => ?_⟩
  fin_cases a
  · show j + 1 ≤ 32
    omega
  · show 0 + 2048 ≤ 2048
    omega
  · show 0 + 128 ≤ 128
    omega

/-- The forward inputs of step `j`. -/
theorem b3_at (j : ℕ) (hj : j < 32) (s : State Ideal) (r : Fin 2048) (k : Fin 128) :
    b3 j s (ix2 r k) = s.main_v92_0 (ix3 ⟨j, hj⟩ r k) := by
  have e : b2 j s = extractStridedSlice S1x2048x128 (![j, 0, 0] : Fin 3 → ℕ) s.main_v92_0 (fits j hj) := by
    unfold b2
    exact Host.dynamicSlice_eq_extractStridedSlice _ _ _ _ _ (fits j hj) fun a => starts j hj _ rfl a
  pointwise [b3, e]

/-- The reverse inputs of step `j`. -/
theorem b7_at (j : ℕ) (hj : j < 32) (s : State Ideal) (r : Fin 2048) (k : Fin 128) :
    b7 j s (ix2 r k) = s.main_v92_1 (ix3 ⟨j, hj⟩ r k) := by
  have e : b6 j s = extractStridedSlice S1x2048x128 (![j, 0, 0] : Fin 3 → ℕ) s.main_v92_1 (fits j hj) := by
    unfold b6
    exact Host.dynamicSlice_eq_extractStridedSlice _ _ _ _ _ (fits j hj) fun a => starts j hj _ rfl a
  pointwise [b7, e]

/-- The forward input gates. -/
theorem b12_at (j : ℕ) (hj : j < 32) (s : State Ideal) (r : Fin 2048) (q : Fin 384) :
    b12 j s (ix2 r q) = Spec.dense (fun k => s.main_v92_0 (ix3 ⟨j, hj⟩ r k)) (fun k q => s.main_v92_2 (ix2 q k))
      (fun q => s.main_v92_3 (ix1 q)) q := by
  pointwise [b12, b11, b10, b9, b8, b3_at j hj]
  rfl

/-- The forward state gates. -/
theorem b17_at (j : ℕ) (s : State Ideal) (r : Fin 2048) (q : Fin 384) :
    b17 j s (ix2 r q) = Spec.dense (fun k => s.main_v92_11 (ix2 r k)) (fun k q => s.main_v92_4 (ix2 q k))
      (fun q => s.main_v92_5 (ix1 q)) q := by
  pointwise [b17, b16, b15, b14, b13]
  rfl

/-- The reverse input gates. -/
theorem b55_at (j : ℕ) (hj : j < 32) (s : State Ideal) (r : Fin 2048) (q : Fin 384) :
    b55 j s (ix2 r q) = Spec.dense (fun k => s.main_v92_1 (ix3 ⟨j, hj⟩ r k)) (fun k q => s.main_v92_6 (ix2 q k))
      (fun q => s.main_v92_7 (ix1 q)) q := by
  pointwise [b55, b54, b53, b52, b51, b7_at j hj]
  rfl

/-- The reverse state gates. -/
theorem b60_at (j : ℕ) (s : State Ideal) (r : Fin 2048) (q : Fin 384) :
    b60 j s (ix2 r q) = Spec.dense (fun k => s.main_v92_12 (ix2 r k)) (fun k q => s.main_v92_8 (ix2 q k))
      (fun q => s.main_v92_9 (ix1 q)) q := by
  pointwise [b60, b59, b58, b57, b56]
  rfl

/-- The forward state after the step. -/
theorem b50_at (j : ℕ) (hj : j < 32) (s : State Ideal) (r : Fin 2048) (k : Fin 128) :
    b50 j s (ix2 r k) = Spec.cellApart (fun q => b12 j s (ix2 r q)) (fun q => b17 j s (ix2 r q)) (fun k => s.main_v92_11 (ix2 r k)) k := by
  pointwise [b50, b49, b48, b47, b46, b45, b44, b43, b42, b41, b40, b39, b38, b37, b36, b35, b34, b33, b32, b31, b30, b29, b28,
    b27, b26, b25, b24, b23, b22, b21, b20, b19, b18]
  rfl

/-- The reverse state after the step. -/
theorem b93_at (j : ℕ) (hj : j < 32) (s : State Ideal) (r : Fin 2048) (k : Fin 128) :
    b93 j s (ix2 r k) = Spec.cellApart (fun q => b55 j s (ix2 r q)) (fun q => b60 j s (ix2 r q)) (fun k => s.main_v92_12 (ix2 r k)) k := by
  pointwise [b93, b92, b91, b90, b89, b88, b87, b86, b85, b84, b83, b82, b81, b80, b79, b78, b77, b76, b75, b74, b73, b72, b71,
    b70, b69, b68, b67, b66, b65, b64, b63, b62, b61]
  rfl

/-- The kept forward states after the step. -/
theorem b97_at (j : ℕ) (hj : j < 32) (s : State Ideal) (t : Fin 32) (r : Fin 2048) (k : Fin 128) :
    b97 j s (ix3 t r k) = if t.val = j then b50 j s (ix2 r k) else s.main_v92_13 (ix3 t r k) := by
  have e : b97 j s = updateSlice s.main_v92_13 (b94 j s) (![j, 0, 0] : Fin 3 → ℕ) (fits j hj) := by
    unfold b97
    exact Host.dynamicUpdateSlice_eq_updateSlice _ _ _ _ _ (fun a => by
      have := (fits j hj).2 a
      refine (congrArg (fun z : ℤ => (min (max z 0) _).toNat) (starts j hj _ rfl a)).trans ?_
      omega) (fits j hj)
  pointwise [e, b94]
  by_cases h : t.val = j
  · exact (dif_pos ⟨by omega, by omega⟩).trans (if_pos h).symm
  · exact (dif_neg fun h' => h (by omega)).trans (if_neg h).symm

/-- The kept reverse states after the step. -/
theorem b101_at (j : ℕ) (hj : j < 32) (s : State Ideal) (t : Fin 32) (r : Fin 2048) (k : Fin 128) :
    b101 j s (ix3 t r k) = if t.val = j then b93 j s (ix2 r k) else s.main_v92_14 (ix3 t r k) := by
  have e : b101 j s = updateSlice s.main_v92_14 (b98 j s) (![j, 0, 0] : Fin 3 → ℕ) (fits j hj) := by
    unfold b101
    exact Host.dynamicUpdateSlice_eq_updateSlice _ _ _ _ _ (fun a => by
      have := (fits j hj).2 a
      refine (congrArg (fun z : ℤ => (min (max z 0) _).toNat) (starts j hj _ rfl a)).trans ?_
      omega) (fits j hj)
  pointwise [e, b98]
  by_cases h : t.val = j
  · exact (dif_pos ⟨by omega, by omega⟩).trans (if_pos h).symm
  · exact (dif_neg fun h' => h (by omega)).trans (if_neg h).symm

end Cert.Ref

end
-- ==== Proof.Ref.Loop.lean ====
/- The reference's loop over the time steps: its states are the recurrences' and the kept arrays hold them. -/
module

public import proofs.«01_k».proof.Proof.Ref.Trip
public import proofs.«01_k».proof.Proof.Math.Cell

@[expose] public section

set_option maxRecDepth 16384

noncomputable section

namespace Cert.Ref

open Cert.ReferenceIdeal Cert.ReferenceIdeal.Gen Cert.ReferenceIdeal.Step
open Idealize.ShloMosaic

/-- What the state before trip `k` holds, for the edge embeddings `ev` of each row. -/
structure Inv (P : Spec.Par) (ev : Fin 2048 → Fin 32 → Fin 128 → EReal) (k : ℕ) (s : State Ideal) : Prop where
  xf : ∀ t r j, s.main_v92_0 (ix3 t r j) = ev r t j
  xr : ∀ (t : Fin 32) r j, s.main_v92_1 (ix3 t r j) = ev r t.rev j
  wif : ∀ k q, s.main_v92_2 (ix2 q k) = P.Wif k q
  cif : ∀ q, s.main_v92_3 (ix1 q) = P.cif q
  whf : ∀ k q, s.main_v92_4 (ix2 q k) = P.Whf k q
  chf : ∀ q, s.main_v92_5 (ix1 q) = P.chf q
  wir : ∀ k q, s.main_v92_6 (ix2 q k) = P.Wir k q
  cir : ∀ q, s.main_v92_7 (ix1 q) = P.cir q
  whr : ∀ k q, s.main_v92_8 (ix2 q k) = P.Whr k q
  chr : ∀ q, s.main_v92_9 (ix1 q) = P.chr q
  hf : ∀ r j, s.main_v92_11 (ix2 r j) = Spec.fwd P (ev r) k j
  hr : ∀ r j, s.main_v92_12 (ix2 r j) = Spec.rev P (ev r) k j
  yf : ∀ (t : Fin 32) r j, t.val < k → s.main_v92_13 (ix3 t r j) = Spec.fwd P (ev r) (t.val + 1) j
  yr : ∀ (t : Fin 32) r j, t.val < k → s.main_v92_14 (ix3 t r j) = Spec.rev P (ev r) (t.val + 1) j

variable {P : Spec.Par} {ev : Fin 2048 → Fin 32 → Fin 128 → EReal} {k : ℕ} {s : State Ideal}

/-- A trip's forward state. -/
theorem fwd_step (h : Inv P ev k s) (hk : k < 32) (r : Fin 2048) (j : Fin 128) :
    b50 k s (ix2 r j) = Spec.fwd P (ev r) (k + 1) j := by
  refine (b50_at k hk s r j).trans ?_
  have e1 : (fun q => b12 k s (ix2 r q)) = Spec.dense (ev r (Spec.tm k)) P.Wif P.cif := by
    funext q
    refine (b12_at k hk s r q).trans ?_
    rw [show (fun c => s.main_v92_0 (ix3 ⟨k, hk⟩ r c)) = ev r (Spec.tm k) from funext fun c => (h.xf _ r c).trans
        (congrArg (fun t => ev r t c) (Fin.ext (Nat.mod_eq_of_lt hk).symm)),
      show (fun c q => s.main_v92_2 (ix2 q c)) = P.Wif from funext fun c => funext fun q => h.wif c q,
      show (fun q => s.main_v92_3 (ix1 q)) = P.cif from funext h.cif]
  have e3 : (fun c => s.main_v92_11 (ix2 r c)) = Spec.fwd P (ev r) k := funext (h.hf r)
  have e2 : (fun q => b17 k s (ix2 r q)) = Spec.dense (Spec.fwd P (ev r) k) P.Whf P.chf := by
    funext q
    refine (b17_at k s r q).trans ?_
    rw [e3, show (fun c q => s.main_v92_4 (ix2 q c)) = P.Whf from funext fun c => funext fun q => h.whf c q,
      show (fun q => s.main_v92_5 (ix1 q)) = P.chf from funext h.chf]
  rw [e1, e2, e3]
  exact Spec.cellApart_eq _ _ _ j (Spec.state_real _ _ _ _ _ k j)

/-- A trip's reverse state. -/
theorem rev_step (h : Inv P ev k s) (hk : k < 32) (r : Fin 2048) (j : Fin 128) :
    b93 k s (ix2 r j) = Spec.rev P (ev r) (k + 1) j := by
  refine (b93_at k hk s r j).trans ?_
  have e1 : (fun q => b55 k s (ix2 r q)) = Spec.dense (ev r (Spec.tm (31 - k))) P.Wir P.cir := by
    funext q
    refine (b55_at k hk s r q).trans ?_
    rw [show (fun c => s.main_v92_1 (ix3 ⟨k, hk⟩ r c)) = ev r (Spec.tm (31 - k)) from funext fun c => (h.xr _ r c).trans
        (congrArg (fun t => ev r t c) (Fin.ext (by
          show 32 - (k + 1) = (31 - k) % 32
          omega))),
      show (fun c q => s.main_v92_6 (ix2 q c)) = P.Wir from funext fun c => funext fun q => h.wir c q,
      show (fun q => s.main_v92_7 (ix1 q)) = P.cir from funext h.cir]
  have e3 : (fun c => s.main_v92_12 (ix2 r c)) = Spec.rev P (ev r) k := funext (h.hr r)
  have e2 : (fun q => b60 k s (ix2 r q)) = Spec.dense (Spec.rev P (ev r) k) P.Whr P.chr := by
    funext q
    refine (b60_at k s r q).trans ?_
    rw [e3, show (fun c q => s.main_v92_8 (ix2 q c)) = P.Whr from funext fun c => funext fun q => h.whr c q,
      show (fun q => s.main_v92_9 (ix1 q)) = P.chr from funext h.chr]
  rw [e1, e2, e3]
  exact Spec.cellApart_eq _ _ _ j (Spec.state_real _ _ _ _ _ k j)

/-- A trip keeps the invariant. -/
theorem Inv.step (h : Inv P ev k s) (hk : k < 32) : Inv P ev (k + 1) (Cert.ReferenceIdeal.Step.step k s) where
  xf := h.xf
  xr := h.xr
  wif := h.wif
  cif := h.cif
  whf := h.whf
  chf := h.chf
  wir := h.wir
  cir := h.cir
  whr := h.whr
  chr := h.chr
  hf := fun r j => fwd_step h hk r j
  hr := fun r j => rev_step h hk r j
  yf := fun t r j ht => by
    refine (b97_at k hk s t r j).trans ?_
    by_cases e : t.val = k
    · refine (if_pos e).trans ((fwd_step h hk r j).trans ?_)
      rw [e]
    · exact (if_neg e).trans (h.yf t r j (by omega))
  yr := fun t r j ht => by
    refine (b101_at k hk s t r j).trans ?_
    by_cases e : t.val = k
    · refine (if_pos e).trans ((rev_step h hk r j).trans ?_)
      rw [e]
    · exact (if_neg e).trans (h.yr t r j (by omega))

/-- The invariant holds before every trip of an iteration from a state where it holds. -/
theorem Inv.iter (it : ℕ → State Ideal) (h0 : Inv P ev 0 (it 0)) (hs : ∀ n, it (n + 1) = Cert.ReferenceIdeal.Step.step n (it n)) :
    ∀ k ≤ 32, Inv P ev k (it k)
  | 0, _ => h0
  | k + 1, hk => hs k ▸ (Inv.iter it h0 hs k (by omega)).step (by omega)

/-- The last forward states, as the result holds them. -/
theorem R129_at (h : Inv P ev 32 s) (b : Fin 2) (e : Fin 1024) (j : Fin 128) :
    R_main_v129 s (ix3 b e j) = Spec.fwd P (ev ⟨b.val * 1024 + e.val, by omega⟩) 32 j := by
  rw [← h.hf]
  pointwise [R_main_v129]

/-- The prior head's result. -/
theorem R111_at (h : Inv P ev 32 s) (a22 : (⟨S128x128, .f32⟩ : BufTy).Contents (Elt Ideal)) (a23 : (⟨S128, .f32⟩ : BufTy).Contents (Elt Ideal))
    (a24 : (⟨S4x128, .f32⟩ : BufTy).Contents (Elt Ideal)) (a25 : (⟨S4, .f32⟩ : BufTy).Contents (Elt Ideal))
    (h22 : ∀ k j, a22 (ix2 j k) = P.Wp1 k j) (h23 : ∀ j, a23 (ix1 j) = P.bp1 j)
    (h24 : ∀ k j, a24 (ix2 j k) = P.Wp2 k j) (h25 : ∀ j, a25 (ix1 j) = P.bp2 j)
    (b : Fin 2) (t : Fin 32) (e : Fin 1024) (c : Fin 4) :
    R_main_v111 s a22 a23 a24 a25 (ix4 b t e c)
      = Spec.prior P (Spec.fwd P (ev ⟨b.val * 1024 + e.val, by omega⟩) (t.val + 1)) c := by
  have e0 : Spec.fwd P (ev ⟨b.val * 1024 + e.val, by omega⟩) (t.val + 1)
      = fun k => s.main_v92_13 (ix3 t ⟨b.val * 1024 + e.val, by omega⟩ k) := funext fun k => (h.yf t _ k t.isLt).symm
  rw [e0]
  pointwise [R_main_v111]
  simp only [h22, h23, h24, h25]
  rfl

/-- The encoder head's result. -/
theorem R128_at (h : Inv P ev 32 s) (a26 : (⟨S256x256, .f32⟩ : BufTy).Contents (Elt Ideal)) (a27 : (⟨S256, .f32⟩ : BufTy).Contents (Elt Ideal))
    (a28 : (⟨S4x256, .f32⟩ : BufTy).Contents (Elt Ideal)) (a29 : (⟨S4, .f32⟩ : BufTy).Contents (Elt Ideal))
    (h26 : ∀ k j, a26 (ix2 j k) = P.We1 k j) (h27 : ∀ j, a27 (ix1 j) = P.be1 j)
    (h28 : ∀ k j, a28 (ix2 j k) = P.We2 k j) (h29 : ∀ j, a29 (ix1 j) = P.be2 j)
    (b : Fin 2) (t : Fin 32) (e : Fin 1024) (c : Fin 4) :
    R_main_v128 s a26 a27 a28 a29 (ix4 b t e c)
      = Spec.enc P (Spec.fwd P (ev ⟨b.val * 1024 + e.val, by omega⟩) (t.val + 1))
          (Spec.rev P (ev ⟨b.val * 1024 + e.val, by omega⟩) (32 - t.val)) c := by
  have e0 : Spec.fwd P (ev ⟨b.val * 1024 + e.val, by omega⟩) (t.val + 1)
      = fun k => s.main_v92_13 (ix3 t ⟨b.val * 1024 + e.val, by omega⟩ k) := funext fun k => (h.yf t _ k t.isLt).symm
  have e1 : Spec.rev P (ev ⟨b.val * 1024 + e.val, by omega⟩) (32 - t.val)
      = fun k => s.main_v92_14 (ix3 t.rev ⟨b.val * 1024 + e.val, by omega⟩ k) := funext fun k => by
    refine Eq.trans ?_ (h.yr t.rev _ k t.rev.isLt).symm
    have : 32 - t.val = t.rev.val + 1 := by
      show 32 - t.val = 32 - (t.val + 1) + 1
      omega
    rw [this]
  rw [e0, e1]
  pointwise [R_main_v128]
  simp only [h26, h27, h28, h29]
  rfl

end Cert.Ref

end
-- ==== Proof.Ref.Edge.lean ====
/- What the reference computes before its recurrences: the node embeddings and the edge embeddings, at an index. -/
module

public import proofs.«01_k».proof.Proof.Gen.ReferenceIdeal.Step
public import proofs.«01_k».proof.Proof.Ref.Rows

@[expose] public section

set_option maxRecDepth 16384

noncomputable section

namespace Cert.Ref

open Cert.ReferenceIdeal Cert.ReferenceIdeal.Step
open Idealize.ShloMosaic

variable (a0 : (⟨S2x32x32x8, .f32⟩ : BufTy).Contents (Elt Ideal))
  (a1 : (⟨S2x32x32x16, .f32⟩ : BufTy).Contents (Elt Ideal))
  (a2 : (⟨S2x1024x32x128, .f32⟩ : BufTy).Contents (Elt Ideal))
  (a3 : (⟨S2x32x32x128, .f32⟩ : BufTy).Contents (Elt Ideal))
  (a4 : (⟨S128x35, .f32⟩ : BufTy).Contents (Elt Ideal))
  (a5 : (⟨S128, .f32⟩ : BufTy).Contents (Elt Ideal))
  (a6 : (⟨S128x128, .f32⟩ : BufTy).Contents (Elt Ideal))
  (a7 : (⟨S128, .f32⟩ : BufTy).Contents (Elt Ideal))
  (a8 : (⟨S128x128, .f32⟩ : BufTy).Contents (Elt Ideal))
  (a9 : (⟨S128, .f32⟩ : BufTy).Contents (Elt Ideal))
  (a10 : (⟨S128x384, .f32⟩ : BufTy).Contents (Elt Ideal))
  (a11 : (⟨S128, .f32⟩ : BufTy).Contents (Elt Ideal))
  (a12 : (⟨S128x128, .f32⟩ : BufTy).Contents (Elt Ideal))
  (a13 : (⟨S128, .f32⟩ : BufTy).Contents (Elt Ideal))
  (a14 : (⟨S384x128, .f32⟩ : BufTy).Contents (Elt Ideal))
  (a15 : (⟨S384x128, .f32⟩ : BufTy).Contents (Elt Ideal))
  (a16 : (⟨S384, .f32⟩ : BufTy).Contents (Elt Ideal))
  (a17 : (⟨S384, .f32⟩ : BufTy).Contents (Elt Ideal))
  (a18 : (⟨S384x128, .f32⟩ : BufTy).Contents (Elt Ideal))
  (a19 : (⟨S384x128, .f32⟩ : BufTy).Contents (Elt Ideal))
  (a20 : (⟨S384, .f32⟩ : BufTy).Contents (Elt Ideal))
  (a21 : (⟨S384, .f32⟩ : BufTy).Contents (Elt Ideal))
  (a22 : (⟨S128x128, .f32⟩ : BufTy).Contents (Elt Ideal))
  (a23 : (⟨S128, .f32⟩ : BufTy).Contents (Elt Ideal))
  (a24 : (⟨S4x128, .f32⟩ : BufTy).Contents (Elt Ideal))
  (a25 : (⟨S4, .f32⟩ : BufTy).Contents (Elt Ideal))
  (a26 : (⟨S256x256, .f32⟩ : BufTy).Contents (Elt Ideal))
  (a27 : (⟨S256, .f32⟩ : BufTy).Contents (Elt Ideal))
  (a28 : (⟨S4x256, .f32⟩ : BufTy).Contents (Elt Ideal))
  (a29 : (⟨S4, .f32⟩ : BufTy).Contents (Elt Ideal))

/-- The 31 that the means divide by. -/
theorem word_31 : Ideal.ofBits .f32 0x41F80000#32 = ((31 : ℝ) : EReal) := by
  simp [Ideal.ofBits, Ideal.ieee, -EReal.coe_mul]; norm_num

/-- The comparison of two positions below 32, as words. -/
theorem ne_word : ∀ x n : Fin 32, IntOp.cmpi CmpIPredicate.ne (BitVec.ofNat 32 x.val) (BitVec.ofNat 32 n.val)
    = if x = n then 0#1 else 1#1 := by
  intro x n
  by_cases h : x = n
  · subst h; simp [IntOp.cmpi]
  · have hne : BitVec.ofNat 32 x.val ≠ BitVec.ofNat 32 n.val := fun e => h (Fin.ext (by
      have e' := congrArg BitVec.toNat e
      simp only [BitVec.toNat_ofNat] at e'
      omega))
    simp only [IntOp.cmpi, h, if_false]
    rw [show (BitVec.ofNat 32 x.val != BitVec.ofNat 32 n.val) = true from bne_iff_ne.mpr hne]
    rfl

/-- A selection by such a comparison. -/
theorem select_ne (x n : Fin 32) (u v : EReal) :
    Scalar.select (IntOp.cmpi CmpIPredicate.ne (BitVec.ofNat 32 x.val) (BitVec.ofNat 32 n.val)) u v = if x = n then v else u := by
  have h := ne_word x n
  by_cases hx : x = n
  · rw [if_pos hx] at h ⊢
    unfold Scalar.select; rw [h]; rfl
  · rw [if_neg hx] at h ⊢
    unfold Scalar.select; rw [h]; rfl

/-- The relative features, as the concatenation of the five groups reads. -/
theorem rel_shape (s r : Fin 8 → EReal) (d : Fin 9) :
    (if h : d.val < 2 then s ⟨d.val, by omega⟩ - r ⟨d.val, by omega⟩
      else if h : d.val - 2 < 2 then s ⟨2 + (d.val - 2), by omega⟩ - r ⟨2 + (d.val - 2), by omega⟩
      else if h : d.val - 2 - 2 < 2 then s ⟨2 + (d.val - 2 - 2), by omega⟩
      else if h : d.val - 2 - 2 - 2 < 2 then r ⟨2 + (d.val - 2 - 2 - 2), by omega⟩
      else (s ⟨d.val - 2 - 2 - 2 - 2, by omega⟩ - r ⟨d.val - 2 - 2 - 2 - 2, by omega⟩)
          * (s ⟨2 + (1 + (d.val - 2 - 2 - 2 - 2)), by omega⟩ - r ⟨2 + (1 + (d.val - 2 - 2 - 2 - 2)), by omega⟩)
        - (s ⟨1 + (d.val - 2 - 2 - 2 - 2), by omega⟩ - r ⟨1 + (d.val - 2 - 2 - 2 - 2), by omega⟩)
          * (s ⟨2 + (d.val - 2 - 2 - 2 - 2), by omega⟩ - r ⟨2 + (d.val - 2 - 2 - 2 - 2), by omega⟩)) = Spec.rel s r d := by
  fin_cases d <;> rfl

/-- The mean over the other senders is their sum over 31. -/
theorem v32_eq (b : Fin 2) (n t : Fin 32) (d : Fin 9) :
    A_main_v32 a0 a1 a2 a3 a4 a5 a6 a7 a8 a9 a10 a11 a12 a13 (ix4 b n t d) = Ideal.div (A_main_v30 a0 a1 a2 a3 a4 a5 a6 a7 a8 a9 a10 a11 a12 a13 (ix4 b n t d)) ((31 : ℝ) : EReal) := by
  pointwise [A_main_v32, K_main_v31, K_main_cst_1]
  rw [word_31]

/-- The mean over the other senders of the relative features. -/
theorem v32_at (b : Fin 2) (n t : Fin 32) (d : Fin 9) :
    A_main_v32 a0 a1 a2 a3 a4 a5 a6 a7 a8 a9 a10 a11 a12 a13 (ix4 b n t d) = Spec.incoming (xrow a0 b t) n d := by
  rw [v32_eq]
  refine congrArg (fun z => Ideal.div z ((31 : ℝ) : EReal)) ?_
  pointwise [A_main_v30, A_main_v29, A_main_v20, A_main_v19, A_main_v18, A_main_v17, A_main_v16, A_main_v15, A_main_v14, A_main_v13, A_main_v12, A_main_v11, A_main_v10, A_main_v9, A_main_v8, A_main_v7, A_main_v6, A_main_v5, A_main_v4, A_main_v3, A_main_v2, A_main_v1, A_main_v0, K_main_call0_v0, K_main_cst, K_main_call0_v1, K_main_call0_v2, K_main_v28, K_main_v27, K_main_v26, K_main_v25, K_main_v24, K_main_v23, K_main_v22, K_main_v21, K_main_cst_0]
  refine Finset.sum_congr rfl fun x _ => ?_
  refine (select_ne x n _ _).trans ?_
  by_cases hx : x = n
  · refine (if_pos hx).trans (Eq.trans ?_ (if_pos hx).symm); exact Ideal.ofBits_zero_f32
  · refine (if_neg hx).trans (Eq.trans ?_ (if_neg hx).symm)
    exact rel_shape (xrow a0 b t x) (xrow a0 b t n) d

/-- The node's features. -/
theorem v34_at (b : Fin 2) (n t : Fin 32) (k : Fin 35) :
    A_main_v34 a0 a1 a2 a3 a4 a5 a6 a7 a8 a9 a10 a11 a12 a13 (ix4 b n t k)
      = Spec.cat (xrow a0 b t n) (Spec.incoming (xrow a0 b t) n) (fun j => a1 (ix4 b n t j)) k := by
  pointwise [A_main_v34, A_main_v33, A_main_v1, A_main_v0, v32_at]
  unfold Spec.cat xrow
  by_cases h8 : k.val < 8
  · have : k.val < 19 := by omega
    simp only [h8, this, dif_pos]
  · by_cases h9 : k.val - 8 < 9
    · have : k.val < 19 := by omega
      simp only [h8, h9, this, dif_pos, dif_neg, not_false_eq_true]
    · by_cases h19 : k.val < 19
      · have h2 : k.val - 17 < 2 := by omega
        simp only [h8, h9, h19, h2, dif_pos, dif_neg, not_false_eq_true]
        congr 2
      · have h2 : ¬ k.val - 17 < 2 := by omega
        simp only [h8, h9, h19, h2, dif_neg, not_false_eq_true]

/-- The node network's input. -/
theorem v42_at (b : Fin 2) (n t : Fin 32) (j : Fin 128) :
    A_main_v42 a0 a1 a2 a3 a4 a5 a6 a7 a8 a9 a10 a11 a12 a13 (ix4 b n t j)
      = Ideal.div (a3 (ix4 b n t j)) ((31 : ℝ) : EReal)
        + Spec.dense (Spec.cat (xrow a0 b t n) (Spec.incoming (xrow a0 b t) n) (fun k => a1 (ix4 b n t k)))
          (par a4 a5 a6 a7 a8 a9 a10 a11 a12 a13 a14 a15 a16 a17 a18 a19 a20 a21 a22 a23 a24 a25 a26 a27 a28 a29).Wr (par a4 a5 a6 a7 a8 a9 a10 a11 a12 a13 a14 a15 a16 a17 a18 a19 a20 a21 a22 a23 a24 a25 a26 a27 a28 a29).br j := by
  pointwise [A_main_v42, A_main_v41, A_main_v39, A_main_v38, A_main_v37, A_main_v36, A_main_v35, K_main_v40, K_main_cst_2, v34_at]
  rw [word_31]
  rfl

/-- The node network's first layer. -/
theorem v51_at (b : Fin 2) (n t : Fin 32) (j : Fin 128) :
    A_main_v51 a0 a1 a2 a3 a4 a5 a6 a7 a8 a9 a10 a11 a12 a13 (ix4 b n t j)
      = Spec.elu (Spec.dense (fun k => A_main_v42 a0 a1 a2 a3 a4 a5 a6 a7 a8 a9 a10 a11 a12 a13 (ix4 b n t k))
          (par a4 a5 a6 a7 a8 a9 a10 a11 a12 a13 a14 a15 a16 a17 a18 a19 a20 a21 a22 a23 a24 a25 a26 a27 a28 a29).W3a (par a4 a5 a6 a7 a8 a9 a10 a11 a12 a13 a14 a15 a16 a17 a18 a19 a20 a21 a22 a23 a24 a25 a26 a27 a28 a29).b3a j) := by
  pointwise [A_main_v51, A_main_v50, A_main_v49, A_main_v47, A_main_v46, A_main_v45, A_main_v44, A_main_v43, K_main_v48, K_main_cst_3]
  rfl

/-- The node embeddings. -/
theorem v60_at (b : Fin 2) (n t : Fin 32) (j : Fin 128) :
    A_main_v60 a0 a1 a2 a3 a4 a5 a6 a7 a8 a9 a10 a11 a12 a13 (ix4 b n t j)
      = nodeOf a0 a1 a3 a4 a5 a6 a7 a8 a9 a10 a11 a12 a13 a14 a15 a16 a17 a18 a19 a20 a21 a22 a23 a24 a25 a26 a27 a28 a29 (Spec.incoming (xrow a0 b t) n) b n t j := by
  have h : A_main_v60 a0 a1 a2 a3 a4 a5 a6 a7 a8 a9 a10 a11 a12 a13 (ix4 b n t j)
      = Spec.elu (Spec.dense (fun k => A_main_v51 a0 a1 a2 a3 a4 a5 a6 a7 a8 a9 a10 a11 a12 a13 (ix4 b n t k))
          (par a4 a5 a6 a7 a8 a9 a10 a11 a12 a13 a14 a15 a16 a17 a18 a19 a20 a21 a22 a23 a24 a25 a26 a27 a28 a29).W3b (par a4 a5 a6 a7 a8 a9 a10 a11 a12 a13 a14 a15 a16 a17 a18 a19 a20 a21 a22 a23 a24 a25 a26 a27 a28 a29).b3b j) := by
    pointwise [A_main_v60, A_main_v59, A_main_v58, A_main_v56, A_main_v55, A_main_v54, A_main_v53, A_main_v52, K_main_v57, K_main_cst_4]
    rfl
  rw [h]
  unfold nodeOf Spec.node
  simp only [v51_at a0 a1 a2 a3 a4 a5 a6 a7 a8 a9 a10 a11 a12 a13 a14 a15 a16 a17 a18 a19 a20 a21 a22 a23 a24 a25 a26 a27 a28 a29, v42_at a0 a1 a2 a3 a4 a5 a6 a7 a8 a9 a10 a11 a12 a13 a14 a15 a16 a17 a18 a19 a20 a21 a22 a23 a24 a25 a26 a27 a28 a29]

/-- The edge network's first layer. -/
theorem v76_at (b : Fin 2) (e : Fin 1024) (t : Fin 32) (j : Fin 128) :
    A_main_v76 a0 a1 a2 a3 a4 a5 a6 a7 a8 a9 a10 a11 a12 a13 (ix4 b e t j)
      = Spec.mix (par a4 a5 a6 a7 a8 a9 a10 a11 a12 a13 a14 a15 a16 a17 a18 a19 a20 a21 a22 a23 a24 a25 a26 a27 a28 a29) (fun k => A_main_v60 a0 a1 a2 a3 a4 a5 a6 a7 a8 a9 a10 a11 a12 a13 (ix4 b ⟨e.val / 32, by omega⟩ t k))
          (fun k => A_main_v60 a0 a1 a2 a3 a4 a5 a6 a7 a8 a9 a10 a11 a12 a13 (ix4 b ⟨e.val % 32, by omega⟩ t k)) (fun k => a2 (ix4 b e t k)) j := by
  have h : A_main_v72 a0 a1 a2 a3 a4 a5 a6 a7 a8 a9 a10 a11 a12 a13 (ix4 b e t j)
      = ((((∑ k : Fin 128, A_main_v60 a0 a1 a2 a3 a4 a5 a6 a7 a8 a9 a10 a11 a12 a13 (ix4 b ⟨e.val / 32, by omega⟩ t k) * (par a4 a5 a6 a7 a8 a9 a10 a11 a12 a13 a14 a15 a16 a17 a18 a19 a20 a21 a22 a23 a24 a25 a26 a27 a28 a29).W4a ⟨k.val, by omega⟩ j)
        + (∑ k : Fin 128, A_main_v60 a0 a1 a2 a3 a4 a5 a6 a7 a8 a9 a10 a11 a12 a13 (ix4 b ⟨e.val % 32, by omega⟩ t k) * (par a4 a5 a6 a7 a8 a9 a10 a11 a12 a13 a14 a15 a16 a17 a18 a19 a20 a21 a22 a23 a24 a25 a26 a27 a28 a29).W4a ⟨128 + k.val, by omega⟩ j))
        + (∑ k : Fin 128, a2 (ix4 b e t k) * (par a4 a5 a6 a7 a8 a9 a10 a11 a12 a13 a14 a15 a16 a17 a18 a19 a20 a21 a22 a23 a24 a25 a26 a27 a28 a29).W4a ⟨256 + k.val, by omega⟩ j)) + (par a4 a5 a6 a7 a8 a9 a10 a11 a12 a13 a14 a15 a16 a17 a18 a19 a20 a21 a22 a23 a24 a25 a26 a27 a28 a29).b4a j) := by
    pointwise [A_main_v72, A_main_v71, A_main_v70, A_main_v69, A_main_v68, A_main_v67, A_main_v66, A_main_v65, A_main_v64, A_main_v63, A_main_v62, A_main_v61]
    rw [Spec.sum_three]
    refine congrArg₂ (· + ·) (congrArg₂ (· + ·) (congrArg₂ (· + ·) ?_ ?_) ?_) rfl
    · refine Finset.sum_congr rfl fun k _ => ?_
      simp only [k.isLt, dif_pos]; rfl
    · refine Finset.sum_congr rfl fun k _ => ?_
      have h1 : ¬ 128 + k.val < 128 := by omega
      have h2 : 128 + k.val - 128 < 128 := by omega
      have h3 : (⟨128 + k.val - 128, h2⟩ : Fin 128) = k := Fin.ext (by simp)
      simp only [h1, h2, h3, dif_pos, dif_neg, not_false_eq_true]; rfl
    · refine Finset.sum_congr rfl fun k _ => ?_
      have h1 : ¬ 256 + k.val < 128 := by omega
      have h2 : ¬ 256 + k.val - 128 < 128 := by omega
      have h3 : (⟨256 + k.val - 128 - 128, by omega⟩ : Fin 128) = k := Fin.ext (by show 256 + k.val - 128 - 128 = k.val; omega)
      simp only [h1, h2, h3, dif_neg, not_false_eq_true]; rfl
  have h' : A_main_v76 a0 a1 a2 a3 a4 a5 a6 a7 a8 a9 a10 a11 a12 a13 (ix4 b e t j) = Spec.elu (A_main_v72 a0 a1 a2 a3 a4 a5 a6 a7 a8 a9 a10 a11 a12 a13 (ix4 b e t j)) := by
    pointwise [A_main_v76, A_main_v75, A_main_v74, K_main_v73, K_main_cst_5]
    rfl
  rw [h', h]; rfl

/-- The edge embeddings. -/
theorem v85_at (b : Fin 2) (e : Fin 1024) (t : Fin 32) (j : Fin 128) :
    A_main_v85 a0 a1 a2 a3 a4 a5 a6 a7 a8 a9 a10 a11 a12 a13 (ix4 b e t j)
      = edgeOf a0 a1 a2 a3 a4 a5 a6 a7 a8 a9 a10 a11 a12 a13 a14 a15 a16 a17 a18 a19 a20 a21 a22 a23 a24 a25 a26 a27 a28 a29 (fun b t n => Spec.incoming (xrow a0 b t) n) b e t j := by
  have h : A_main_v85 a0 a1 a2 a3 a4 a5 a6 a7 a8 a9 a10 a11 a12 a13 (ix4 b e t j)
      = Spec.elu (Spec.dense (fun k => A_main_v76 a0 a1 a2 a3 a4 a5 a6 a7 a8 a9 a10 a11 a12 a13 (ix4 b e t k))
          (par a4 a5 a6 a7 a8 a9 a10 a11 a12 a13 a14 a15 a16 a17 a18 a19 a20 a21 a22 a23 a24 a25 a26 a27 a28 a29).W4b (par a4 a5 a6 a7 a8 a9 a10 a11 a12 a13 a14 a15 a16 a17 a18 a19 a20 a21 a22 a23 a24 a25 a26 a27 a28 a29).b4b j) := by
    pointwise [A_main_v85, A_main_v84, A_main_v83, A_main_v81, A_main_v80, A_main_v79, A_main_v78, A_main_v77, K_main_v82, K_main_cst_6]
    rfl
  rw [h]
  unfold edgeOf Spec.edge
  simp only [v76_at a0 a1 a2 a3 a4 a5 a6 a7 a8 a9 a10 a11 a12 a13 a14 a15 a16 a17 a18 a19 a20 a21 a22 a23 a24 a25 a26 a27 a28 a29, v60_at a0 a1 a2 a3 a4 a5 a6 a7 a8 a9 a10 a11 a12 a13 a14 a15 a16 a17 a18 a19 a20 a21 a22 a23 a24 a25 a26 a27 a28 a29]

/-- The forward recurrence's inputs: the edge embeddings, step first. -/
theorem v88_at (r : Fin 2048) (t : Fin 32) (j : Fin 128) :
    A_main_v88 a0 a1 a2 a3 a4 a5 a6 a7 a8 a9 a10 a11 a12 a13 (ix3 t r j)
      = edgeOf a0 a1 a2 a3 a4 a5 a6 a7 a8 a9 a10 a11 a12 a13 a14 a15 a16 a17 a18 a19 a20 a21 a22 a23 a24 a25 a26 a27 a28 a29 (fun b t n => Spec.incoming (xrow a0 b t) n) ⟨r.val / 1024, by omega⟩ ⟨r.val % 1024, by omega⟩ t j := by
  rw [← v85_at]
  pointwise [A_main_v88, A_main_v86]

/-- The reverse recurrence's inputs: the same from the last step to the first. -/
theorem v89_at (r : Fin 2048) (t : Fin 32) (j : Fin 128) :
    A_main_v89 a0 a1 a2 a3 a4 a5 a6 a7 a8 a9 a10 a11 a12 a13 (ix3 t r j)
      = edgeOf a0 a1 a2 a3 a4 a5 a6 a7 a8 a9 a10 a11 a12 a13 a14 a15 a16 a17 a18 a19 a20 a21 a22 a23 a24 a25 a26 a27 a28 a29 (fun b t n => Spec.incoming (xrow a0 b t) n) ⟨r.val / 1024, by omega⟩ ⟨r.val % 1024, by omega⟩ t.rev j := by
  rw [← v85_at]
  pointwise [A_main_v89, A_main_v88, A_main_v86]
  rfl

end Cert.Ref

end
-- ==== Proof.Ref.Value.lean ====
/- The reference's run: its three results are the recurrences' and the heads' values on the edges' embeddings. -/
module

public import proofs.«01_k».proof.Proof.Ref.Frame
public import proofs.«01_k».proof.Proof.Ref.Loop
public import proofs.«01_k».proof.Proof.Ref.Edge

@[expose] public section

set_option maxRecDepth 16384

noncomputable section

namespace Cert.Ref

open Cert.ReferenceIdeal Cert.ReferenceIdeal.Gen Cert.ReferenceIdeal.Step Cert.ReferenceIdeal.StepRunK
open Idealize.ShloMosaic Idealize.ShloMosaic.TcCoe Idealize.SL.Sem

variable (m : (ℓ : Loc nD τ sig) → Buf (Elt Ideal) ℓ) (c : Dev nD)

/-- The weights the launch gives. -/
abbrev parM : Spec.Par := par (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29))

/-- The edges' embeddings from the launch's arguments. -/
abbrev edgeM (b : Fin 2) (e : Fin 1024) (t : Fin 32) (j : Fin 128) : EReal :=
  edgeOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (fun b t n => Spec.incoming (xrow (m ((c.tc : Thread nD τ).loc main_arg0)) b t) n) b e t j

/-- The same by the row that the loop gives the pair of batch and edge. -/
abbrev evM (r : Fin 2048) (t : Fin 32) (j : Fin 128) : EReal :=
  edgeM m c ⟨r.val / 1024, by omega⟩ ⟨r.val % 1024, by omega⟩ t j

/-- The initial state's fields. -/
theorem init_xf : (states m c 0).main_v92_0 = A_main_v88 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  dsimp only [states, initState, init]

theorem init_xr : (states m c 0).main_v92_1 = A_main_v89 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  dsimp only [states, initState, init]

theorem init_2 : (states m c 0).main_v92_2 = m ((c.tc : Thread nD τ).loc main_arg14) := by
  dsimp only [states, initState, init]

theorem init_3 : (states m c 0).main_v92_3 = m ((c.tc : Thread nD τ).loc main_arg16) := by
  dsimp only [states, initState, init]

theorem init_4 : (states m c 0).main_v92_4 = m ((c.tc : Thread nD τ).loc main_arg15) := by
  dsimp only [states, initState, init]

theorem init_5 : (states m c 0).main_v92_5 = m ((c.tc : Thread nD τ).loc main_arg17) := by
  dsimp only [states, initState, init]

theorem init_6 : (states m c 0).main_v92_6 = m ((c.tc : Thread nD τ).loc main_arg18) := by
  dsimp only [states, initState, init]

theorem init_7 : (states m c 0).main_v92_7 = m ((c.tc : Thread nD τ).loc main_arg20) := by
  dsimp only [states, initState, init]

theorem init_8 : (states m c 0).main_v92_8 = m ((c.tc : Thread nD τ).loc main_arg19) := by
  dsimp only [states, initState, init]

theorem init_9 : (states m c 0).main_v92_9 = m ((c.tc : Thread nD τ).loc main_arg21) := by
  dsimp only [states, initState, init]

theorem init_hf (r : Fin 2048) (j : Fin 128) : (states m c 0).main_v92_11 (ix2 r j) = 0 := by
  dsimp only [states, initState, init]
  pointwise [K_main_v87, K_main_cst_7]

theorem init_hr (r : Fin 2048) (j : Fin 128) : (states m c 0).main_v92_12 (ix2 r j) = 0 := by
  dsimp only [states, initState, init]
  pointwise [K_main_v87, K_main_cst_7]

/-- Before the first trip: the inputs are the edges' embeddings, forwards and backwards, and both states are zero. -/
theorem inv_zero : Inv (parM m c) (evM m c) 0 (states m c 0) where
  xf t r j := by rw [init_xf]; exact v88_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) r t j
  xr t r j := by rw [init_xr]; exact v89_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) r t j
  wif k q := by rw [init_2]; rfl
  cif q := by rw [init_3]; rfl
  whf k q := by rw [init_4]; rfl
  chf q := by rw [init_5]; rfl
  wir k q := by rw [init_6]; rfl
  cir q := by rw [init_7]; rfl
  whr k q := by rw [init_8]; rfl
  chr q := by rw [init_9]; rfl
  hf r j := by rw [init_hf]; rfl
  hr r j := by rw [init_hr]; rfl
  yf t r j h := absurd h (by omega)
  yr t r j h := absurd h (by omega)

/-- After the last trip. -/
theorem inv_last : Inv (parM m c) (evM m c) 32 (states m c 32) :=
  Inv.iter (states m c) (inv_zero m c) (fun n => rfl) 32 le_rfl

/-- Splitting a row's number gives back the batch and the edge. -/
theorem evM_row (b : Fin 2) (e : Fin 1024) : evM m c ⟨b.val * 1024 + e.val, by omega⟩ = edgeM m c b e := by
  have hb : (⟨(b.val * 1024 + e.val) / 1024, by omega⟩ : Fin 2) = b := Fin.ext (by show (b.val * 1024 + e.val) / 1024 = b.val; omega)
  have he : (⟨(b.val * 1024 + e.val) % 1024, by omega⟩ : Fin 1024) = e := Fin.ext (by show (b.val * 1024 + e.val) % 1024 = e.val; omega)
  funext t j
  show edgeM m c ⟨(b.val * 1024 + e.val) / 1024, by omega⟩ ⟨(b.val * 1024 + e.val) % 1024, by omega⟩ t j = edgeM m c b e t j
  rw [hb, he]

/-- The prior head's result. -/
theorem res111 : R_main_v111 (states m c 32) (m ((c.tc : Thread nD τ).loc main_arg22)) (m ((c.tc : Thread nD τ).loc main_arg23)) (m ((c.tc : Thread nD τ).loc main_arg24)) (m ((c.tc : Thread nD τ).loc main_arg25))
    = fun y => Spec.prior (parM m c) (Spec.fwd (parM m c) (edgeM m c (y 0) (y 2)) ((y 1).val + 1)) (y 3) := by
  funext y
  have hy : y = ix4 (y 0) (y 1) (y 2) (y 3) := funext fun a => by fin_cases a <;> rfl
  refine (congrArg _ hy).trans ((R111_at (inv_last m c) (m ((c.tc : Thread nD τ).loc main_arg22)) (m ((c.tc : Thread nD τ).loc main_arg23)) (m ((c.tc : Thread nD τ).loc main_arg24)) (m ((c.tc : Thread nD τ).loc main_arg25)) (fun k j => rfl) (fun j => rfl) (fun k j => rfl) (fun j => rfl) (y 0) (y 1) (y 2) (y 3)).trans ?_)
  exact congrArg (fun e => Spec.prior (parM m c) (Spec.fwd (parM m c) e ((y 1).val + 1)) (y 3)) (evM_row m c (y 0) (y 2))

/-- The encoder head's result. -/
theorem res128 : R_main_v128 (states m c 32) (m ((c.tc : Thread nD τ).loc main_arg26)) (m ((c.tc : Thread nD τ).loc main_arg27)) (m ((c.tc : Thread nD τ).loc main_arg28)) (m ((c.tc : Thread nD τ).loc main_arg29))
    = fun y => Spec.enc (parM m c) (Spec.fwd (parM m c) (edgeM m c (y 0) (y 2)) ((y 1).val + 1))
        (Spec.rev (parM m c) (edgeM m c (y 0) (y 2)) (32 - (y 1).val)) (y 3) := by
  funext y
  have hy : y = ix4 (y 0) (y 1) (y 2) (y 3) := funext fun a => by fin_cases a <;> rfl
  refine (congrArg _ hy).trans ((R128_at (inv_last m c) (m ((c.tc : Thread nD τ).loc main_arg26)) (m ((c.tc : Thread nD τ).loc main_arg27)) (m ((c.tc : Thread nD τ).loc main_arg28)) (m ((c.tc : Thread nD τ).loc main_arg29)) (fun k j => rfl) (fun j => rfl) (fun k j => rfl) (fun j => rfl) (y 0) (y 1) (y 2) (y 3)).trans ?_)
  exact congrArg (fun e => Spec.enc (parM m c) (Spec.fwd (parM m c) e ((y 1).val + 1)) (Spec.rev (parM m c) e (32 - (y 1).val)) (y 3)) (evM_row m c (y 0) (y 2))

/-- The last forward states. -/
theorem res129 : R_main_v129 (states m c 32) = fun y => Spec.fwd (parM m c) (edgeM m c (y 0) (y 1)) 32 (y 2) := by
  funext y
  have hy : y = ix3 (y 0) (y 1) (y 2) := funext fun a => by fin_cases a <;> rfl
  refine (congrArg _ hy).trans ((R129_at (inv_last m c) (y 0) (y 1) (y 2)).trans ?_)
  exact congrArg (fun e => Spec.fwd (parM m c) e 32 (y 2)) (evM_row m c (y 0) (y 1))

end Cert.Ref

end
-- ==== Proof.Claim.Meet.lean ====
/- The two programs' results meet: from equal arguments the weights and the edges' embeddings are the same. -/
module

public import proofs.«01_k».proof.Proof.Run.Post
public import proofs.«01_k».proof.Proof.Ref.Value

@[expose] public section

set_option maxRecDepth 16384
set_option maxHeartbeats 4000000

noncomputable section

namespace Cert.Meet

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two launches' arguments are equal on core `c`. -/
def Same (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
  ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
  ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
  ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
  ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
  ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
  ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
  ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)

variable {m m'} {c : Dev Cert.KernelIdeal.nD}

/-- Equal arguments give equal weights. -/
theorem par_eq (h : Same m m' c) : Cert.Ref.parM m' c = Cert.KernelIdeal.Out.parM m c := by
  obtain ⟨h0, h1, h2, h3, h4, h5, h6, h7, h8, h9, h10, h11, h12, h13, h14, h15, h16, h17, h18, h19, h20, h21, h22, h23, h24, h25, h26, h27, h28, h29⟩ := h
  unfold Cert.Ref.parM Cert.KernelIdeal.Out.parM
  rw [h4, h5, h6, h7, h8, h9, h10, h11, h12, h13, h14, h15, h16, h17, h18, h19, h20, h21, h22, h23, h24, h25, h26, h27, h28, h29]

/-- Equal arguments give equal embeddings of the edges. -/
theorem edge_eq (h : Same m m' c) : Cert.Ref.edgeM m' c = Cert.KernelIdeal.Out.edgeM m c := by
  obtain ⟨h0, h1, h2, h3, h4, h5, h6, h7, h8, h9, h10, h11, h12, h13, h14, h15, h16, h17, h18, h19, h20, h21, h22, h23, h24, h25, h26, h27, h28, h29⟩ := h
  unfold Cert.Ref.edgeM Cert.KernelIdeal.Out.edgeM
  rw [h0, h1, h2, h3, h4, h5, h6, h7, h8, h9, h10, h11, h12, h13, h14, h15, h16, h17, h18, h19, h20, h21, h22, h23, h24, h25, h26, h27, h28, h29]

/-- The prior head's results are equal. -/
theorem res0_eq (h : Same m m' c) :
    (fun y => Spec.prior (Cert.Ref.parM m' c) (Spec.fwd (Cert.Ref.parM m' c) (Cert.Ref.edgeM m' c (y 0) (y 2)) ((y 1).val + 1)) (y 3))
      = Cert.KernelIdeal.Out.res0 m c := by
  rw [par_eq h, edge_eq h]
  rfl

/-- The encoder head's results are equal. -/
theorem res1_eq (h : Same m m' c) :
    (fun y => Spec.enc (Cert.Ref.parM m' c) (Spec.fwd (Cert.Ref.parM m' c) (Cert.Ref.edgeM m' c (y 0) (y 2)) ((y 1).val + 1))
        (Spec.rev (Cert.Ref.parM m' c) (Cert.Ref.edgeM m' c (y 0) (y 2)) (32 - (y 1).val)) (y 3))
      = Cert.KernelIdeal.Out.res1 m c := by
  rw [par_eq h, edge_eq h]
  rfl

/-- The last forward states are equal. -/
theorem res2_eq (h : Same m m' c) :
    (fun y => Spec.fwd (Cert.Ref.parM m' c) (Cert.Ref.edgeM m' c (y 0) (y 1)) 32 (y 2)) = Cert.KernelIdeal.Out.res2 m c := by
  rw [par_eq h, edge_eq h]
  rfl

/-- Every run of the reference ends with its three results at the kernel's and every argument unchanged. -/
theorem ref_run (h : ∀ c, Same m m' c) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ fun r =>
      ∀ c : Dev Cert.ReferenceIdeal.nD,
        r.2.mem ((c.tc : Thread Cert.ReferenceIdeal.nD Cert.ReferenceIdeal.τ).loc Cert.ReferenceIdeal.main_v111) = Cert.KernelIdeal.Out.res0 m c
        ∧ r.2.mem ((c.tc : Thread Cert.ReferenceIdeal.nD Cert.ReferenceIdeal.τ).loc Cert.ReferenceIdeal.main_v128) = Cert.KernelIdeal.Out.res1 m c
        ∧ r.2.mem ((c.tc : Thread Cert.ReferenceIdeal.nD Cert.ReferenceIdeal.τ).loc Cert.ReferenceIdeal.main_v129) = Cert.KernelIdeal.Out.res2 m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
        ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
        ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
        ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
        ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
        ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
        ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
        ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
        ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
        ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
        ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
        ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
        ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
        ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
        ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
        ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
        ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
        ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
        ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29) :=
  (θ_run Cert.ReferenceIdeal.defs _ _).mono (fun r hr c =>
    ⟨(hr c).1.trans ((Cert.Ref.res111 m' c).trans (res0_eq (h c))), (hr c).2.1.trans ((Cert.Ref.res128 m' c).trans (res1_eq (h c))),
      (hr c).2.2.1.trans ((Cert.Ref.res129 m' c).trans (res2_eq (h c))), (hr c).2.2.2⟩)
    (Cert.ReferenceIdeal.StepRunK.run_iter m' g' (Cert.ReferenceIdeal.StepRunK.states m') (fun c => rfl) (fun c n => rfl))

end Cert.Meet

end
-- ==== Proof.lean ====
module

public import proofs.«01_k».proof.Defs
public import proofs.«01_k».proof.Proof.Bits.Frame
public import proofs.«01_k».proof.Proof.Run.Frame
public import proofs.«01_k».proof.Proof.Ref.Frame
public import proofs.«01_k».proof.Proof.Math.Finite
public import proofs.«01_k».proof.Proof.Claim.Meet
public import Idealize.ShloMosaic.Adequacy
public import Idealize.ShloMosaic.Init

@[expose] public section

noncomputable section

namespace Cert.Proof

open Idealize.ShloMosaic Idealize.SL.Sem

/-- From equal arguments with finite states, every run of the kernel and every run of the reference end with the same three
    results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hargs
  refine ⟨fun c => Cert.KernelIdeal.Out.res0 m c, fun c => Cert.KernelIdeal.Out.res1 m c, fun c => Cert.KernelIdeal.Out.res2 m c, ?_, ?_⟩
  · exact Cert.KernelIdeal.Out.run m g fun c y =>
      @Cert.Pre_finite.real_of_finite Cert.Pre_finite.facts _ (fun a => a.elim0) (congrFun (hpre c) _) y
  · exact Cert.Meet.ref_run hargs g'

/-- Everything the certificate claims. -/
theorem claim : Cert.Claim :=
  ⟨Cert.Kernel.Gen.facts, Cert.KernelIdeal.Gen.facts, Cert.ReferenceIdeal.Gen.facts, Cert.Pre_finite.facts,
    fun m g _ => Cert.Kernel.Run.frame m g,
    fun m g _ => Cert.KernelIdeal.Run.frame m g,
    fun m g _ => Cert.KernelIdeal.Run.frame m g,
    fun m g _ => Cert.ReferenceIdeal.StepRunK.frame m g,
    fun m g _ => Cert.ReferenceIdeal.StepRunK.frame m g,
    IdealRules.named_const.statement Cert.KernelIdeal.κ "inv31" .f32 0x3D042108#32 ((1 / 31 : ℝ) : EReal) rfl,
    algebraic⟩

end Cert.Proof

end
